-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "big" .f32 0x7149F2CA#32 ⊤

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S4x8192x512 : Shape := ⟨3, ![4, 8192, 512]⟩
abbrev S4x8x32x8192 : Shape := ⟨4, ![4, 8, 32, 8192]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel

variable [Facts]

def fn {F : FTy → Type} [FloatOps F] (main_arg0 : FVec F S4x8192x512 .f32) (main_arg1 : FVec F S4x8192x512 .f32) (main_arg2 : FVec F S4x8192x512 .f32) (main_arg3 : FVec F S4x8192x512 .f32) (main_arg4 : FVec F S4x8x32x8192 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x8192x512 .f32 := Host.absf main_arg1
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  main_v8
-- ==== Kernel.lean ====
abbrev S4x8192x512 : Shape := ⟨3, ![4, 8192, 512]⟩
abbrev S4x8x32x8192 : Shape := ⟨4, ![4, 8, 32, 8192]⟩
abbrev S_ : Shape := ⟨0, ![]⟩
abbrev S4x8192x2048 : Shape := ⟨3, ![4, 8192, 2048]⟩
abbrev S4x8192x3328 : Shape := ⟨3, ![4, 8192, 3328]⟩
abbrev S4x8192x7424 : Shape := ⟨3, ![4, 8192, 7424]⟩
abbrev S1x2048x128 : Shape := ⟨3, ![1, 2048, 128]⟩
abbrev S1x2x32x2048 : Shape := ⟨4, ![1, 2, 32, 2048]⟩
abbrev S1x8192x128 : Shape := ⟨3, ![1, 8192, 128]⟩
abbrev S2x512x512 : Shape := ⟨3, ![2, 512, 512]⟩
abbrev S16x256 : Shape := ⟨2, ![16, 256]⟩
abbrev S1x512x128 : Shape := ⟨3, ![1, 512, 128]⟩
abbrev S512x128 : Shape := ⟨2, ![512, 128]⟩
abbrev S256x128 : Shape := ⟨2, ![256, 128]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S64x512 : Shape := ⟨2, ![64, 512]⟩
abbrev S1x1x1x512 : Shape := ⟨4, ![1, 1, 1, 512]⟩
abbrev S128x512 : Shape := ⟨2, ![128, 512]⟩
abbrev S64x256 : Shape := ⟨2, ![64, 256]⟩
abbrev S80x256 : Shape := ⟨2, ![80, 256]⟩
abbrev S80x512 : Shape := ⟨2, ![80, 512]⟩
abbrev S512x512 : Shape := ⟨2, ![512, 512]⟩

abbrev nBuf : Space → Nat
  | .hbm => 18
  | .vmem => 14
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8x32x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x2048, .f32⟩
  | .hbm, ⟨11, _⟩ => ⟨S4x8192x512, .f32⟩
  | .hbm, ⟨12, _⟩ => ⟨S4x8192x512, .f32⟩
  | .hbm, ⟨13, _⟩ => ⟨S_, .f32⟩
  | .hbm, ⟨14, _⟩ => ⟨S4x8192x3328, .f32⟩
  | .hbm, ⟨15, _⟩ => ⟨S4x8192x7424, .f32⟩
  | .hbm, ⟨16, _⟩ => ⟨S4x8192x7424, .bf16⟩
  | .hbm, ⟨17, _⟩ => ⟨S4x8192x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2x32x2048, .f32⟩
  | .local _ .vmem, ⟨5, _⟩ => ⟨S1x2x32x2048, .f32⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S2x512x512, .f32⟩
  | .local _ .vmem, ⟨13, _⟩ => ⟨S2x512x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_mult1 : BitVec 32 :=
  let c0_i32_22 : BitVec 32 := 0#32
  c0_i32_22
def k0_mult2 : BitVec 32 :=
  let c0_i32_30 : BitVec 32 := 0#32
  c0_i32_30
def k0_mult3 : BitVec 32 :=
  let c0_i32_37 : BitVec 32 := 0#32
  c0_i32_37
def k0_mult4 : BitVec 32 :=
  let c0_i32_44 : BitVec 32 := 0#32
  c0_i32_44
@[reducible] def k0_t1_loop (i : grid0.Coords) : Scf.Loop 32 :=
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_66 : BitVec 32 := 1#32
  ⟨c0_i32_64, v126, c1_i32_66⟩
def k0_off1 (i : grid0.Coords) (k0_t1 : Fin (k0_t1_loop i).trips) (c0_i32_201 : BitVec 32) (c0_i32_203 : BitVec 32) : Fin 4 → Nat :=
  let c0_204 : Index := 0#32
  let c0_205 : Index := 0#32
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c0_206 : Index := 0#32
  ![0, 0, v402.toNat, 0]
def k0_off2 (i : grid0.Coords) (k0_t1 : Fin (k0_t1_loop i).trips) (c0_i32_201 : BitVec 32) (c0_i32_213 : BitVec 32) : Fin 4 → Nat :=
  let c0_214 : Index := 0#32
  let c1_215 : Index := 1#32
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c0_216 : Index := 0#32
  ![0, 1, v412.toNat, 0]
def k0_mult5 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off3 (i : grid0.Coords) (k0_t1 : Fin (k0_t1_loop i).trips) (c0_i32_201 : BitVec 32) : Fin 3 → Nat :=
  let c0_223 : Index := 0#32
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult6 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off4 (i : grid0.Coords) (k0_t1 : Fin (k0_t1_loop i).trips) (c0_i32_201 : BitVec 32) : Fin 3 → Nat :=
  let c0_240 : Index := 0#32
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult7 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult8 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult9 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult10 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult11 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult12 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult13 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult14 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult15 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult16 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult17 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult18 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult19 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult20 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult21 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult22 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult23 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult24 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult25 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult26 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult27 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult28 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult29 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult30 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult31 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult32 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult33 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult34 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult35 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult36 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult37 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult38 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult39 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult40 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult41 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult42 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult43 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult44 (i : grid0.Coords) (k0_t1 : Fin (k0_t1_loop i).trips) : BitVec 32 :=
  let c8_i32_200 : BitVec 32 := 8#32
  let c0_i32_64 : BitVec 32 := 0#32
  let c1_i32_66 : BitVec 32 := 1#32
  let arg11 : BitVec 32 := Scf.iv c0_i32_64 c1_i32_66 k0_t1
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
@[reducible] def k0_t2_loop (i : grid0.Coords) : Scf.Loop 32 :=
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let v123 : BitVec 32 := Scalar.addi c0_i32_64 v122
  let c1_i32_67 : BitVec 32 := 1#32
  ⟨v126, v123, c1_i32_67⟩
def k0_off5 (i : grid0.Coords) (k0_t2 : Fin (k0_t2_loop i).trips) (c0_i32_201 : BitVec 32) (c0_i32_203 : BitVec 32) : Fin 4 → Nat :=
  let c0_204 : Index := 0#32
  let c0_205 : Index := 0#32
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c0_206 : Index := 0#32
  ![0, 0, v402.toNat, 0]
def k0_off6 (i : grid0.Coords) (k0_t2 : Fin (k0_t2_loop i).trips) (c0_i32_201 : BitVec 32) (c0_i32_213 : BitVec 32) : Fin 4 → Nat :=
  let c0_214 : Index := 0#32
  let c1_215 : Index := 1#32
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c0_216 : Index := 0#32
  ![0, 1, v412.toNat, 0]
def k0_mult45 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off7 (i : grid0.Coords) (k0_t2 : Fin (k0_t2_loop i).trips) (c0_i32_201 : BitVec 32) : Fin 3 → Nat :=
  let c0_223 : Index := 0#32
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult46 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off8 (i : grid0.Coords) (k0_t2 : Fin (k0_t2_loop i).trips) (c0_i32_201 : BitVec 32) : Fin 3 → Nat :=
  let c0_240 : Index := 0#32
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult47 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult48 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult49 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult50 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult51 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult52 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult53 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult54 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult55 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult56 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult57 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult58 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult59 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult60 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult61 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult62 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult63 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult64 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult65 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult66 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult67 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult68 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult69 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult70 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult71 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult72 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult73 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult74 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult75 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult76 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult77 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult78 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult79 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult80 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult81 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult82 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult83 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult84 (i : grid0.Coords) (k0_t2 : Fin (k0_t2_loop i).trips) : BitVec 32 :=
  let c8_i32_200 : BitVec 32 := 8#32
  let c0_i32_64 : BitVec 32 := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c0_i32_59 : BitVec 32 := 0#32
  let v106 : BitVec 1 := Scalar.cmpi .sgt v98 c0_i32_59
  let v107 : BitVec 32 := Scalar.extui v106
  let c0_i32_60 : BitVec 32 := 0#32
  let v108 : BitVec 1 := Scalar.cmpi .slt v98 c0_i32_60
  let v109 : BitVec 32 := Scalar.extui v108
  let v110 : BitVec 32 := Scalar.subi v107 v109
  let c8_i32 : BitVec 32 := 8#32
  let c0_i32_61 : BitVec 32 := 0#32
  let v111 : BitVec 1 := Scalar.cmpi .sgt c8_i32 c0_i32_61
  let v112 : BitVec 32 := Scalar.extui v111
  let c0_i32_62 : BitVec 32 := 0#32
  let v113 : BitVec 1 := Scalar.cmpi .slt c8_i32 c0_i32_62
  let v114 : BitVec 32 := Scalar.extui v113
  let v115 : BitVec 32 := Scalar.subi v112 v114
  let v116 : BitVec 1 := Scalar.cmpi .ne v110 v115
  let v117 : BitVec 32 := Scalar.remsi v98 c8_i32
  let c0_i32_63 : BitVec 32 := 0#32
  let v118 : BitVec 1 := Scalar.cmpi .ne v117 c0_i32_63
  let v119 : BitVec 1 := Scalar.andi v116 v118
  let v105 : BitVec 32 := Scalar.divsi v98 c8_i32
  let c1_i32 : BitVec 32 := 1#32
  let v120 : BitVec 32 := Scalar.subi v105 c1_i32
  let v121 : BitVec 32 := Scalar.select v119 v120 v105
  let v122 : BitVec 32 := Scalar.subi v121 c0_i32_64
  let c1_i32_65 : BitVec 32 := 1#32
  let v124 : BitVec 32 := Scalar.divsi v122 c1_i32_65
  let v125 : BitVec 32 := Scalar.muli v124 c1_i32_65
  let v126 : BitVec 32 := Scalar.addi c0_i32_64 v125
  let c1_i32_67 : BitVec 32 := 1#32
  let arg11 : BitVec 32 := Scf.iv v126 c1_i32_67 k0_t2
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
def k0_cond1 (i : grid0.Coords) : BitVec 1 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c8_i32_68 : BitVec 32 := 8#32
  let v129 : BitVec 32 := Scalar.remsi v98 c8_i32_68
  let c0_i32_70 : BitVec 32 := 0#32
  let v131 : BitVec 1 := Scalar.cmpi .sgt v129 c0_i32_70
  let v132 : BitVec 32 := Scalar.extui v131
  let c0_i32_71 : BitVec 32 := 0#32
  let v133 : BitVec 1 := Scalar.cmpi .slt v129 c0_i32_71
  let v134 : BitVec 32 := Scalar.extui v133
  let v135 : BitVec 32 := Scalar.subi v132 v134
  let c4_i32_69 : BitVec 32 := 4#32
  let c0_i32_72 : BitVec 32 := 0#32
  let v136 : BitVec 1 := Scalar.cmpi .sgt c4_i32_69 c0_i32_72
  let v137 : BitVec 32 := Scalar.extui v136
  let c0_i32_73 : BitVec 32 := 0#32
  let v138 : BitVec 1 := Scalar.cmpi .slt c4_i32_69 c0_i32_73
  let v139 : BitVec 32 := Scalar.extui v138
  let v140 : BitVec 32 := Scalar.subi v137 v139
  let v141 : BitVec 1 := Scalar.cmpi .ne v135 v140
  let v142 : BitVec 32 := Scalar.remsi v129 c4_i32_69
  let c0_i32_74 : BitVec 32 := 0#32
  let v143 : BitVec 1 := Scalar.cmpi .ne v142 c0_i32_74
  let v144 : BitVec 1 := Scalar.andi v141 v143
  let v130 : BitVec 32 := Scalar.divsi v129 c4_i32_69
  let c1_i32_75 : BitVec 32 := 1#32
  let v145 : BitVec 32 := Scalar.subi v130 c1_i32_75
  let v146 : BitVec 32 := Scalar.select v144 v145 v130
  let c0_i32_76 : BitVec 32 := 0#32
  let v147 : BitVec 32 := Scalar.maxsi v146 c0_i32_76
  let c1_i32_77 : BitVec 32 := 1#32
  let v148 : BitVec 32 := Scalar.minsi v147 c1_i32_77
  let c0_i32_78 : BitVec 32 := 0#32
  let v149 : BitVec 1 := Scalar.cmpi .ne v148 c0_i32_78
  v149

def k0_off9 (i : grid0.Coords) (c0_i32_201 : BitVec 32) (c0_i32_203 : BitVec 32) : Fin 4 → Nat :=
  let c0_204 : Index := 0#32
  let c0_205 : Index := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c0_206 : Index := 0#32
  ![0, 0, v402.toNat, 0]
def k0_off10 (i : grid0.Coords) (c0_i32_201 : BitVec 32) (c0_i32_213 : BitVec 32) : Fin 4 → Nat :=
  let c0_214 : Index := 0#32
  let c1_215 : Index := 1#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c0_216 : Index := 0#32
  ![0, 1, v412.toNat, 0]
def k0_mult85 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c0_i32_201 : BitVec 32 := 0#32
  let v399 : BitVec 32 := Scalar.addi v398 c0_i32_201
  let c512_i32 : BitVec 32 := 512#32
  let v421 : BitVec 32 := Scalar.muli v399 c512_i32
  v421
def k0_off11 (i : grid0.Coords) (c0_i32_201 : BitVec 32) : Fin 3 → Nat :=
  let c0_223 : Index := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult86 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off12 (i : grid0.Coords) (c0_i32_201 : BitVec 32) : Fin 3 → Nat :=
  let c0_240 : Index := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult87 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult88 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult89 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult90 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c1_i32_289 : BitVec 32 := 1#32
  let v567 : BitVec 32 := Scalar.addi v398 c1_i32_289
  let c512_i32_311 : BitVec 32 := 512#32
  let v589 : BitVec 32 := Scalar.muli v567 c512_i32_311
  v589
def k0_mult91 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult92 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult93 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult94 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult95 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c2_i32_378 : BitVec 32 := 2#32
  let v735 : BitVec 32 := Scalar.addi v398 c2_i32_378
  let c512_i32_400 : BitVec 32 := 512#32
  let v757 : BitVec 32 := Scalar.muli v735 c512_i32_400
  v757
def k0_mult96 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult97 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult98 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult99 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult100 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c3_i32_467 : BitVec 32 := 3#32
  let v903 : BitVec 32 := Scalar.addi v398 c3_i32_467
  let c512_i32_489 : BitVec 32 := 512#32
  let v925 : BitVec 32 := Scalar.muli v903 c512_i32_489
  v925
def k0_mult101 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult102 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c3_i32_467 : BitVec 32 := 3#32
  let v903 : BitVec 32 := Scalar.addi v398 c3_i32_467
  let c1_i32_488 : BitVec 32 := 1#32
  let v924 : BitVec 32 := Scalar.addi v903 c1_i32_488
  let c512_i32_513 : BitVec 32 := 512#32
  let v974 : BitVec 32 := Scalar.muli v924 c512_i32_513
  v974
def k0_mult103 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c3_i32_467 : BitVec 32 := 3#32
  let v903 : BitVec 32 := Scalar.addi v398 c3_i32_467
  let c1_i32_488 : BitVec 32 := 1#32
  let v924 : BitVec 32 := Scalar.addi v903 c1_i32_488
  let c512_i32_526 : BitVec 32 := 512#32
  let v998 : BitVec 32 := Scalar.muli v924 c512_i32_526
  v998
def k0_mult104 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c4_i32_200 : BitVec 32 := 4#32
  let v398 : BitVec 32 := Scalar.subi v98 c4_i32_200
  let c3_i32_467 : BitVec 32 := 3#32
  let v903 : BitVec 32 := Scalar.addi v398 c3_i32_467
  let c1_i32_488 : BitVec 32 := 1#32
  let v924 : BitVec 32 := Scalar.addi v903 c1_i32_488
  let c512_i32_539 : BitVec 32 := 512#32
  let v1021 : BitVec 32 := Scalar.muli v924 c512_i32_539
  v1021
def k0_off13 (i : grid0.Coords) : Fin 4 → Nat :=
  let c0_554 : Index := 0#32
  let c0_555 : Index := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c2_i32_553 : BitVec 32 := 2#32
  let v1069 : BitVec 32 := Scalar.muli v98 c2_i32_553
  let v1070 : Index := Scalar.indexCast v1069
  let c0_556 : Index := 0#32
  ![0, 0, v1070.toNat, 0]
def k0_off14 (i : grid0.Coords) : Fin 4 → Nat :=
  let c0_559 : Index := 0#32
  let c1_560 : Index := 1#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c2_i32_558 : BitVec 32 := 2#32
  let v1075 : BitVec 32 := Scalar.muli v98 c2_i32_558
  let v1076 : Index := Scalar.indexCast v1075
  let c0_561 : Index := 0#32
  ![0, 1, v1076.toNat, 0]
def k0_mult105 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c512_i32_563 : BitVec 32 := 512#32
  let v1082 : BitVec 32 := Scalar.muli v98 c512_i32_563
  v1082
def k0_off15 (i : grid0.Coords) : Fin 3 → Nat :=
  let c0_564 : Index := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c512_i32_563 : BitVec 32 := 512#32
  let v1082 : BitVec 32 := Scalar.muli v98 c512_i32_563
  let v1083 : BitVec 32 := v1082
  let v1084 : Index := Scalar.indexCast v1083
  let c0_565 : Index := 0#32
  ![0, v1084.toNat, 0]
def k0_mult106 : BitVec 32 :=
  let c0_i32_597 : BitVec 32 := 0#32
  c0_i32_597
def k0_mult107 : BitVec 32 :=
  let c0_i32_605 : BitVec 32 := 0#32
  c0_i32_605
def k0_mult108 : BitVec 32 :=
  let c0_i32_616 : BitVec 32 := 0#32
  c0_i32_616
def k0_mult109 : BitVec 32 :=
  let c0_i32_627 : BitVec 32 := 0#32
  c0_i32_627
def k0_off16 (i : grid0.Coords) : Fin 4 → Nat :=
  let c0_202 : Index := 0#32
  let c0_203 : Index := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c2_i32_201 : BitVec 32 := 2#32
  let v404 : BitVec 32 := Scalar.muli v98 c2_i32_201
  let v405 : Index := Scalar.indexCast v404
  let c0_204 : Index := 0#32
  ![0, 0, v405.toNat, 0]
def k0_off17 (i : grid0.Coords) : Fin 4 → Nat :=
  let c0_207 : Index := 0#32
  let c1_208 : Index := 1#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c2_i32_206 : BitVec 32 := 2#32
  let v410 : BitVec 32 := Scalar.muli v98 c2_i32_206
  let v411 : Index := Scalar.indexCast v410
  let c0_209 : Index := 0#32
  ![0, 1, v411.toNat, 0]
def k0_mult110 (i : grid0.Coords) : BitVec 32 :=
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c512_i32 : BitVec 32 := 512#32
  let v417 : BitVec 32 := Scalar.muli v98 c512_i32
  v417
def k0_off18 (i : grid0.Coords) : Fin 3 → Nat :=
  let c0_211 : Index := 0#32
  let c4_i32 : BitVec 32 := 4#32
  let arg2 : BitVec 32 := BitVec.ofNat 32 (i 2).val
  let v1 : BitVec 32 := Scalar.muli c4_i32 arg2
  let c0_i32_52 : BitVec 32 := 0#32
  let v98 : BitVec 32 := Scalar.addi v1 c0_i32_52
  let c512_i32 : BitVec 32 := 512#32
  let v417 : BitVec 32 := Scalar.muli v98 c512_i32
  let v418 : BitVec 32 := v417
  let v419 : Index := Scalar.indexCast v418
  let c0_212 : Index := 0#32
  ![0, v419.toNat, 0]
def k0_mult111 : BitVec 32 :=
  let c0_i32_244 : BitVec 32 := 0#32
  c0_i32_244
def k0_mult112 : BitVec 32 :=
  let c0_i32_252 : BitVec 32 := 0#32
  c0_i32_252
def k0_mult113 : BitVec 32 :=
  let c0_i32_263 : BitVec 32 := 0#32
  c0_i32_263
def k0_mult114 : BitVec 32 :=
  let c0_i32_274 : BitVec 32 := 0#32
  c0_i32_274
@[reducible] def k0_t3_loop (i : grid0.Coords) : Scf.Loop 32 :=
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_104 : BitVec 32 := 1#32
  ⟨c0_i32_102, v201, c1_i32_104⟩
def k0_off19 (i : grid0.Coords) (k0_t3 : Fin (k0_t3_loop i).trips) (c0_i32_201 : BitVec 32) (c0_i32_203 : BitVec 32) : Fin 4 → Nat :=
  let c0_204 : Index := 0#32
  let c0_205 : Index := 0#32
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c512_206 : Index := 512#32
  ![0, 0, v402.toNat, 512]
def k0_off20 (i : grid0.Coords) (k0_t3 : Fin (k0_t3_loop i).trips) (c0_i32_201 : BitVec 32) (c0_i32_213 : BitVec 32) : Fin 4 → Nat :=
  let c0_214 : Index := 0#32
  let c1_215 : Index := 1#32
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c512_216 : Index := 512#32
  ![0, 1, v412.toNat, 512]
def k0_mult115 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off21 (i : grid0.Coords) (k0_t3 : Fin (k0_t3_loop i).trips) (c0_i32_201 : BitVec 32) : Fin 3 → Nat :=
  let c0_223 : Index := 0#32
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult116 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off22 (i : grid0.Coords) (k0_t3 : Fin (k0_t3_loop i).trips) (c0_i32_201 : BitVec 32) : Fin 3 → Nat :=
  let c0_240 : Index := 0#32
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult117 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult118 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult119 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult120 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult121 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult122 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult123 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult124 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult125 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult126 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult127 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult128 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult129 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult130 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult131 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult132 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult133 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult134 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult135 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult136 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult137 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult138 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult139 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult140 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult141 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult142 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult143 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult144 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult145 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult146 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult147 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult148 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult149 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult150 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult151 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult152 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult153 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult154 (i : grid0.Coords) (k0_t3 : Fin (k0_t3_loop i).trips) : BitVec 32 :=
  let c8_i32_200 : BitVec 32 := 8#32
  let c0_i32_102 : BitVec 32 := 0#32
  let c1_i32_104 : BitVec 32 := 1#32
  let arg11 : BitVec 32 := Scf.iv c0_i32_102 c1_i32_104 k0_t3
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
@[reducible] def k0_t4_loop (i : grid0.Coords) : Scf.Loop 32 :=
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let v198 : BitVec 32 := Scalar.addi c0_i32_102 v197
  let c1_i32_105 : BitVec 32 := 1#32
  ⟨v201, v198, c1_i32_105⟩
def k0_off23 (i : grid0.Coords) (k0_t4 : Fin (k0_t4_loop i).trips) (c0_i32_201 : BitVec 32) (c0_i32_203 : BitVec 32) : Fin 4 → Nat :=
  let c0_204 : Index := 0#32
  let c0_205 : Index := 0#32
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c512_206 : Index := 512#32
  ![0, 0, v402.toNat, 512]
def k0_off24 (i : grid0.Coords) (k0_t4 : Fin (k0_t4_loop i).trips) (c0_i32_201 : BitVec 32) (c0_i32_213 : BitVec 32) : Fin 4 → Nat :=
  let c0_214 : Index := 0#32
  let c1_215 : Index := 1#32
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c512_216 : Index := 512#32
  ![0, 1, v412.toNat, 512]
def k0_mult155 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off25 (i : grid0.Coords) (k0_t4 : Fin (k0_t4_loop i).trips) (c0_i32_201 : BitVec 32) : Fin 3 → Nat :=
  let c0_223 : Index := 0#32
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult156 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off26 (i : grid0.Coords) (k0_t4 : Fin (k0_t4_loop i).trips) (c0_i32_201 : BitVec 32) : Fin 3 → Nat :=
  let c0_240 : Index := 0#32
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult157 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult158 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult159 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult160 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult161 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult162 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult163 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult164 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult165 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult166 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult167 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult168 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult169 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult170 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult171 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult172 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult173 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult174 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult175 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult176 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult177 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult178 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult179 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult180 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult181 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult182 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult183 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult184 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult185 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult186 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult187 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult188 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult189 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult190 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult191 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult192 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult193 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult194 (i : grid0.Coords) (k0_t4 : Fin (k0_t4_loop i).trips) : BitVec 32 :=
  let c8_i32_200 : BitVec 32 := 8#32
  let c0_i32_102 : BitVec 32 := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c0_i32_96 : BitVec 32 := 0#32
  let v181 : BitVec 1 := Scalar.cmpi .sgt v173 c0_i32_96
  let v182 : BitVec 32 := Scalar.extui v181
  let c0_i32_97 : BitVec 32 := 0#32
  let v183 : BitVec 1 := Scalar.cmpi .slt v173 c0_i32_97
  let v184 : BitVec 32 := Scalar.extui v183
  let v185 : BitVec 32 := Scalar.subi v182 v184
  let c8_i32_95 : BitVec 32 := 8#32
  let c0_i32_98 : BitVec 32 := 0#32
  let v186 : BitVec 1 := Scalar.cmpi .sgt c8_i32_95 c0_i32_98
  let v187 : BitVec 32 := Scalar.extui v186
  let c0_i32_99 : BitVec 32 := 0#32
  let v188 : BitVec 1 := Scalar.cmpi .slt c8_i32_95 c0_i32_99
  let v189 : BitVec 32 := Scalar.extui v188
  let v190 : BitVec 32 := Scalar.subi v187 v189
  let v191 : BitVec 1 := Scalar.cmpi .ne v185 v190
  let v192 : BitVec 32 := Scalar.remsi v173 c8_i32_95
  let c0_i32_100 : BitVec 32 := 0#32
  let v193 : BitVec 1 := Scalar.cmpi .ne v192 c0_i32_100
  let v194 : BitVec 1 := Scalar.andi v191 v193
  let v180 : BitVec 32 := Scalar.divsi v173 c8_i32_95
  let c1_i32_101 : BitVec 32 := 1#32
  let v195 : BitVec 32 := Scalar.subi v180 c1_i32_101
  let v196 : BitVec 32 := Scalar.select v194 v195 v180
  let v197 : BitVec 32 := Scalar.subi v196 c0_i32_102
  let c1_i32_103 : BitVec 32 := 1#32
  let v199 : BitVec 32 := Scalar.divsi v197 c1_i32_103
  let v200 : BitVec 32 := Scalar.muli v199 c1_i32_103
  let v201 : BitVec 32 := Scalar.addi c0_i32_102 v200
  let c1_i32_105 : BitVec 32 := 1#32
  let arg11 : BitVec 32 := Scf.iv v201 c1_i32_105 k0_t4
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
def k0_cond2 (i : grid0.Coords) : BitVec 1 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c8_i32_106 : BitVec 32 := 8#32
  let v204 : BitVec 32 := Scalar.remsi v173 c8_i32_106
  let c0_i32_108 : BitVec 32 := 0#32
  let v206 : BitVec 1 := Scalar.cmpi .sgt v204 c0_i32_108
  let v207 : BitVec 32 := Scalar.extui v206
  let c0_i32_109 : BitVec 32 := 0#32
  let v208 : BitVec 1 := Scalar.cmpi .slt v204 c0_i32_109
  let v209 : BitVec 32 := Scalar.extui v208
  let v210 : BitVec 32 := Scalar.subi v207 v209
  let c4_i32_107 : BitVec 32 := 4#32
  let c0_i32_110 : BitVec 32 := 0#32
  let v211 : BitVec 1 := Scalar.cmpi .sgt c4_i32_107 c0_i32_110
  let v212 : BitVec 32 := Scalar.extui v211
  let c0_i32_111 : BitVec 32 := 0#32
  let v213 : BitVec 1 := Scalar.cmpi .slt c4_i32_107 c0_i32_111
  let v214 : BitVec 32 := Scalar.extui v213
  let v215 : BitVec 32 := Scalar.subi v212 v214
  let v216 : BitVec 1 := Scalar.cmpi .ne v210 v215
  let v217 : BitVec 32 := Scalar.remsi v204 c4_i32_107
  let c0_i32_112 : BitVec 32 := 0#32
  let v218 : BitVec 1 := Scalar.cmpi .ne v217 c0_i32_112
  let v219 : BitVec 1 := Scalar.andi v216 v218
  let v205 : BitVec 32 := Scalar.divsi v204 c4_i32_107
  let c1_i32_113 : BitVec 32 := 1#32
  let v220 : BitVec 32 := Scalar.subi v205 c1_i32_113
  let v221 : BitVec 32 := Scalar.select v219 v220 v205
  let c0_i32_114 : BitVec 32 := 0#32
  let v222 : BitVec 32 := Scalar.maxsi v221 c0_i32_114
  let c1_i32_115 : BitVec 32 := 1#32
  let v223 : BitVec 32 := Scalar.minsi v222 c1_i32_115
  let c0_i32_116 : BitVec 32 := 0#32
  let v224 : BitVec 1 := Scalar.cmpi .ne v223 c0_i32_116
  v224

def k0_off27 (i : grid0.Coords) (c0_i32_200 : BitVec 32) (c0_i32_202 : BitVec 32) : Fin 4 → Nat :=
  let c0_203 : Index := 0#32
  let c0_204 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let v399 : BitVec 32 := Scalar.addi v398 c0_i32_200
  let c2_i32_201 : BitVec 32 := 2#32
  let v400 : BitVec 32 := Scalar.muli v399 c2_i32_201
  let v401 : BitVec 32 := Scalar.addi v400 c0_i32_202
  let v402 : Index := Scalar.indexCast v401
  let c512_205 : Index := 512#32
  ![0, 0, v402.toNat, 512]
def k0_off28 (i : grid0.Coords) (c0_i32_200 : BitVec 32) (c0_i32_212 : BitVec 32) : Fin 4 → Nat :=
  let c0_213 : Index := 0#32
  let c1_214 : Index := 1#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let v399 : BitVec 32 := Scalar.addi v398 c0_i32_200
  let c2_i32_211 : BitVec 32 := 2#32
  let v410 : BitVec 32 := Scalar.muli v399 c2_i32_211
  let v411 : BitVec 32 := Scalar.addi v410 c0_i32_212
  let v412 : Index := Scalar.indexCast v411
  let c512_215 : Index := 512#32
  ![0, 1, v412.toNat, 512]
def k0_mult195 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c0_i32_200 : BitVec 32 := 0#32
  let v399 : BitVec 32 := Scalar.addi v398 c0_i32_200
  let c512_i32 : BitVec 32 := 512#32
  let v421 : BitVec 32 := Scalar.muli v399 c512_i32
  v421
def k0_off29 (i : grid0.Coords) (c0_i32_200 : BitVec 32) : Fin 3 → Nat :=
  let c0_222 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let v399 : BitVec 32 := Scalar.addi v398 c0_i32_200
  let c512_i32 : BitVec 32 := 512#32
  let v421 : BitVec 32 := Scalar.muli v399 c512_i32
  let v422 : BitVec 32 := v421
  let v423 : Index := Scalar.indexCast v422
  let c0_223 : Index := 0#32
  ![0, v423.toNat, 0]
def k0_mult196 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c0_i32_200 : BitVec 32 := 0#32
  let v399 : BitVec 32 := Scalar.addi v398 c0_i32_200
  let c1_i32_221 : BitVec 32 := 1#32
  let v420 : BitVec 32 := Scalar.addi v399 c1_i32_221
  let c512_i32_238 : BitVec 32 := 512#32
  let v460 : BitVec 32 := Scalar.muli v420 c512_i32_238
  v460
def k0_off30 (i : grid0.Coords) (c0_i32_200 : BitVec 32) : Fin 3 → Nat :=
  let c0_239 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let v399 : BitVec 32 := Scalar.addi v398 c0_i32_200
  let c1_i32_221 : BitVec 32 := 1#32
  let v420 : BitVec 32 := Scalar.addi v399 c1_i32_221
  let c512_i32_238 : BitVec 32 := 512#32
  let v460 : BitVec 32 := Scalar.muli v420 c512_i32_238
  let v461 : BitVec 32 := v460
  let v462 : Index := Scalar.indexCast v461
  let c0_240 : Index := 0#32
  ![0, v462.toNat, 0]
def k0_mult197 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c0_i32_200 : BitVec 32 := 0#32
  let v399 : BitVec 32 := Scalar.addi v398 c0_i32_200
  let c1_i32_221 : BitVec 32 := 1#32
  let v420 : BitVec 32 := Scalar.addi v399 c1_i32_221
  let c512_i32_246 : BitVec 32 := 512#32
  let v472 : BitVec 32 := Scalar.muli v420 c512_i32_246
  v472
def k0_mult198 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c0_i32_200 : BitVec 32 := 0#32
  let v399 : BitVec 32 := Scalar.addi v398 c0_i32_200
  let c1_i32_221 : BitVec 32 := 1#32
  let v420 : BitVec 32 := Scalar.addi v399 c1_i32_221
  let c512_i32_260 : BitVec 32 := 512#32
  let v498 : BitVec 32 := Scalar.muli v420 c512_i32_260
  v498
def k0_mult199 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c0_i32_200 : BitVec 32 := 0#32
  let v399 : BitVec 32 := Scalar.addi v398 c0_i32_200
  let c1_i32_221 : BitVec 32 := 1#32
  let v420 : BitVec 32 := Scalar.addi v399 c1_i32_221
  let c512_i32_274 : BitVec 32 := 512#32
  let v523 : BitVec 32 := Scalar.muli v420 c512_i32_274
  v523
def k0_mult200 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c1_i32_288 : BitVec 32 := 1#32
  let v567 : BitVec 32 := Scalar.addi v398 c1_i32_288
  let c512_i32_310 : BitVec 32 := 512#32
  let v589 : BitVec 32 := Scalar.muli v567 c512_i32_310
  v589
def k0_mult201 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c1_i32_288 : BitVec 32 := 1#32
  let v567 : BitVec 32 := Scalar.addi v398 c1_i32_288
  let c1_i32_309 : BitVec 32 := 1#32
  let v588 : BitVec 32 := Scalar.addi v567 c1_i32_309
  let c512_i32_327 : BitVec 32 := 512#32
  let v628 : BitVec 32 := Scalar.muli v588 c512_i32_327
  v628
def k0_mult202 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c1_i32_288 : BitVec 32 := 1#32
  let v567 : BitVec 32 := Scalar.addi v398 c1_i32_288
  let c1_i32_309 : BitVec 32 := 1#32
  let v588 : BitVec 32 := Scalar.addi v567 c1_i32_309
  let c512_i32_335 : BitVec 32 := 512#32
  let v640 : BitVec 32 := Scalar.muli v588 c512_i32_335
  v640
def k0_mult203 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c1_i32_288 : BitVec 32 := 1#32
  let v567 : BitVec 32 := Scalar.addi v398 c1_i32_288
  let c1_i32_309 : BitVec 32 := 1#32
  let v588 : BitVec 32 := Scalar.addi v567 c1_i32_309
  let c512_i32_349 : BitVec 32 := 512#32
  let v666 : BitVec 32 := Scalar.muli v588 c512_i32_349
  v666
def k0_mult204 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c1_i32_288 : BitVec 32 := 1#32
  let v567 : BitVec 32 := Scalar.addi v398 c1_i32_288
  let c1_i32_309 : BitVec 32 := 1#32
  let v588 : BitVec 32 := Scalar.addi v567 c1_i32_309
  let c512_i32_363 : BitVec 32 := 512#32
  let v691 : BitVec 32 := Scalar.muli v588 c512_i32_363
  v691
def k0_mult205 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c2_i32_377 : BitVec 32 := 2#32
  let v735 : BitVec 32 := Scalar.addi v398 c2_i32_377
  let c512_i32_399 : BitVec 32 := 512#32
  let v757 : BitVec 32 := Scalar.muli v735 c512_i32_399
  v757
def k0_mult206 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c2_i32_377 : BitVec 32 := 2#32
  let v735 : BitVec 32 := Scalar.addi v398 c2_i32_377
  let c1_i32_398 : BitVec 32 := 1#32
  let v756 : BitVec 32 := Scalar.addi v735 c1_i32_398
  let c512_i32_416 : BitVec 32 := 512#32
  let v796 : BitVec 32 := Scalar.muli v756 c512_i32_416
  v796
def k0_mult207 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c2_i32_377 : BitVec 32 := 2#32
  let v735 : BitVec 32 := Scalar.addi v398 c2_i32_377
  let c1_i32_398 : BitVec 32 := 1#32
  let v756 : BitVec 32 := Scalar.addi v735 c1_i32_398
  let c512_i32_424 : BitVec 32 := 512#32
  let v808 : BitVec 32 := Scalar.muli v756 c512_i32_424
  v808
def k0_mult208 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c2_i32_377 : BitVec 32 := 2#32
  let v735 : BitVec 32 := Scalar.addi v398 c2_i32_377
  let c1_i32_398 : BitVec 32 := 1#32
  let v756 : BitVec 32 := Scalar.addi v735 c1_i32_398
  let c512_i32_438 : BitVec 32 := 512#32
  let v834 : BitVec 32 := Scalar.muli v756 c512_i32_438
  v834
def k0_mult209 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c2_i32_377 : BitVec 32 := 2#32
  let v735 : BitVec 32 := Scalar.addi v398 c2_i32_377
  let c1_i32_398 : BitVec 32 := 1#32
  let v756 : BitVec 32 := Scalar.addi v735 c1_i32_398
  let c512_i32_452 : BitVec 32 := 512#32
  let v859 : BitVec 32 := Scalar.muli v756 c512_i32_452
  v859
def k0_mult210 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c3_i32_466 : BitVec 32 := 3#32
  let v903 : BitVec 32 := Scalar.addi v398 c3_i32_466
  let c512_i32_488 : BitVec 32 := 512#32
  let v925 : BitVec 32 := Scalar.muli v903 c512_i32_488
  v925
def k0_mult211 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c3_i32_466 : BitVec 32 := 3#32
  let v903 : BitVec 32 := Scalar.addi v398 c3_i32_466
  let c1_i32_487 : BitVec 32 := 1#32
  let v924 : BitVec 32 := Scalar.addi v903 c1_i32_487
  let c512_i32_505 : BitVec 32 := 512#32
  let v964 : BitVec 32 := Scalar.muli v924 c512_i32_505
  v964
def k0_mult212 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c3_i32_466 : BitVec 32 := 3#32
  let v903 : BitVec 32 := Scalar.addi v398 c3_i32_466
  let c1_i32_487 : BitVec 32 := 1#32
  let v924 : BitVec 32 := Scalar.addi v903 c1_i32_487
  let c512_i32_513 : BitVec 32 := 512#32
  let v976 : BitVec 32 := Scalar.muli v924 c512_i32_513
  v976
def k0_mult213 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c3_i32_466 : BitVec 32 := 3#32
  let v903 : BitVec 32 := Scalar.addi v398 c3_i32_466
  let c1_i32_487 : BitVec 32 := 1#32
  let v924 : BitVec 32 := Scalar.addi v903 c1_i32_487
  let c512_i32_527 : BitVec 32 := 512#32
  let v1002 : BitVec 32 := Scalar.muli v924 c512_i32_527
  v1002
def k0_mult214 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c3_i32_466 : BitVec 32 := 3#32
  let v903 : BitVec 32 := Scalar.addi v398 c3_i32_466
  let c1_i32_487 : BitVec 32 := 1#32
  let v924 : BitVec 32 := Scalar.addi v903 c1_i32_487
  let c512_i32_541 : BitVec 32 := 512#32
  let v1027 : BitVec 32 := Scalar.muli v924 c512_i32_541
  v1027
def k0_mult215 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c4_i32_555 : BitVec 32 := 4#32
  let v1071 : BitVec 32 := Scalar.addi v398 c4_i32_555
  let c512_i32_577 : BitVec 32 := 512#32
  let v1093 : BitVec 32 := Scalar.muli v1071 c512_i32_577
  v1093
def k0_mult216 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_594 : BitVec 32 := 512#32
  let v1132 : BitVec 32 := Scalar.muli v1092 c512_i32_594
  v1132
def k0_mult217 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_601 : BitVec 32 := 512#32
  let v1142 : BitVec 32 := Scalar.muli v1092 c512_i32_601
  v1142
def k0_mult218 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_614 : BitVec 32 := 512#32
  let v1166 : BitVec 32 := Scalar.muli v1092 c512_i32_614
  v1166
def k0_mult219 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c5_i32 : BitVec 32 := 5#32
  let v398 : BitVec 32 := Scalar.subi v173 c5_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_627 : BitVec 32 := 512#32
  let v1189 : BitVec 32 := Scalar.muli v1092 c512_i32_627
  v1189
def k0_off31 (i : grid0.Coords) : Fin 4 → Nat :=
  let c0_642 : Index := 0#32
  let c0_643 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c2_i32_641 : BitVec 32 := 2#32
  let v1237 : BitVec 32 := Scalar.muli v173 c2_i32_641
  let v1238 : Index := Scalar.indexCast v1237
  let c512_644 : Index := 512#32
  ![0, 0, v1238.toNat, 512]
def k0_off32 (i : grid0.Coords) : Fin 4 → Nat :=
  let c0_647 : Index := 0#32
  let c1_648 : Index := 1#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c2_i32_646 : BitVec 32 := 2#32
  let v1243 : BitVec 32 := Scalar.muli v173 c2_i32_646
  let v1244 : Index := Scalar.indexCast v1243
  let c512_649 : Index := 512#32
  ![0, 1, v1244.toNat, 512]
def k0_mult220 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c512_i32_651 : BitVec 32 := 512#32
  let v1250 : BitVec 32 := Scalar.muli v173 c512_i32_651
  v1250
def k0_off33 (i : grid0.Coords) : Fin 3 → Nat :=
  let c0_652 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c512_i32_651 : BitVec 32 := 512#32
  let v1250 : BitVec 32 := Scalar.muli v173 c512_i32_651
  let v1251 : BitVec 32 := v1250
  let v1252 : Index := Scalar.indexCast v1251
  let c0_653 : Index := 0#32
  ![0, v1252.toNat, 0]
def k0_mult221 : BitVec 32 :=
  let c0_i32_685 : BitVec 32 := 0#32
  c0_i32_685
def k0_mult222 : BitVec 32 :=
  let c0_i32_693 : BitVec 32 := 0#32
  c0_i32_693
def k0_mult223 : BitVec 32 :=
  let c0_i32_704 : BitVec 32 := 0#32
  c0_i32_704
def k0_mult224 : BitVec 32 :=
  let c0_i32_715 : BitVec 32 := 0#32
  c0_i32_715
def k0_off34 (i : grid0.Coords) (c0_i32_203 : BitVec 32) : Fin 4 → Nat :=
  let c0_204 : Index := 0#32
  let c0_205 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c512_206 : Index := 512#32
  ![0, 0, v402.toNat, 512]
def k0_off35 (i : grid0.Coords) (c0_i32_213 : BitVec 32) : Fin 4 → Nat :=
  let c0_214 : Index := 0#32
  let c1_215 : Index := 1#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c512_216 : Index := 512#32
  ![0, 1, v412.toNat, 512]
def k0_mult225 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c512_i32 : BitVec 32 := 512#32
  let v421 : BitVec 32 := Scalar.muli v399 c512_i32
  v421
def k0_off36 (i : grid0.Coords) : Fin 3 → Nat :=
  let c0_223 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult226 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off37 (i : grid0.Coords) : Fin 3 → Nat :=
  let c0_240 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult227 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_246 : BitVec 32 := 512#32
  let v470 : BitVec 32 := Scalar.muli v420 c512_i32_246
  v470
def k0_mult228 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_259 : BitVec 32 := 512#32
  let v494 : BitVec 32 := Scalar.muli v420 c512_i32_259
  v494
def k0_mult229 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c1_i32_200 : BitVec 32 := 1#32
  let v398 : BitVec 32 := Scalar.subi v173 c1_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_272 : BitVec 32 := 512#32
  let v517 : BitVec 32 := Scalar.muli v420 c512_i32_272
  v517
def k0_off38 (i : grid0.Coords) : Fin 4 → Nat :=
  let c0_287 : Index := 0#32
  let c0_288 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c2_i32_286 : BitVec 32 := 2#32
  let v565 : BitVec 32 := Scalar.muli v173 c2_i32_286
  let v566 : Index := Scalar.indexCast v565
  let c512_289 : Index := 512#32
  ![0, 0, v566.toNat, 512]
def k0_off39 (i : grid0.Coords) : Fin 4 → Nat :=
  let c0_292 : Index := 0#32
  let c1_293 : Index := 1#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c2_i32_291 : BitVec 32 := 2#32
  let v571 : BitVec 32 := Scalar.muli v173 c2_i32_291
  let v572 : Index := Scalar.indexCast v571
  let c512_294 : Index := 512#32
  ![0, 1, v572.toNat, 512]
def k0_mult230 (i : grid0.Coords) : BitVec 32 :=
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c512_i32_296 : BitVec 32 := 512#32
  let v578 : BitVec 32 := Scalar.muli v173 c512_i32_296
  v578
def k0_off40 (i : grid0.Coords) : Fin 3 → Nat :=
  let c0_297 : Index := 0#32
  let c4_i32 : BitVec 32 := 4#32
  let arg2 : BitVec 32 := BitVec.ofNat 32 (i 2).val
  let v1 : BitVec 32 := Scalar.muli c4_i32 arg2
  let c1_i32_88 : BitVec 32 := 1#32
  let v173 : BitVec 32 := Scalar.addi v1 c1_i32_88
  let c512_i32_296 : BitVec 32 := 512#32
  let v578 : BitVec 32 := Scalar.muli v173 c512_i32_296
  let v579 : BitVec 32 := v578
  let v580 : Index := Scalar.indexCast v579
  let c0_298 : Index := 0#32
  ![0, v580.toNat, 0]
def k0_mult231 : BitVec 32 :=
  let c0_i32_330 : BitVec 32 := 0#32
  c0_i32_330
def k0_mult232 : BitVec 32 :=
  let c0_i32_338 : BitVec 32 := 0#32
  c0_i32_338
def k0_mult233 : BitVec 32 :=
  let c0_i32_349 : BitVec 32 := 0#32
  c0_i32_349
def k0_mult234 : BitVec 32 :=
  let c0_i32_360 : BitVec 32 := 0#32
  c0_i32_360
@[reducible] def k0_t5_loop (i : grid0.Coords) : Scf.Loop 32 :=
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_141 : BitVec 32 := 1#32
  ⟨c0_i32_139, v276, c1_i32_141⟩
def k0_off41 (i : grid0.Coords) (k0_t5 : Fin (k0_t5_loop i).trips) (c0_i32_201 : BitVec 32) (c0_i32_203 : BitVec 32) : Fin 4 → Nat :=
  let c0_204 : Index := 0#32
  let c0_205 : Index := 0#32
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c1024_206 : Index := 1024#32
  ![0, 0, v402.toNat, 1024]
def k0_off42 (i : grid0.Coords) (k0_t5 : Fin (k0_t5_loop i).trips) (c0_i32_201 : BitVec 32) (c0_i32_213 : BitVec 32) : Fin 4 → Nat :=
  let c0_214 : Index := 0#32
  let c1_215 : Index := 1#32
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c1024_216 : Index := 1024#32
  ![0, 1, v412.toNat, 1024]
def k0_mult235 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off43 (i : grid0.Coords) (k0_t5 : Fin (k0_t5_loop i).trips) (c0_i32_201 : BitVec 32) : Fin 3 → Nat :=
  let c0_223 : Index := 0#32
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult236 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off44 (i : grid0.Coords) (k0_t5 : Fin (k0_t5_loop i).trips) (c0_i32_201 : BitVec 32) : Fin 3 → Nat :=
  let c0_240 : Index := 0#32
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult237 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult238 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult239 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult240 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult241 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult242 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult243 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult244 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult245 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult246 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult247 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult248 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult249 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult250 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult251 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult252 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult253 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult254 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult255 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult256 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult257 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult258 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult259 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult260 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult261 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult262 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult263 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult264 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult265 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult266 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult267 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult268 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult269 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult270 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult271 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult272 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult273 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult274 (i : grid0.Coords) (k0_t5 : Fin (k0_t5_loop i).trips) : BitVec 32 :=
  let c8_i32_200 : BitVec 32 := 8#32
  let c0_i32_139 : BitVec 32 := 0#32
  let c1_i32_141 : BitVec 32 := 1#32
  let arg11 : BitVec 32 := Scf.iv c0_i32_139 c1_i32_141 k0_t5
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
@[reducible] def k0_t6_loop (i : grid0.Coords) : Scf.Loop 32 :=
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let v273 : BitVec 32 := Scalar.addi c0_i32_139 v272
  let c1_i32_142 : BitVec 32 := 1#32
  ⟨v276, v273, c1_i32_142⟩
def k0_off45 (i : grid0.Coords) (k0_t6 : Fin (k0_t6_loop i).trips) (c0_i32_201 : BitVec 32) (c0_i32_203 : BitVec 32) : Fin 4 → Nat :=
  let c0_204 : Index := 0#32
  let c0_205 : Index := 0#32
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c1024_206 : Index := 1024#32
  ![0, 0, v402.toNat, 1024]
def k0_off46 (i : grid0.Coords) (k0_t6 : Fin (k0_t6_loop i).trips) (c0_i32_201 : BitVec 32) (c0_i32_213 : BitVec 32) : Fin 4 → Nat :=
  let c0_214 : Index := 0#32
  let c1_215 : Index := 1#32
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c1024_216 : Index := 1024#32
  ![0, 1, v412.toNat, 1024]
def k0_mult275 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off47 (i : grid0.Coords) (k0_t6 : Fin (k0_t6_loop i).trips) (c0_i32_201 : BitVec 32) : Fin 3 → Nat :=
  let c0_223 : Index := 0#32
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult276 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off48 (i : grid0.Coords) (k0_t6 : Fin (k0_t6_loop i).trips) (c0_i32_201 : BitVec 32) : Fin 3 → Nat :=
  let c0_240 : Index := 0#32
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult277 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult278 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult279 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult280 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult281 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult282 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult283 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult284 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult285 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult286 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult287 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult288 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult289 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult290 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult291 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult292 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult293 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult294 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult295 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult296 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult297 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult298 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult299 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult300 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult301 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult302 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult303 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult304 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult305 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult306 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult307 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult308 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult309 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult310 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult311 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult312 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult313 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult314 (i : grid0.Coords) (k0_t6 : Fin (k0_t6_loop i).trips) : BitVec 32 :=
  let c8_i32_200 : BitVec 32 := 8#32
  let c0_i32_139 : BitVec 32 := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c0_i32_133 : BitVec 32 := 0#32
  let v256 : BitVec 1 := Scalar.cmpi .sgt v248 c0_i32_133
  let v257 : BitVec 32 := Scalar.extui v256
  let c0_i32_134 : BitVec 32 := 0#32
  let v258 : BitVec 1 := Scalar.cmpi .slt v248 c0_i32_134
  let v259 : BitVec 32 := Scalar.extui v258
  let v260 : BitVec 32 := Scalar.subi v257 v259
  let c8_i32_132 : BitVec 32 := 8#32
  let c0_i32_135 : BitVec 32 := 0#32
  let v261 : BitVec 1 := Scalar.cmpi .sgt c8_i32_132 c0_i32_135
  let v262 : BitVec 32 := Scalar.extui v261
  let c0_i32_136 : BitVec 32 := 0#32
  let v263 : BitVec 1 := Scalar.cmpi .slt c8_i32_132 c0_i32_136
  let v264 : BitVec 32 := Scalar.extui v263
  let v265 : BitVec 32 := Scalar.subi v262 v264
  let v266 : BitVec 1 := Scalar.cmpi .ne v260 v265
  let v267 : BitVec 32 := Scalar.remsi v248 c8_i32_132
  let c0_i32_137 : BitVec 32 := 0#32
  let v268 : BitVec 1 := Scalar.cmpi .ne v267 c0_i32_137
  let v269 : BitVec 1 := Scalar.andi v266 v268
  let v255 : BitVec 32 := Scalar.divsi v248 c8_i32_132
  let c1_i32_138 : BitVec 32 := 1#32
  let v270 : BitVec 32 := Scalar.subi v255 c1_i32_138
  let v271 : BitVec 32 := Scalar.select v269 v270 v255
  let v272 : BitVec 32 := Scalar.subi v271 c0_i32_139
  let c1_i32_140 : BitVec 32 := 1#32
  let v274 : BitVec 32 := Scalar.divsi v272 c1_i32_140
  let v275 : BitVec 32 := Scalar.muli v274 c1_i32_140
  let v276 : BitVec 32 := Scalar.addi c0_i32_139 v275
  let c1_i32_142 : BitVec 32 := 1#32
  let arg11 : BitVec 32 := Scf.iv v276 c1_i32_142 k0_t6
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
def k0_cond3 (i : grid0.Coords) : BitVec 1 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c8_i32_143 : BitVec 32 := 8#32
  let v279 : BitVec 32 := Scalar.remsi v248 c8_i32_143
  let c0_i32_145 : BitVec 32 := 0#32
  let v281 : BitVec 1 := Scalar.cmpi .sgt v279 c0_i32_145
  let v282 : BitVec 32 := Scalar.extui v281
  let c0_i32_146 : BitVec 32 := 0#32
  let v283 : BitVec 1 := Scalar.cmpi .slt v279 c0_i32_146
  let v284 : BitVec 32 := Scalar.extui v283
  let v285 : BitVec 32 := Scalar.subi v282 v284
  let c4_i32_144 : BitVec 32 := 4#32
  let c0_i32_147 : BitVec 32 := 0#32
  let v286 : BitVec 1 := Scalar.cmpi .sgt c4_i32_144 c0_i32_147
  let v287 : BitVec 32 := Scalar.extui v286
  let c0_i32_148 : BitVec 32 := 0#32
  let v288 : BitVec 1 := Scalar.cmpi .slt c4_i32_144 c0_i32_148
  let v289 : BitVec 32 := Scalar.extui v288
  let v290 : BitVec 32 := Scalar.subi v287 v289
  let v291 : BitVec 1 := Scalar.cmpi .ne v285 v290
  let v292 : BitVec 32 := Scalar.remsi v279 c4_i32_144
  let c0_i32_149 : BitVec 32 := 0#32
  let v293 : BitVec 1 := Scalar.cmpi .ne v292 c0_i32_149
  let v294 : BitVec 1 := Scalar.andi v291 v293
  let v280 : BitVec 32 := Scalar.divsi v279 c4_i32_144
  let c1_i32_150 : BitVec 32 := 1#32
  let v295 : BitVec 32 := Scalar.subi v280 c1_i32_150
  let v296 : BitVec 32 := Scalar.select v294 v295 v280
  let c0_i32_151 : BitVec 32 := 0#32
  let v297 : BitVec 32 := Scalar.maxsi v296 c0_i32_151
  let c1_i32_152 : BitVec 32 := 1#32
  let v298 : BitVec 32 := Scalar.minsi v297 c1_i32_152
  let c0_i32_153 : BitVec 32 := 0#32
  let v299 : BitVec 1 := Scalar.cmpi .ne v298 c0_i32_153
  v299

def k0_off49 (i : grid0.Coords) (c0_i32_200 : BitVec 32) (c0_i32_202 : BitVec 32) : Fin 4 → Nat :=
  let c0_203 : Index := 0#32
  let c0_204 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let v399 : BitVec 32 := Scalar.addi v398 c0_i32_200
  let c2_i32_201 : BitVec 32 := 2#32
  let v400 : BitVec 32 := Scalar.muli v399 c2_i32_201
  let v401 : BitVec 32 := Scalar.addi v400 c0_i32_202
  let v402 : Index := Scalar.indexCast v401
  let c1024_205 : Index := 1024#32
  ![0, 0, v402.toNat, 1024]
def k0_off50 (i : grid0.Coords) (c0_i32_200 : BitVec 32) (c0_i32_212 : BitVec 32) : Fin 4 → Nat :=
  let c0_213 : Index := 0#32
  let c1_214 : Index := 1#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let v399 : BitVec 32 := Scalar.addi v398 c0_i32_200
  let c2_i32_211 : BitVec 32 := 2#32
  let v410 : BitVec 32 := Scalar.muli v399 c2_i32_211
  let v411 : BitVec 32 := Scalar.addi v410 c0_i32_212
  let v412 : Index := Scalar.indexCast v411
  let c1024_215 : Index := 1024#32
  ![0, 1, v412.toNat, 1024]
def k0_mult315 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c0_i32_200 : BitVec 32 := 0#32
  let v399 : BitVec 32 := Scalar.addi v398 c0_i32_200
  let c512_i32 : BitVec 32 := 512#32
  let v421 : BitVec 32 := Scalar.muli v399 c512_i32
  v421
def k0_off51 (i : grid0.Coords) (c0_i32_200 : BitVec 32) : Fin 3 → Nat :=
  let c0_222 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let v399 : BitVec 32 := Scalar.addi v398 c0_i32_200
  let c512_i32 : BitVec 32 := 512#32
  let v421 : BitVec 32 := Scalar.muli v399 c512_i32
  let v422 : BitVec 32 := v421
  let v423 : Index := Scalar.indexCast v422
  let c0_223 : Index := 0#32
  ![0, v423.toNat, 0]
def k0_mult316 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c0_i32_200 : BitVec 32 := 0#32
  let v399 : BitVec 32 := Scalar.addi v398 c0_i32_200
  let c1_i32_221 : BitVec 32 := 1#32
  let v420 : BitVec 32 := Scalar.addi v399 c1_i32_221
  let c512_i32_238 : BitVec 32 := 512#32
  let v460 : BitVec 32 := Scalar.muli v420 c512_i32_238
  v460
def k0_off52 (i : grid0.Coords) (c0_i32_200 : BitVec 32) : Fin 3 → Nat :=
  let c0_239 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let v399 : BitVec 32 := Scalar.addi v398 c0_i32_200
  let c1_i32_221 : BitVec 32 := 1#32
  let v420 : BitVec 32 := Scalar.addi v399 c1_i32_221
  let c512_i32_238 : BitVec 32 := 512#32
  let v460 : BitVec 32 := Scalar.muli v420 c512_i32_238
  let v461 : BitVec 32 := v460
  let v462 : Index := Scalar.indexCast v461
  let c0_240 : Index := 0#32
  ![0, v462.toNat, 0]
def k0_mult317 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c0_i32_200 : BitVec 32 := 0#32
  let v399 : BitVec 32 := Scalar.addi v398 c0_i32_200
  let c1_i32_221 : BitVec 32 := 1#32
  let v420 : BitVec 32 := Scalar.addi v399 c1_i32_221
  let c512_i32_246 : BitVec 32 := 512#32
  let v472 : BitVec 32 := Scalar.muli v420 c512_i32_246
  v472
def k0_mult318 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c0_i32_200 : BitVec 32 := 0#32
  let v399 : BitVec 32 := Scalar.addi v398 c0_i32_200
  let c1_i32_221 : BitVec 32 := 1#32
  let v420 : BitVec 32 := Scalar.addi v399 c1_i32_221
  let c512_i32_260 : BitVec 32 := 512#32
  let v498 : BitVec 32 := Scalar.muli v420 c512_i32_260
  v498
def k0_mult319 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c0_i32_200 : BitVec 32 := 0#32
  let v399 : BitVec 32 := Scalar.addi v398 c0_i32_200
  let c1_i32_221 : BitVec 32 := 1#32
  let v420 : BitVec 32 := Scalar.addi v399 c1_i32_221
  let c512_i32_274 : BitVec 32 := 512#32
  let v523 : BitVec 32 := Scalar.muli v420 c512_i32_274
  v523
def k0_mult320 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c1_i32_288 : BitVec 32 := 1#32
  let v567 : BitVec 32 := Scalar.addi v398 c1_i32_288
  let c512_i32_310 : BitVec 32 := 512#32
  let v589 : BitVec 32 := Scalar.muli v567 c512_i32_310
  v589
def k0_mult321 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c1_i32_288 : BitVec 32 := 1#32
  let v567 : BitVec 32 := Scalar.addi v398 c1_i32_288
  let c1_i32_309 : BitVec 32 := 1#32
  let v588 : BitVec 32 := Scalar.addi v567 c1_i32_309
  let c512_i32_327 : BitVec 32 := 512#32
  let v628 : BitVec 32 := Scalar.muli v588 c512_i32_327
  v628
def k0_mult322 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c1_i32_288 : BitVec 32 := 1#32
  let v567 : BitVec 32 := Scalar.addi v398 c1_i32_288
  let c1_i32_309 : BitVec 32 := 1#32
  let v588 : BitVec 32 := Scalar.addi v567 c1_i32_309
  let c512_i32_335 : BitVec 32 := 512#32
  let v640 : BitVec 32 := Scalar.muli v588 c512_i32_335
  v640
def k0_mult323 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c1_i32_288 : BitVec 32 := 1#32
  let v567 : BitVec 32 := Scalar.addi v398 c1_i32_288
  let c1_i32_309 : BitVec 32 := 1#32
  let v588 : BitVec 32 := Scalar.addi v567 c1_i32_309
  let c512_i32_349 : BitVec 32 := 512#32
  let v666 : BitVec 32 := Scalar.muli v588 c512_i32_349
  v666
def k0_mult324 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c1_i32_288 : BitVec 32 := 1#32
  let v567 : BitVec 32 := Scalar.addi v398 c1_i32_288
  let c1_i32_309 : BitVec 32 := 1#32
  let v588 : BitVec 32 := Scalar.addi v567 c1_i32_309
  let c512_i32_363 : BitVec 32 := 512#32
  let v691 : BitVec 32 := Scalar.muli v588 c512_i32_363
  v691
def k0_mult325 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c2_i32_377 : BitVec 32 := 2#32
  let v735 : BitVec 32 := Scalar.addi v398 c2_i32_377
  let c512_i32_399 : BitVec 32 := 512#32
  let v757 : BitVec 32 := Scalar.muli v735 c512_i32_399
  v757
def k0_mult326 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c2_i32_377 : BitVec 32 := 2#32
  let v735 : BitVec 32 := Scalar.addi v398 c2_i32_377
  let c1_i32_398 : BitVec 32 := 1#32
  let v756 : BitVec 32 := Scalar.addi v735 c1_i32_398
  let c512_i32_416 : BitVec 32 := 512#32
  let v796 : BitVec 32 := Scalar.muli v756 c512_i32_416
  v796
def k0_mult327 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c2_i32_377 : BitVec 32 := 2#32
  let v735 : BitVec 32 := Scalar.addi v398 c2_i32_377
  let c1_i32_398 : BitVec 32 := 1#32
  let v756 : BitVec 32 := Scalar.addi v735 c1_i32_398
  let c512_i32_424 : BitVec 32 := 512#32
  let v808 : BitVec 32 := Scalar.muli v756 c512_i32_424
  v808
def k0_mult328 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c2_i32_377 : BitVec 32 := 2#32
  let v735 : BitVec 32 := Scalar.addi v398 c2_i32_377
  let c1_i32_398 : BitVec 32 := 1#32
  let v756 : BitVec 32 := Scalar.addi v735 c1_i32_398
  let c512_i32_438 : BitVec 32 := 512#32
  let v834 : BitVec 32 := Scalar.muli v756 c512_i32_438
  v834
def k0_mult329 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c2_i32_377 : BitVec 32 := 2#32
  let v735 : BitVec 32 := Scalar.addi v398 c2_i32_377
  let c1_i32_398 : BitVec 32 := 1#32
  let v756 : BitVec 32 := Scalar.addi v735 c1_i32_398
  let c512_i32_452 : BitVec 32 := 512#32
  let v859 : BitVec 32 := Scalar.muli v756 c512_i32_452
  v859
def k0_mult330 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c3_i32_466 : BitVec 32 := 3#32
  let v903 : BitVec 32 := Scalar.addi v398 c3_i32_466
  let c512_i32_488 : BitVec 32 := 512#32
  let v925 : BitVec 32 := Scalar.muli v903 c512_i32_488
  v925
def k0_mult331 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c3_i32_466 : BitVec 32 := 3#32
  let v903 : BitVec 32 := Scalar.addi v398 c3_i32_466
  let c1_i32_487 : BitVec 32 := 1#32
  let v924 : BitVec 32 := Scalar.addi v903 c1_i32_487
  let c512_i32_505 : BitVec 32 := 512#32
  let v964 : BitVec 32 := Scalar.muli v924 c512_i32_505
  v964
def k0_mult332 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c3_i32_466 : BitVec 32 := 3#32
  let v903 : BitVec 32 := Scalar.addi v398 c3_i32_466
  let c1_i32_487 : BitVec 32 := 1#32
  let v924 : BitVec 32 := Scalar.addi v903 c1_i32_487
  let c512_i32_513 : BitVec 32 := 512#32
  let v976 : BitVec 32 := Scalar.muli v924 c512_i32_513
  v976
def k0_mult333 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c3_i32_466 : BitVec 32 := 3#32
  let v903 : BitVec 32 := Scalar.addi v398 c3_i32_466
  let c1_i32_487 : BitVec 32 := 1#32
  let v924 : BitVec 32 := Scalar.addi v903 c1_i32_487
  let c512_i32_527 : BitVec 32 := 512#32
  let v1002 : BitVec 32 := Scalar.muli v924 c512_i32_527
  v1002
def k0_mult334 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c3_i32_466 : BitVec 32 := 3#32
  let v903 : BitVec 32 := Scalar.addi v398 c3_i32_466
  let c1_i32_487 : BitVec 32 := 1#32
  let v924 : BitVec 32 := Scalar.addi v903 c1_i32_487
  let c512_i32_541 : BitVec 32 := 512#32
  let v1027 : BitVec 32 := Scalar.muli v924 c512_i32_541
  v1027
def k0_mult335 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c4_i32_555 : BitVec 32 := 4#32
  let v1071 : BitVec 32 := Scalar.addi v398 c4_i32_555
  let c512_i32_577 : BitVec 32 := 512#32
  let v1093 : BitVec 32 := Scalar.muli v1071 c512_i32_577
  v1093
def k0_mult336 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_594 : BitVec 32 := 512#32
  let v1132 : BitVec 32 := Scalar.muli v1092 c512_i32_594
  v1132
def k0_mult337 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_602 : BitVec 32 := 512#32
  let v1144 : BitVec 32 := Scalar.muli v1092 c512_i32_602
  v1144
def k0_mult338 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_616 : BitVec 32 := 512#32
  let v1170 : BitVec 32 := Scalar.muli v1092 c512_i32_616
  v1170
def k0_mult339 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_630 : BitVec 32 := 512#32
  let v1195 : BitVec 32 := Scalar.muli v1092 c512_i32_630
  v1195
def k0_mult340 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c5_i32 : BitVec 32 := 5#32
  let v1239 : BitVec 32 := Scalar.addi v398 c5_i32
  let c512_i32_665 : BitVec 32 := 512#32
  let v1261 : BitVec 32 := Scalar.muli v1239 c512_i32_665
  v1261
def k0_mult341 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c5_i32 : BitVec 32 := 5#32
  let v1239 : BitVec 32 := Scalar.addi v398 c5_i32
  let c1_i32_664 : BitVec 32 := 1#32
  let v1260 : BitVec 32 := Scalar.addi v1239 c1_i32_664
  let c512_i32_682 : BitVec 32 := 512#32
  let v1300 : BitVec 32 := Scalar.muli v1260 c512_i32_682
  v1300
def k0_mult342 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c5_i32 : BitVec 32 := 5#32
  let v1239 : BitVec 32 := Scalar.addi v398 c5_i32
  let c1_i32_664 : BitVec 32 := 1#32
  let v1260 : BitVec 32 := Scalar.addi v1239 c1_i32_664
  let c512_i32_689 : BitVec 32 := 512#32
  let v1310 : BitVec 32 := Scalar.muli v1260 c512_i32_689
  v1310
def k0_mult343 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c5_i32 : BitVec 32 := 5#32
  let v1239 : BitVec 32 := Scalar.addi v398 c5_i32
  let c1_i32_664 : BitVec 32 := 1#32
  let v1260 : BitVec 32 := Scalar.addi v1239 c1_i32_664
  let c512_i32_702 : BitVec 32 := 512#32
  let v1334 : BitVec 32 := Scalar.muli v1260 c512_i32_702
  v1334
def k0_mult344 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c6_i32 : BitVec 32 := 6#32
  let v398 : BitVec 32 := Scalar.subi v248 c6_i32
  let c5_i32 : BitVec 32 := 5#32
  let v1239 : BitVec 32 := Scalar.addi v398 c5_i32
  let c1_i32_664 : BitVec 32 := 1#32
  let v1260 : BitVec 32 := Scalar.addi v1239 c1_i32_664
  let c512_i32_715 : BitVec 32 := 512#32
  let v1357 : BitVec 32 := Scalar.muli v1260 c512_i32_715
  v1357
def k0_off53 (i : grid0.Coords) : Fin 4 → Nat :=
  let c0_730 : Index := 0#32
  let c0_731 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_729 : BitVec 32 := 2#32
  let v1405 : BitVec 32 := Scalar.muli v248 c2_i32_729
  let v1406 : Index := Scalar.indexCast v1405
  let c1024_732 : Index := 1024#32
  ![0, 0, v1406.toNat, 1024]
def k0_off54 (i : grid0.Coords) : Fin 4 → Nat :=
  let c0_735 : Index := 0#32
  let c1_736 : Index := 1#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_734 : BitVec 32 := 2#32
  let v1411 : BitVec 32 := Scalar.muli v248 c2_i32_734
  let v1412 : Index := Scalar.indexCast v1411
  let c1024_737 : Index := 1024#32
  ![0, 1, v1412.toNat, 1024]
def k0_mult345 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c512_i32_739 : BitVec 32 := 512#32
  let v1418 : BitVec 32 := Scalar.muli v248 c512_i32_739
  v1418
def k0_off55 (i : grid0.Coords) : Fin 3 → Nat :=
  let c0_740 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c512_i32_739 : BitVec 32 := 512#32
  let v1418 : BitVec 32 := Scalar.muli v248 c512_i32_739
  let v1419 : BitVec 32 := v1418
  let v1420 : Index := Scalar.indexCast v1419
  let c0_741 : Index := 0#32
  ![0, v1420.toNat, 0]
def k0_mult346 : BitVec 32 :=
  let c0_i32_773 : BitVec 32 := 0#32
  c0_i32_773
def k0_mult347 : BitVec 32 :=
  let c0_i32_781 : BitVec 32 := 0#32
  c0_i32_781
def k0_mult348 : BitVec 32 :=
  let c0_i32_792 : BitVec 32 := 0#32
  c0_i32_792
def k0_mult349 : BitVec 32 :=
  let c0_i32_803 : BitVec 32 := 0#32
  c0_i32_803
def k0_off56 (i : grid0.Coords) (c0_i32_201 : BitVec 32) (c0_i32_203 : BitVec 32) : Fin 4 → Nat :=
  let c0_204 : Index := 0#32
  let c0_205 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c1024_206 : Index := 1024#32
  ![0, 0, v402.toNat, 1024]
def k0_off57 (i : grid0.Coords) (c0_i32_201 : BitVec 32) (c0_i32_213 : BitVec 32) : Fin 4 → Nat :=
  let c0_214 : Index := 0#32
  let c1_215 : Index := 1#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c1024_216 : Index := 1024#32
  ![0, 1, v412.toNat, 1024]
def k0_mult350 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c0_i32_201 : BitVec 32 := 0#32
  let v399 : BitVec 32 := Scalar.addi v398 c0_i32_201
  let c512_i32 : BitVec 32 := 512#32
  let v421 : BitVec 32 := Scalar.muli v399 c512_i32
  v421
def k0_off58 (i : grid0.Coords) (c0_i32_201 : BitVec 32) : Fin 3 → Nat :=
  let c0_223 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult351 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off59 (i : grid0.Coords) (c0_i32_201 : BitVec 32) : Fin 3 → Nat :=
  let c0_240 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult352 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult353 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult354 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult355 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c1_i32_289 : BitVec 32 := 1#32
  let v567 : BitVec 32 := Scalar.addi v398 c1_i32_289
  let c512_i32_311 : BitVec 32 := 512#32
  let v589 : BitVec 32 := Scalar.muli v567 c512_i32_311
  v589
def k0_mult356 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult357 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_335 : BitVec 32 := 512#32
  let v638 : BitVec 32 := Scalar.muli v588 c512_i32_335
  v638
def k0_mult358 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_348 : BitVec 32 := 512#32
  let v662 : BitVec 32 := Scalar.muli v588 c512_i32_348
  v662
def k0_mult359 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_200 : BitVec 32 := 2#32
  let v398 : BitVec 32 := Scalar.subi v248 c2_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_361 : BitVec 32 := 512#32
  let v685 : BitVec 32 := Scalar.muli v588 c512_i32_361
  v685
def k0_off60 (i : grid0.Coords) : Fin 4 → Nat :=
  let c0_376 : Index := 0#32
  let c0_377 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_375 : BitVec 32 := 2#32
  let v733 : BitVec 32 := Scalar.muli v248 c2_i32_375
  let v734 : Index := Scalar.indexCast v733
  let c1024_378 : Index := 1024#32
  ![0, 0, v734.toNat, 1024]
def k0_off61 (i : grid0.Coords) : Fin 4 → Nat :=
  let c0_381 : Index := 0#32
  let c1_382 : Index := 1#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c2_i32_380 : BitVec 32 := 2#32
  let v739 : BitVec 32 := Scalar.muli v248 c2_i32_380
  let v740 : Index := Scalar.indexCast v739
  let c1024_383 : Index := 1024#32
  ![0, 1, v740.toNat, 1024]
def k0_mult360 (i : grid0.Coords) : BitVec 32 :=
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c512_i32_385 : BitVec 32 := 512#32
  let v746 : BitVec 32 := Scalar.muli v248 c512_i32_385
  v746
def k0_off62 (i : grid0.Coords) : Fin 3 → Nat :=
  let c0_386 : Index := 0#32
  let c4_i32 : BitVec 32 := 4#32
  let arg2 : BitVec 32 := BitVec.ofNat 32 (i 2).val
  let v1 : BitVec 32 := Scalar.muli c4_i32 arg2
  let c2_i32 : BitVec 32 := 2#32
  let v248 : BitVec 32 := Scalar.addi v1 c2_i32
  let c512_i32_385 : BitVec 32 := 512#32
  let v746 : BitVec 32 := Scalar.muli v248 c512_i32_385
  let v747 : BitVec 32 := v746
  let v748 : Index := Scalar.indexCast v747
  let c0_387 : Index := 0#32
  ![0, v748.toNat, 0]
def k0_mult361 : BitVec 32 :=
  let c0_i32_419 : BitVec 32 := 0#32
  c0_i32_419
def k0_mult362 : BitVec 32 :=
  let c0_i32_427 : BitVec 32 := 0#32
  c0_i32_427
def k0_mult363 : BitVec 32 :=
  let c0_i32_438 : BitVec 32 := 0#32
  c0_i32_438
def k0_mult364 : BitVec 32 :=
  let c0_i32_449 : BitVec 32 := 0#32
  c0_i32_449
@[reducible] def k0_t7_loop (i : grid0.Coords) : Scf.Loop 32 :=
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_178 : BitVec 32 := 1#32
  ⟨c0_i32_176, v351, c1_i32_178⟩
def k0_off63 (i : grid0.Coords) (k0_t7 : Fin (k0_t7_loop i).trips) (c0_i32_201 : BitVec 32) (c0_i32_203 : BitVec 32) : Fin 4 → Nat :=
  let c0_204 : Index := 0#32
  let c0_205 : Index := 0#32
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c1536_206 : Index := 1536#32
  ![0, 0, v402.toNat, 1536]
def k0_off64 (i : grid0.Coords) (k0_t7 : Fin (k0_t7_loop i).trips) (c0_i32_201 : BitVec 32) (c0_i32_213 : BitVec 32) : Fin 4 → Nat :=
  let c0_214 : Index := 0#32
  let c1_215 : Index := 1#32
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c1536_216 : Index := 1536#32
  ![0, 1, v412.toNat, 1536]
def k0_mult365 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off65 (i : grid0.Coords) (k0_t7 : Fin (k0_t7_loop i).trips) (c0_i32_201 : BitVec 32) : Fin 3 → Nat :=
  let c0_223 : Index := 0#32
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult366 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off66 (i : grid0.Coords) (k0_t7 : Fin (k0_t7_loop i).trips) (c0_i32_201 : BitVec 32) : Fin 3 → Nat :=
  let c0_240 : Index := 0#32
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult367 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult368 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult369 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult370 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult371 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult372 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult373 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult374 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult375 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult376 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult377 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult378 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult379 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult380 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult381 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult382 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult383 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult384 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult385 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult386 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult387 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult388 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult389 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult390 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult391 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult392 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult393 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult394 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult395 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult396 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult397 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult398 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult399 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult400 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult401 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult402 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult403 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult404 (i : grid0.Coords) (k0_t7 : Fin (k0_t7_loop i).trips) : BitVec 32 :=
  let c8_i32_200 : BitVec 32 := 8#32
  let c0_i32_176 : BitVec 32 := 0#32
  let c1_i32_178 : BitVec 32 := 1#32
  let arg11 : BitVec 32 := Scf.iv c0_i32_176 c1_i32_178 k0_t7
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
@[reducible] def k0_t8_loop (i : grid0.Coords) : Scf.Loop 32 :=
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let v348 : BitVec 32 := Scalar.addi c0_i32_176 v347
  let c1_i32_179 : BitVec 32 := 1#32
  ⟨v351, v348, c1_i32_179⟩
def k0_off67 (i : grid0.Coords) (k0_t8 : Fin (k0_t8_loop i).trips) (c0_i32_201 : BitVec 32) (c0_i32_203 : BitVec 32) : Fin 4 → Nat :=
  let c0_204 : Index := 0#32
  let c0_205 : Index := 0#32
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c1536_206 : Index := 1536#32
  ![0, 0, v402.toNat, 1536]
def k0_off68 (i : grid0.Coords) (k0_t8 : Fin (k0_t8_loop i).trips) (c0_i32_201 : BitVec 32) (c0_i32_213 : BitVec 32) : Fin 4 → Nat :=
  let c0_214 : Index := 0#32
  let c1_215 : Index := 1#32
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c1536_216 : Index := 1536#32
  ![0, 1, v412.toNat, 1536]
def k0_mult405 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c0_i32_201 : BitVec 32 := 0#32
  let v399 : BitVec 32 := Scalar.addi v398 c0_i32_201
  let c512_i32 : BitVec 32 := 512#32
  let v421 : BitVec 32 := Scalar.muli v399 c512_i32
  v421
def k0_off69 (i : grid0.Coords) (k0_t8 : Fin (k0_t8_loop i).trips) (c0_i32_201 : BitVec 32) : Fin 3 → Nat :=
  let c0_223 : Index := 0#32
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult406 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off70 (i : grid0.Coords) (k0_t8 : Fin (k0_t8_loop i).trips) (c0_i32_201 : BitVec 32) : Fin 3 → Nat :=
  let c0_240 : Index := 0#32
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult407 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult408 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult409 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult410 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c1_i32_289 : BitVec 32 := 1#32
  let v567 : BitVec 32 := Scalar.addi v398 c1_i32_289
  let c512_i32_311 : BitVec 32 := 512#32
  let v589 : BitVec 32 := Scalar.muli v567 c512_i32_311
  v589
def k0_mult411 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult412 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult413 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult414 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult415 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c2_i32_378 : BitVec 32 := 2#32
  let v735 : BitVec 32 := Scalar.addi v398 c2_i32_378
  let c512_i32_400 : BitVec 32 := 512#32
  let v757 : BitVec 32 := Scalar.muli v735 c512_i32_400
  v757
def k0_mult416 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult417 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_425 : BitVec 32 := 512#32
  let v808 : BitVec 32 := Scalar.muli v756 c512_i32_425
  v808
def k0_mult418 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_439 : BitVec 32 := 512#32
  let v834 : BitVec 32 := Scalar.muli v756 c512_i32_439
  v834
def k0_mult419 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c2_i32_378 : BitVec 32 := 2#32
  let v735 : BitVec 32 := Scalar.addi v398 c2_i32_378
  let c1_i32_399 : BitVec 32 := 1#32
  let v756 : BitVec 32 := Scalar.addi v735 c1_i32_399
  let c512_i32_453 : BitVec 32 := 512#32
  let v859 : BitVec 32 := Scalar.muli v756 c512_i32_453
  v859
def k0_mult420 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c3_i32_467 : BitVec 32 := 3#32
  let v903 : BitVec 32 := Scalar.addi v398 c3_i32_467
  let c512_i32_489 : BitVec 32 := 512#32
  let v925 : BitVec 32 := Scalar.muli v903 c512_i32_489
  v925
def k0_mult421 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_506 : BitVec 32 := 512#32
  let v964 : BitVec 32 := Scalar.muli v924 c512_i32_506
  v964
def k0_mult422 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_514 : BitVec 32 := 512#32
  let v976 : BitVec 32 := Scalar.muli v924 c512_i32_514
  v976
def k0_mult423 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_528 : BitVec 32 := 512#32
  let v1002 : BitVec 32 := Scalar.muli v924 c512_i32_528
  v1002
def k0_mult424 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c3_i32_467 : BitVec 32 := 3#32
  let v903 : BitVec 32 := Scalar.addi v398 c3_i32_467
  let c1_i32_488 : BitVec 32 := 1#32
  let v924 : BitVec 32 := Scalar.addi v903 c1_i32_488
  let c512_i32_542 : BitVec 32 := 512#32
  let v1027 : BitVec 32 := Scalar.muli v924 c512_i32_542
  v1027
def k0_mult425 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c4_i32_556 : BitVec 32 := 4#32
  let v1071 : BitVec 32 := Scalar.addi v398 c4_i32_556
  let c512_i32_578 : BitVec 32 := 512#32
  let v1093 : BitVec 32 := Scalar.muli v1071 c512_i32_578
  v1093
def k0_mult426 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_595 : BitVec 32 := 512#32
  let v1132 : BitVec 32 := Scalar.muli v1092 c512_i32_595
  v1132
def k0_mult427 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_603 : BitVec 32 := 512#32
  let v1144 : BitVec 32 := Scalar.muli v1092 c512_i32_603
  v1144
def k0_mult428 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_617 : BitVec 32 := 512#32
  let v1170 : BitVec 32 := Scalar.muli v1092 c512_i32_617
  v1170
def k0_mult429 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c4_i32_556 : BitVec 32 := 4#32
  let v1071 : BitVec 32 := Scalar.addi v398 c4_i32_556
  let c1_i32_577 : BitVec 32 := 1#32
  let v1092 : BitVec 32 := Scalar.addi v1071 c1_i32_577
  let c512_i32_631 : BitVec 32 := 512#32
  let v1195 : BitVec 32 := Scalar.muli v1092 c512_i32_631
  v1195
def k0_mult430 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c5_i32 : BitVec 32 := 5#32
  let v1239 : BitVec 32 := Scalar.addi v398 c5_i32
  let c512_i32_666 : BitVec 32 := 512#32
  let v1261 : BitVec 32 := Scalar.muli v1239 c512_i32_666
  v1261
def k0_mult431 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_683 : BitVec 32 := 512#32
  let v1300 : BitVec 32 := Scalar.muli v1260 c512_i32_683
  v1300
def k0_mult432 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_691 : BitVec 32 := 512#32
  let v1312 : BitVec 32 := Scalar.muli v1260 c512_i32_691
  v1312
def k0_mult433 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_705 : BitVec 32 := 512#32
  let v1338 : BitVec 32 := Scalar.muli v1260 c512_i32_705
  v1338
def k0_mult434 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c5_i32 : BitVec 32 := 5#32
  let v1239 : BitVec 32 := Scalar.addi v398 c5_i32
  let c1_i32_665 : BitVec 32 := 1#32
  let v1260 : BitVec 32 := Scalar.addi v1239 c1_i32_665
  let c512_i32_719 : BitVec 32 := 512#32
  let v1363 : BitVec 32 := Scalar.muli v1260 c512_i32_719
  v1363
def k0_mult435 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c6_i32 : BitVec 32 := 6#32
  let v1407 : BitVec 32 := Scalar.addi v398 c6_i32
  let c512_i32_754 : BitVec 32 := 512#32
  let v1429 : BitVec 32 := Scalar.muli v1407 c512_i32_754
  v1429
def k0_mult436 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_771 : BitVec 32 := 512#32
  let v1468 : BitVec 32 := Scalar.muli v1428 c512_i32_771
  v1468
def k0_mult437 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_779 : BitVec 32 := 512#32
  let v1480 : BitVec 32 := Scalar.muli v1428 c512_i32_779
  v1480
def k0_mult438 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_793 : BitVec 32 := 512#32
  let v1506 : BitVec 32 := Scalar.muli v1428 c512_i32_793
  v1506
def k0_mult439 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c6_i32 : BitVec 32 := 6#32
  let v1407 : BitVec 32 := Scalar.addi v398 c6_i32
  let c1_i32_753 : BitVec 32 := 1#32
  let v1428 : BitVec 32 := Scalar.addi v1407 c1_i32_753
  let c512_i32_807 : BitVec 32 := 512#32
  let v1531 : BitVec 32 := Scalar.muli v1428 c512_i32_807
  v1531
def k0_mult440 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c7_i32 : BitVec 32 := 7#32
  let v1575 : BitVec 32 := Scalar.addi v398 c7_i32
  let c512_i32_842 : BitVec 32 := 512#32
  let v1597 : BitVec 32 := Scalar.muli v1575 c512_i32_842
  v1597
def k0_mult441 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_859 : BitVec 32 := 512#32
  let v1636 : BitVec 32 := Scalar.muli v1596 c512_i32_859
  v1636
def k0_mult442 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_867 : BitVec 32 := 512#32
  let v1648 : BitVec 32 := Scalar.muli v1596 c512_i32_867
  v1648
def k0_mult443 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_881 : BitVec 32 := 512#32
  let v1674 : BitVec 32 := Scalar.muli v1596 c512_i32_881
  v1674
def k0_mult444 (i : grid0.Coords) (k0_t8 : Fin (k0_t8_loop i).trips) : BitVec 32 :=
  let c8_i32_200 : BitVec 32 := 8#32
  let c0_i32_176 : BitVec 32 := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c0_i32_170 : BitVec 32 := 0#32
  let v331 : BitVec 1 := Scalar.cmpi .sgt v323 c0_i32_170
  let v332 : BitVec 32 := Scalar.extui v331
  let c0_i32_171 : BitVec 32 := 0#32
  let v333 : BitVec 1 := Scalar.cmpi .slt v323 c0_i32_171
  let v334 : BitVec 32 := Scalar.extui v333
  let v335 : BitVec 32 := Scalar.subi v332 v334
  let c8_i32_169 : BitVec 32 := 8#32
  let c0_i32_172 : BitVec 32 := 0#32
  let v336 : BitVec 1 := Scalar.cmpi .sgt c8_i32_169 c0_i32_172
  let v337 : BitVec 32 := Scalar.extui v336
  let c0_i32_173 : BitVec 32 := 0#32
  let v338 : BitVec 1 := Scalar.cmpi .slt c8_i32_169 c0_i32_173
  let v339 : BitVec 32 := Scalar.extui v338
  let v340 : BitVec 32 := Scalar.subi v337 v339
  let v341 : BitVec 1 := Scalar.cmpi .ne v335 v340
  let v342 : BitVec 32 := Scalar.remsi v323 c8_i32_169
  let c0_i32_174 : BitVec 32 := 0#32
  let v343 : BitVec 1 := Scalar.cmpi .ne v342 c0_i32_174
  let v344 : BitVec 1 := Scalar.andi v341 v343
  let v330 : BitVec 32 := Scalar.divsi v323 c8_i32_169
  let c1_i32_175 : BitVec 32 := 1#32
  let v345 : BitVec 32 := Scalar.subi v330 c1_i32_175
  let v346 : BitVec 32 := Scalar.select v344 v345 v330
  let v347 : BitVec 32 := Scalar.subi v346 c0_i32_176
  let c1_i32_177 : BitVec 32 := 1#32
  let v349 : BitVec 32 := Scalar.divsi v347 c1_i32_177
  let v350 : BitVec 32 := Scalar.muli v349 c1_i32_177
  let v351 : BitVec 32 := Scalar.addi c0_i32_176 v350
  let c1_i32_179 : BitVec 32 := 1#32
  let arg11 : BitVec 32 := Scf.iv v351 c1_i32_179 k0_t8
  let v398 : BitVec 32 := Scalar.muli c8_i32_200 arg11
  let c7_i32 : BitVec 32 := 7#32
  let v1575 : BitVec 32 := Scalar.addi v398 c7_i32
  let c1_i32_841 : BitVec 32 := 1#32
  let v1596 : BitVec 32 := Scalar.addi v1575 c1_i32_841
  let c512_i32_895 : BitVec 32 := 512#32
  let v1699 : BitVec 32 := Scalar.muli v1596 c512_i32_895
  v1699
def k0_cond4 (i : grid0.Coords) : BitVec 1 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c8_i32_180 : BitVec 32 := 8#32
  let v354 : BitVec 32 := Scalar.remsi v323 c8_i32_180
  let c0_i32_182 : BitVec 32 := 0#32
  let v356 : BitVec 1 := Scalar.cmpi .sgt v354 c0_i32_182
  let v357 : BitVec 32 := Scalar.extui v356
  let c0_i32_183 : BitVec 32 := 0#32
  let v358 : BitVec 1 := Scalar.cmpi .slt v354 c0_i32_183
  let v359 : BitVec 32 := Scalar.extui v358
  let v360 : BitVec 32 := Scalar.subi v357 v359
  let c4_i32_181 : BitVec 32 := 4#32
  let c0_i32_184 : BitVec 32 := 0#32
  let v361 : BitVec 1 := Scalar.cmpi .sgt c4_i32_181 c0_i32_184
  let v362 : BitVec 32 := Scalar.extui v361
  let c0_i32_185 : BitVec 32 := 0#32
  let v363 : BitVec 1 := Scalar.cmpi .slt c4_i32_181 c0_i32_185
  let v364 : BitVec 32 := Scalar.extui v363
  let v365 : BitVec 32 := Scalar.subi v362 v364
  let v366 : BitVec 1 := Scalar.cmpi .ne v360 v365
  let v367 : BitVec 32 := Scalar.remsi v354 c4_i32_181
  let c0_i32_186 : BitVec 32 := 0#32
  let v368 : BitVec 1 := Scalar.cmpi .ne v367 c0_i32_186
  let v369 : BitVec 1 := Scalar.andi v366 v368
  let v355 : BitVec 32 := Scalar.divsi v354 c4_i32_181
  let c1_i32_187 : BitVec 32 := 1#32
  let v370 : BitVec 32 := Scalar.subi v355 c1_i32_187
  let v371 : BitVec 32 := Scalar.select v369 v370 v355
  let c0_i32_188 : BitVec 32 := 0#32
  let v372 : BitVec 32 := Scalar.maxsi v371 c0_i32_188
  let c1_i32_189 : BitVec 32 := 1#32
  let v373 : BitVec 32 := Scalar.minsi v372 c1_i32_189
  let c0_i32_190 : BitVec 32 := 0#32
  let v374 : BitVec 1 := Scalar.cmpi .ne v373 c0_i32_190
  v374

def k0_off71 (i : grid0.Coords) (c0_i32_200 : BitVec 32) (c0_i32_202 : BitVec 32) : Fin 4 → Nat :=
  let c0_203 : Index := 0#32
  let c0_204 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let v399 : BitVec 32 := Scalar.addi v398 c0_i32_200
  let c2_i32_201 : BitVec 32 := 2#32
  let v400 : BitVec 32 := Scalar.muli v399 c2_i32_201
  let v401 : BitVec 32 := Scalar.addi v400 c0_i32_202
  let v402 : Index := Scalar.indexCast v401
  let c1536_205 : Index := 1536#32
  ![0, 0, v402.toNat, 1536]
def k0_off72 (i : grid0.Coords) (c0_i32_200 : BitVec 32) (c0_i32_212 : BitVec 32) : Fin 4 → Nat :=
  let c0_213 : Index := 0#32
  let c1_214 : Index := 1#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let v399 : BitVec 32 := Scalar.addi v398 c0_i32_200
  let c2_i32_211 : BitVec 32 := 2#32
  let v410 : BitVec 32 := Scalar.muli v399 c2_i32_211
  let v411 : BitVec 32 := Scalar.addi v410 c0_i32_212
  let v412 : Index := Scalar.indexCast v411
  let c1536_215 : Index := 1536#32
  ![0, 1, v412.toNat, 1536]
def k0_mult445 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c0_i32_200 : BitVec 32 := 0#32
  let v399 : BitVec 32 := Scalar.addi v398 c0_i32_200
  let c512_i32 : BitVec 32 := 512#32
  let v421 : BitVec 32 := Scalar.muli v399 c512_i32
  v421
def k0_off73 (i : grid0.Coords) (c0_i32_200 : BitVec 32) : Fin 3 → Nat :=
  let c0_222 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let v399 : BitVec 32 := Scalar.addi v398 c0_i32_200
  let c512_i32 : BitVec 32 := 512#32
  let v421 : BitVec 32 := Scalar.muli v399 c512_i32
  let v422 : BitVec 32 := v421
  let v423 : Index := Scalar.indexCast v422
  let c0_223 : Index := 0#32
  ![0, v423.toNat, 0]
def k0_mult446 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c0_i32_200 : BitVec 32 := 0#32
  let v399 : BitVec 32 := Scalar.addi v398 c0_i32_200
  let c1_i32_221 : BitVec 32 := 1#32
  let v420 : BitVec 32 := Scalar.addi v399 c1_i32_221
  let c512_i32_238 : BitVec 32 := 512#32
  let v460 : BitVec 32 := Scalar.muli v420 c512_i32_238
  v460
def k0_off74 (i : grid0.Coords) (c0_i32_200 : BitVec 32) : Fin 3 → Nat :=
  let c0_239 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let v399 : BitVec 32 := Scalar.addi v398 c0_i32_200
  let c1_i32_221 : BitVec 32 := 1#32
  let v420 : BitVec 32 := Scalar.addi v399 c1_i32_221
  let c512_i32_238 : BitVec 32 := 512#32
  let v460 : BitVec 32 := Scalar.muli v420 c512_i32_238
  let v461 : BitVec 32 := v460
  let v462 : Index := Scalar.indexCast v461
  let c0_240 : Index := 0#32
  ![0, v462.toNat, 0]
def k0_mult447 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c0_i32_200 : BitVec 32 := 0#32
  let v399 : BitVec 32 := Scalar.addi v398 c0_i32_200
  let c1_i32_221 : BitVec 32 := 1#32
  let v420 : BitVec 32 := Scalar.addi v399 c1_i32_221
  let c512_i32_246 : BitVec 32 := 512#32
  let v472 : BitVec 32 := Scalar.muli v420 c512_i32_246
  v472
def k0_mult448 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c0_i32_200 : BitVec 32 := 0#32
  let v399 : BitVec 32 := Scalar.addi v398 c0_i32_200
  let c1_i32_221 : BitVec 32 := 1#32
  let v420 : BitVec 32 := Scalar.addi v399 c1_i32_221
  let c512_i32_260 : BitVec 32 := 512#32
  let v498 : BitVec 32 := Scalar.muli v420 c512_i32_260
  v498
def k0_mult449 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c0_i32_200 : BitVec 32 := 0#32
  let v399 : BitVec 32 := Scalar.addi v398 c0_i32_200
  let c1_i32_221 : BitVec 32 := 1#32
  let v420 : BitVec 32 := Scalar.addi v399 c1_i32_221
  let c512_i32_274 : BitVec 32 := 512#32
  let v523 : BitVec 32 := Scalar.muli v420 c512_i32_274
  v523
def k0_mult450 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c1_i32_288 : BitVec 32 := 1#32
  let v567 : BitVec 32 := Scalar.addi v398 c1_i32_288
  let c512_i32_310 : BitVec 32 := 512#32
  let v589 : BitVec 32 := Scalar.muli v567 c512_i32_310
  v589
def k0_mult451 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c1_i32_288 : BitVec 32 := 1#32
  let v567 : BitVec 32 := Scalar.addi v398 c1_i32_288
  let c1_i32_309 : BitVec 32 := 1#32
  let v588 : BitVec 32 := Scalar.addi v567 c1_i32_309
  let c512_i32_327 : BitVec 32 := 512#32
  let v628 : BitVec 32 := Scalar.muli v588 c512_i32_327
  v628
def k0_mult452 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c1_i32_288 : BitVec 32 := 1#32
  let v567 : BitVec 32 := Scalar.addi v398 c1_i32_288
  let c1_i32_309 : BitVec 32 := 1#32
  let v588 : BitVec 32 := Scalar.addi v567 c1_i32_309
  let c512_i32_335 : BitVec 32 := 512#32
  let v640 : BitVec 32 := Scalar.muli v588 c512_i32_335
  v640
def k0_mult453 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c1_i32_288 : BitVec 32 := 1#32
  let v567 : BitVec 32 := Scalar.addi v398 c1_i32_288
  let c1_i32_309 : BitVec 32 := 1#32
  let v588 : BitVec 32 := Scalar.addi v567 c1_i32_309
  let c512_i32_349 : BitVec 32 := 512#32
  let v666 : BitVec 32 := Scalar.muli v588 c512_i32_349
  v666
def k0_mult454 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c1_i32_288 : BitVec 32 := 1#32
  let v567 : BitVec 32 := Scalar.addi v398 c1_i32_288
  let c1_i32_309 : BitVec 32 := 1#32
  let v588 : BitVec 32 := Scalar.addi v567 c1_i32_309
  let c512_i32_363 : BitVec 32 := 512#32
  let v691 : BitVec 32 := Scalar.muli v588 c512_i32_363
  v691
def k0_mult455 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c2_i32_377 : BitVec 32 := 2#32
  let v735 : BitVec 32 := Scalar.addi v398 c2_i32_377
  let c512_i32_399 : BitVec 32 := 512#32
  let v757 : BitVec 32 := Scalar.muli v735 c512_i32_399
  v757
def k0_mult456 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c2_i32_377 : BitVec 32 := 2#32
  let v735 : BitVec 32 := Scalar.addi v398 c2_i32_377
  let c1_i32_398 : BitVec 32 := 1#32
  let v756 : BitVec 32 := Scalar.addi v735 c1_i32_398
  let c512_i32_416 : BitVec 32 := 512#32
  let v796 : BitVec 32 := Scalar.muli v756 c512_i32_416
  v796
def k0_mult457 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c2_i32_377 : BitVec 32 := 2#32
  let v735 : BitVec 32 := Scalar.addi v398 c2_i32_377
  let c1_i32_398 : BitVec 32 := 1#32
  let v756 : BitVec 32 := Scalar.addi v735 c1_i32_398
  let c512_i32_424 : BitVec 32 := 512#32
  let v808 : BitVec 32 := Scalar.muli v756 c512_i32_424
  v808
def k0_mult458 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c2_i32_377 : BitVec 32 := 2#32
  let v735 : BitVec 32 := Scalar.addi v398 c2_i32_377
  let c1_i32_398 : BitVec 32 := 1#32
  let v756 : BitVec 32 := Scalar.addi v735 c1_i32_398
  let c512_i32_438 : BitVec 32 := 512#32
  let v834 : BitVec 32 := Scalar.muli v756 c512_i32_438
  v834
def k0_mult459 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c2_i32_377 : BitVec 32 := 2#32
  let v735 : BitVec 32 := Scalar.addi v398 c2_i32_377
  let c1_i32_398 : BitVec 32 := 1#32
  let v756 : BitVec 32 := Scalar.addi v735 c1_i32_398
  let c512_i32_452 : BitVec 32 := 512#32
  let v859 : BitVec 32 := Scalar.muli v756 c512_i32_452
  v859
def k0_mult460 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c3_i32_466 : BitVec 32 := 3#32
  let v903 : BitVec 32 := Scalar.addi v398 c3_i32_466
  let c512_i32_488 : BitVec 32 := 512#32
  let v925 : BitVec 32 := Scalar.muli v903 c512_i32_488
  v925
def k0_mult461 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c3_i32_466 : BitVec 32 := 3#32
  let v903 : BitVec 32 := Scalar.addi v398 c3_i32_466
  let c1_i32_487 : BitVec 32 := 1#32
  let v924 : BitVec 32 := Scalar.addi v903 c1_i32_487
  let c512_i32_505 : BitVec 32 := 512#32
  let v964 : BitVec 32 := Scalar.muli v924 c512_i32_505
  v964
def k0_mult462 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c3_i32_466 : BitVec 32 := 3#32
  let v903 : BitVec 32 := Scalar.addi v398 c3_i32_466
  let c1_i32_487 : BitVec 32 := 1#32
  let v924 : BitVec 32 := Scalar.addi v903 c1_i32_487
  let c512_i32_513 : BitVec 32 := 512#32
  let v976 : BitVec 32 := Scalar.muli v924 c512_i32_513
  v976
def k0_mult463 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c3_i32_466 : BitVec 32 := 3#32
  let v903 : BitVec 32 := Scalar.addi v398 c3_i32_466
  let c1_i32_487 : BitVec 32 := 1#32
  let v924 : BitVec 32 := Scalar.addi v903 c1_i32_487
  let c512_i32_527 : BitVec 32 := 512#32
  let v1002 : BitVec 32 := Scalar.muli v924 c512_i32_527
  v1002
def k0_mult464 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c3_i32_466 : BitVec 32 := 3#32
  let v903 : BitVec 32 := Scalar.addi v398 c3_i32_466
  let c1_i32_487 : BitVec 32 := 1#32
  let v924 : BitVec 32 := Scalar.addi v903 c1_i32_487
  let c512_i32_541 : BitVec 32 := 512#32
  let v1027 : BitVec 32 := Scalar.muli v924 c512_i32_541
  v1027
def k0_mult465 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c4_i32_555 : BitVec 32 := 4#32
  let v1071 : BitVec 32 := Scalar.addi v398 c4_i32_555
  let c512_i32_577 : BitVec 32 := 512#32
  let v1093 : BitVec 32 := Scalar.muli v1071 c512_i32_577
  v1093
def k0_mult466 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_594 : BitVec 32 := 512#32
  let v1132 : BitVec 32 := Scalar.muli v1092 c512_i32_594
  v1132
def k0_mult467 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_602 : BitVec 32 := 512#32
  let v1144 : BitVec 32 := Scalar.muli v1092 c512_i32_602
  v1144
def k0_mult468 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_616 : BitVec 32 := 512#32
  let v1170 : BitVec 32 := Scalar.muli v1092 c512_i32_616
  v1170
def k0_mult469 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c4_i32_555 : BitVec 32 := 4#32
  let v1071 : BitVec 32 := Scalar.addi v398 c4_i32_555
  let c1_i32_576 : BitVec 32 := 1#32
  let v1092 : BitVec 32 := Scalar.addi v1071 c1_i32_576
  let c512_i32_630 : BitVec 32 := 512#32
  let v1195 : BitVec 32 := Scalar.muli v1092 c512_i32_630
  v1195
def k0_mult470 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c5_i32 : BitVec 32 := 5#32
  let v1239 : BitVec 32 := Scalar.addi v398 c5_i32
  let c512_i32_665 : BitVec 32 := 512#32
  let v1261 : BitVec 32 := Scalar.muli v1239 c512_i32_665
  v1261
def k0_mult471 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c5_i32 : BitVec 32 := 5#32
  let v1239 : BitVec 32 := Scalar.addi v398 c5_i32
  let c1_i32_664 : BitVec 32 := 1#32
  let v1260 : BitVec 32 := Scalar.addi v1239 c1_i32_664
  let c512_i32_682 : BitVec 32 := 512#32
  let v1300 : BitVec 32 := Scalar.muli v1260 c512_i32_682
  v1300
def k0_mult472 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c5_i32 : BitVec 32 := 5#32
  let v1239 : BitVec 32 := Scalar.addi v398 c5_i32
  let c1_i32_664 : BitVec 32 := 1#32
  let v1260 : BitVec 32 := Scalar.addi v1239 c1_i32_664
  let c512_i32_690 : BitVec 32 := 512#32
  let v1312 : BitVec 32 := Scalar.muli v1260 c512_i32_690
  v1312
def k0_mult473 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c5_i32 : BitVec 32 := 5#32
  let v1239 : BitVec 32 := Scalar.addi v398 c5_i32
  let c1_i32_664 : BitVec 32 := 1#32
  let v1260 : BitVec 32 := Scalar.addi v1239 c1_i32_664
  let c512_i32_704 : BitVec 32 := 512#32
  let v1338 : BitVec 32 := Scalar.muli v1260 c512_i32_704
  v1338
def k0_mult474 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c5_i32 : BitVec 32 := 5#32
  let v1239 : BitVec 32 := Scalar.addi v398 c5_i32
  let c1_i32_664 : BitVec 32 := 1#32
  let v1260 : BitVec 32 := Scalar.addi v1239 c1_i32_664
  let c512_i32_718 : BitVec 32 := 512#32
  let v1363 : BitVec 32 := Scalar.muli v1260 c512_i32_718
  v1363
def k0_mult475 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c6_i32 : BitVec 32 := 6#32
  let v1407 : BitVec 32 := Scalar.addi v398 c6_i32
  let c512_i32_753 : BitVec 32 := 512#32
  let v1429 : BitVec 32 := Scalar.muli v1407 c512_i32_753
  v1429
def k0_mult476 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c6_i32 : BitVec 32 := 6#32
  let v1407 : BitVec 32 := Scalar.addi v398 c6_i32
  let c1_i32_752 : BitVec 32 := 1#32
  let v1428 : BitVec 32 := Scalar.addi v1407 c1_i32_752
  let c512_i32_770 : BitVec 32 := 512#32
  let v1468 : BitVec 32 := Scalar.muli v1428 c512_i32_770
  v1468
def k0_mult477 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c6_i32 : BitVec 32 := 6#32
  let v1407 : BitVec 32 := Scalar.addi v398 c6_i32
  let c1_i32_752 : BitVec 32 := 1#32
  let v1428 : BitVec 32 := Scalar.addi v1407 c1_i32_752
  let c512_i32_777 : BitVec 32 := 512#32
  let v1478 : BitVec 32 := Scalar.muli v1428 c512_i32_777
  v1478
def k0_mult478 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c6_i32 : BitVec 32 := 6#32
  let v1407 : BitVec 32 := Scalar.addi v398 c6_i32
  let c1_i32_752 : BitVec 32 := 1#32
  let v1428 : BitVec 32 := Scalar.addi v1407 c1_i32_752
  let c512_i32_790 : BitVec 32 := 512#32
  let v1502 : BitVec 32 := Scalar.muli v1428 c512_i32_790
  v1502
def k0_mult479 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c7_i32 : BitVec 32 := 7#32
  let v398 : BitVec 32 := Scalar.subi v323 c7_i32
  let c6_i32 : BitVec 32 := 6#32
  let v1407 : BitVec 32 := Scalar.addi v398 c6_i32
  let c1_i32_752 : BitVec 32 := 1#32
  let v1428 : BitVec 32 := Scalar.addi v1407 c1_i32_752
  let c512_i32_803 : BitVec 32 := 512#32
  let v1525 : BitVec 32 := Scalar.muli v1428 c512_i32_803
  v1525
def k0_off75 (i : grid0.Coords) : Fin 4 → Nat :=
  let c0_818 : Index := 0#32
  let c0_819 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c2_i32_817 : BitVec 32 := 2#32
  let v1573 : BitVec 32 := Scalar.muli v323 c2_i32_817
  let v1574 : Index := Scalar.indexCast v1573
  let c1536_820 : Index := 1536#32
  ![0, 0, v1574.toNat, 1536]
def k0_off76 (i : grid0.Coords) : Fin 4 → Nat :=
  let c0_823 : Index := 0#32
  let c1_824 : Index := 1#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c2_i32_822 : BitVec 32 := 2#32
  let v1579 : BitVec 32 := Scalar.muli v323 c2_i32_822
  let v1580 : Index := Scalar.indexCast v1579
  let c1536_825 : Index := 1536#32
  ![0, 1, v1580.toNat, 1536]
def k0_mult480 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c512_i32_827 : BitVec 32 := 512#32
  let v1586 : BitVec 32 := Scalar.muli v323 c512_i32_827
  v1586
def k0_off77 (i : grid0.Coords) : Fin 3 → Nat :=
  let c0_828 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c512_i32_827 : BitVec 32 := 512#32
  let v1586 : BitVec 32 := Scalar.muli v323 c512_i32_827
  let v1587 : BitVec 32 := v1586
  let v1588 : Index := Scalar.indexCast v1587
  let c0_829 : Index := 0#32
  ![0, v1588.toNat, 0]
def k0_off78 (i : grid0.Coords) (c0_i32_201 : BitVec 32) (c0_i32_203 : BitVec 32) : Fin 4 → Nat :=
  let c0_204 : Index := 0#32
  let c0_205 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let v399 : BitVec 32 := Scalar.addi v398 c0_i32_201
  let c2_i32_202 : BitVec 32 := 2#32
  let v400 : BitVec 32 := Scalar.muli v399 c2_i32_202
  let v401 : BitVec 32 := Scalar.addi v400 c0_i32_203
  let v402 : Index := Scalar.indexCast v401
  let c1536_206 : Index := 1536#32
  ![0, 0, v402.toNat, 1536]
def k0_off79 (i : grid0.Coords) (c0_i32_201 : BitVec 32) (c0_i32_213 : BitVec 32) : Fin 4 → Nat :=
  let c0_214 : Index := 0#32
  let c1_215 : Index := 1#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let v399 : BitVec 32 := Scalar.addi v398 c0_i32_201
  let c2_i32_212 : BitVec 32 := 2#32
  let v410 : BitVec 32 := Scalar.muli v399 c2_i32_212
  let v411 : BitVec 32 := Scalar.addi v410 c0_i32_213
  let v412 : Index := Scalar.indexCast v411
  let c1536_216 : Index := 1536#32
  ![0, 1, v412.toNat, 1536]
def k0_mult481 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c0_i32_201 : BitVec 32 := 0#32
  let v399 : BitVec 32 := Scalar.addi v398 c0_i32_201
  let c512_i32 : BitVec 32 := 512#32
  let v421 : BitVec 32 := Scalar.muli v399 c512_i32
  v421
def k0_off80 (i : grid0.Coords) (c0_i32_201 : BitVec 32) : Fin 3 → Nat :=
  let c0_223 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let v399 : BitVec 32 := Scalar.addi v398 c0_i32_201
  let c512_i32 : BitVec 32 := 512#32
  let v421 : BitVec 32 := Scalar.muli v399 c512_i32
  let v422 : BitVec 32 := v421
  let v423 : Index := Scalar.indexCast v422
  let c0_224 : Index := 0#32
  ![0, v423.toNat, 0]
def k0_mult482 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  v460
def k0_off81 (i : grid0.Coords) (c0_i32_201 : BitVec 32) : Fin 3 → Nat :=
  let c0_240 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let v399 : BitVec 32 := Scalar.addi v398 c0_i32_201
  let c1_i32_222 : BitVec 32 := 1#32
  let v420 : BitVec 32 := Scalar.addi v399 c1_i32_222
  let c512_i32_239 : BitVec 32 := 512#32
  let v460 : BitVec 32 := Scalar.muli v420 c512_i32_239
  let v461 : BitVec 32 := v460
  let v462 : Index := Scalar.indexCast v461
  let c0_241 : Index := 0#32
  ![0, v462.toNat, 0]
def k0_mult483 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_247 : BitVec 32 := 512#32
  let v472 : BitVec 32 := Scalar.muli v420 c512_i32_247
  v472
def k0_mult484 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_261 : BitVec 32 := 512#32
  let v498 : BitVec 32 := Scalar.muli v420 c512_i32_261
  v498
def k0_mult485 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c0_i32_201 : BitVec 32 := 0#32
  let v399 : BitVec 32 := Scalar.addi v398 c0_i32_201
  let c1_i32_222 : BitVec 32 := 1#32
  let v420 : BitVec 32 := Scalar.addi v399 c1_i32_222
  let c512_i32_275 : BitVec 32 := 512#32
  let v523 : BitVec 32 := Scalar.muli v420 c512_i32_275
  v523
def k0_mult486 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c1_i32_289 : BitVec 32 := 1#32
  let v567 : BitVec 32 := Scalar.addi v398 c1_i32_289
  let c512_i32_311 : BitVec 32 := 512#32
  let v589 : BitVec 32 := Scalar.muli v567 c512_i32_311
  v589
def k0_mult487 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_328 : BitVec 32 := 512#32
  let v628 : BitVec 32 := Scalar.muli v588 c512_i32_328
  v628
def k0_mult488 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_336 : BitVec 32 := 512#32
  let v640 : BitVec 32 := Scalar.muli v588 c512_i32_336
  v640
def k0_mult489 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_350 : BitVec 32 := 512#32
  let v666 : BitVec 32 := Scalar.muli v588 c512_i32_350
  v666
def k0_mult490 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c1_i32_289 : BitVec 32 := 1#32
  let v567 : BitVec 32 := Scalar.addi v398 c1_i32_289
  let c1_i32_310 : BitVec 32 := 1#32
  let v588 : BitVec 32 := Scalar.addi v567 c1_i32_310
  let c512_i32_364 : BitVec 32 := 512#32
  let v691 : BitVec 32 := Scalar.muli v588 c512_i32_364
  v691
def k0_mult491 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c2_i32_378 : BitVec 32 := 2#32
  let v735 : BitVec 32 := Scalar.addi v398 c2_i32_378
  let c512_i32_400 : BitVec 32 := 512#32
  let v757 : BitVec 32 := Scalar.muli v735 c512_i32_400
  v757
def k0_mult492 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_417 : BitVec 32 := 512#32
  let v796 : BitVec 32 := Scalar.muli v756 c512_i32_417
  v796
def k0_mult493 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_424 : BitVec 32 := 512#32
  let v806 : BitVec 32 := Scalar.muli v756 c512_i32_424
  v806
def k0_mult494 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_437 : BitVec 32 := 512#32
  let v830 : BitVec 32 := Scalar.muli v756 c512_i32_437
  v830
def k0_mult495 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c3_i32_200 : BitVec 32 := 3#32
  let v398 : BitVec 32 := Scalar.subi v323 c3_i32_200
  let c2_i32_378 : BitVec 32 := 2#32
  let v735 : BitVec 32 := Scalar.addi v398 c2_i32_378
  let c1_i32_399 : BitVec 32 := 1#32
  let v756 : BitVec 32 := Scalar.addi v735 c1_i32_399
  let c512_i32_450 : BitVec 32 := 512#32
  let v853 : BitVec 32 := Scalar.muli v756 c512_i32_450
  v853
def k0_off82 (i : grid0.Coords) : Fin 4 → Nat :=
  let c0_465 : Index := 0#32
  let c0_466 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c2_i32_464 : BitVec 32 := 2#32
  let v901 : BitVec 32 := Scalar.muli v323 c2_i32_464
  let v902 : Index := Scalar.indexCast v901
  let c1536_467 : Index := 1536#32
  ![0, 0, v902.toNat, 1536]
def k0_off83 (i : grid0.Coords) : Fin 4 → Nat :=
  let c0_470 : Index := 0#32
  let c1_471 : Index := 1#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c2_i32_469 : BitVec 32 := 2#32
  let v907 : BitVec 32 := Scalar.muli v323 c2_i32_469
  let v908 : Index := Scalar.indexCast v907
  let c1536_472 : Index := 1536#32
  ![0, 1, v908.toNat, 1536]
def k0_mult496 (i : grid0.Coords) : BitVec 32 :=
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c512_i32_474 : BitVec 32 := 512#32
  let v914 : BitVec 32 := Scalar.muli v323 c512_i32_474
  v914
def k0_off84 (i : grid0.Coords) : Fin 3 → Nat :=
  let c0_475 : Index := 0#32
  let c4_i32 : BitVec 32 := 4#32
  let arg2 : BitVec 32 := BitVec.ofNat 32 (i 2).val
  let v1 : BitVec 32 := Scalar.muli c4_i32 arg2
  let c3_i32 : BitVec 32 := 3#32
  let v323 : BitVec 32 := Scalar.addi v1 c3_i32
  let c512_i32_474 : BitVec 32 := 512#32
  let v914 : BitVec 32 := Scalar.muli v323 c512_i32_474
  let v915 : BitVec 32 := v914
  let v916 : Index := Scalar.indexCast v915
  let c0_476 : Index := 0#32
  ![0, v916.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "big" => some ⊤
  | "mask" => some ⊥
  | _ => none
-- ==== ReferenceIdeal.lean ====
abbrev S4x8192x512 : Shape := ⟨3, ![4, 8192, 512]⟩
abbrev S4x8x32x8192 : Shape := ⟨4, ![4, 8, 32, 8192]⟩
abbrev S4x8192x8x64 : Shape := ⟨4, ![4, 8192, 8, 64]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192x32 : Shape := ⟨4, ![4, 8, 8192, 32]⟩
abbrev S4x8x8192x32x256 : Shape := ⟨5, ![4, 8, 8192, 32, 256]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8x32x8192, .f32⟩
  | .hbm, ⟨5, _⟩ => ⟨S4x8192x8x64, .f32⟩
  | .hbm, ⟨6, _⟩ => ⟨S4x8192x8x64, .f32⟩
  | .hbm, ⟨7, _⟩ => ⟨S4x8192x8x64, .f32⟩
  | .hbm, ⟨8, _⟩ => ⟨S4x8x8192x8192, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S4x8x8192x32, .f32⟩
  | .hbm, ⟨33, _⟩ => ⟨S4x8x8192x32x256, .f32⟩
  | .hbm, ⟨34, _⟩ => ⟨S4x8x8192x8192, .f32⟩
  | .hbm, ⟨35, _⟩ => ⟨S_, .f32⟩
  | .hbm, ⟨36, _⟩ => ⟨S4x8x8192x8192, .f32⟩
  | .hbm, ⟨37, _⟩ => ⟨S4x8x8192x8192, .i1⟩
  | .hbm, ⟨38, _⟩ => ⟨S1x1x8192x8192, .i1⟩
  | .hbm, ⟨39, _⟩ => ⟨S1x1x8192x8192, .i1⟩
  | .hbm, ⟨40, _⟩ => ⟨S4x8x8192x8192, .i1⟩
  | .hbm, ⟨41, _⟩ => ⟨S4x8x8192x8192, .i1⟩
  | .hbm, ⟨42, _⟩ => ⟨S4x8x8192x8192, .i1⟩
  | .hbm, ⟨43, _⟩ => ⟨S4x8x8192x8192, .i1⟩
  | .hbm, ⟨44, _⟩ => ⟨S_, .f32⟩
  | .hbm, ⟨45, _⟩ => ⟨S_, .f32⟩
  | .hbm, ⟨46, _⟩ => ⟨S4x8x8192x8192, .f32⟩
  | .hbm, ⟨47, _⟩ => ⟨S4x8x8192x8192, .f32⟩
  | .hbm, ⟨48, _⟩ => ⟨S_, .f32⟩
  | .hbm, ⟨49, _⟩ => ⟨S4x8x8192, .f32⟩
  | .hbm, ⟨50, _⟩ => ⟨S_, .f32⟩
  | .hbm, ⟨51, _⟩ => ⟨S4x8x8192, .f32⟩
  | .hbm, ⟨52, _⟩ => ⟨S4x8x8192, .f32⟩
  | .hbm, ⟨53, _⟩ => ⟨S4x8x8192x1, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S_, .f32⟩
  | .hbm, ⟨58, _⟩ => ⟨S4x8x8192, .f32⟩
  | .hbm, ⟨59, _⟩ => ⟨S4x8x8192x1, .f32⟩
  | .hbm, ⟨60, _⟩ => ⟨S4x8x8192x8192, .f32⟩
  | .hbm, ⟨61, _⟩ => ⟨S4x8x8192x8192, .f32⟩
  | .hbm, ⟨62, _⟩ => ⟨S4x8x64x8192, .f32⟩
  | .hbm, ⟨63, _⟩ => ⟨S4x8192x8x64, .f32⟩
  | .hbm, ⟨64, _⟩ => ⟨S4x8192x512, .f32⟩
  | .hbm, ⟨65, _⟩ => ⟨S4x8192x512, .f32⟩
  | .hbm, ⟨66, _⟩ => ⟨S4x8192x512, .f32⟩
  | .hbm, ⟨67, _⟩ => ⟨S_, .f32⟩
  | .hbm, ⟨68, _⟩ => ⟨S4x8192x512, .f32⟩
  | .hbm, ⟨69, _⟩ => ⟨S4x8192x512, .f32⟩
  | .hbm, ⟨70, _⟩ => ⟨S_, .f32⟩
  | .hbm, ⟨71, _⟩ => ⟨S4x8192x512, .f32⟩
  | .hbm, ⟨72, _⟩ => ⟨S4x8192x512, .f32⟩
  | .hbm, ⟨73, _⟩ => ⟨S4x8192x512, .f32⟩
  | .hbm, ⟨74, _⟩ => ⟨S4x8192x512, .f32⟩
  | .hbm, ⟨75, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_call0_v0 : Ref sig .tc := ⟨.hbm, 45, rfl⟩
abbrev main_call0_v1 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Kernel2.lean ====
abbrev S4x8192x1024 : Shape := ⟨3, ![4, 8192, 1024]⟩
abbrev S2x1024 : Shape := ⟨2, ![2, 1024]⟩
abbrev S2x1024x7424 : Shape := ⟨3, ![2, 1024, 7424]⟩
abbrev S1x1024 : Shape := ⟨2, ![1, 1024]⟩
abbrev S1024 : Shape := ⟨1, ![1024]⟩
abbrev S2x1024x1024 : Shape := ⟨3, ![2, 1024, 1024]⟩
abbrev S2x1024x512 : Shape := ⟨3, ![2, 1024, 512]⟩
abbrev S2x1024x2x4x64 : Shape := ⟨5, ![2, 1024, 2, 4, 64]⟩
abbrev S2x1024x4x2x64 : Shape := ⟨5, ![2, 1024, 4, 2, 64]⟩
abbrev S_ : Shape := ⟨0, ![]⟩
abbrev S2x1024x1536 : Shape := ⟨3, ![2, 1024, 1536]⟩
abbrev S2x1024x3072 : Shape := ⟨3, ![2, 1024, 3072]⟩
abbrev S2x1024x256 : Shape := ⟨3, ![2, 1024, 256]⟩
abbrev S4x8192x7424 : Shape := ⟨3, ![4, 8192, 7424]⟩
abbrev S1x512x1024 : Shape := ⟨3, ![1, 512, 1024]⟩
abbrev S1x1024x7424 : Shape := ⟨3, ![1, 1024, 7424]⟩
abbrev S1x512x7424 : Shape := ⟨3, ![1, 512, 7424]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 31
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x7424, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S2x1024x1024, .f32⟩
  | .hbm, ⟨7, _⟩ => ⟨S2x1024x512, .f32⟩
  | .hbm, ⟨8, _⟩ => ⟨S2x1024x2x4x64, .f32⟩
  | .hbm, ⟨9, _⟩ => ⟨S2x1024x4x2x64, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S2x1024x2x4x64, .f32⟩
  | .hbm, ⟨16, _⟩ => ⟨S2x1024x4x2x64, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x1536, .f32⟩
  | .hbm, ⟨23, _⟩ => ⟨S2x1024x3072, .f32⟩
  | .hbm, ⟨24, _⟩ => ⟨S_, .f32⟩
  | .hbm, ⟨25, _⟩ => ⟨S2x1024x3072, .f32⟩
  | .hbm, ⟨26, _⟩ => ⟨S2x1024x3072, .f32⟩
  | .hbm, ⟨27, _⟩ => ⟨S2x1024x256, .f32⟩
  | .hbm, ⟨28, _⟩ => ⟨S2x1024x7424, .f32⟩
  | .hbm, ⟨29, _⟩ => ⟨S2x1024x7424, .bf16⟩
  | .hbm, ⟨30, _⟩ => ⟨S4x8192x7424, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x7424, .bf16⟩
  | .local _ .vmem, ⟨4, _⟩ => ⟨S1x512x7424, .bf16⟩
  | .local _ .vmem, ⟨5, _⟩ => ⟨S1x512x7424, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x7424 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x8192x1024 : Shape := ⟨3, ![4, 8192, 1024]⟩
abbrev S2x1024 : Shape := ⟨2, ![2, 1024]⟩
abbrev S2x1024x7424 : Shape := ⟨3, ![2, 1024, 7424]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S1x1024x7424 : Shape := ⟨3, ![1, 1024, 7424]⟩
abbrev S1024x7424 : Shape := ⟨2, ![1024, 7424]⟩
abbrev S4x8192x7424 : Shape := ⟨3, ![4, 8192, 7424]⟩
abbrev S4x8192x512 : Shape := ⟨3, ![4, 8192, 512]⟩
abbrev S4x8192x128 : Shape := ⟨3, ![4, 8192, 128]⟩
abbrev S4x8192x3072 : Shape := ⟨3, ![4, 8192, 3072]⟩
abbrev S4x8192x2x4x64 : Shape := ⟨5, ![4, 8192, 2, 4, 64]⟩
abbrev S4x8192x4x2x64 : Shape := ⟨5, ![4, 8192, 4, 2, 64]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x7424, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S1x1024x7424, .f32⟩
  | .hbm, ⟨22, _⟩ => ⟨S1024x7424, .f32⟩
  | .hbm, ⟨23, _⟩ => ⟨S4x8192x7424, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x128, .f32⟩
  | .hbm, ⟨28, _⟩ => ⟨S4x8192x128, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x3072, .f32⟩
  | .hbm, ⟨35, _⟩ => ⟨S4x8192x2x4x64, .f32⟩
  | .hbm, ⟨36, _⟩ => ⟨S4x8192x4x2x64, .f32⟩
  | .hbm, ⟨37, _⟩ => ⟨S4x8192x512, .f32⟩
  | .hbm, ⟨38, _⟩ => ⟨S_, .f32⟩
  | .hbm, ⟨39, _⟩ => ⟨S4x8192x512, .f32⟩
  | .hbm, ⟨40, _⟩ => ⟨S4x8192x512, .f32⟩
  | .hbm, ⟨41, _⟩ => ⟨S4x8192x2x4x64, .f32⟩
  | .hbm, ⟨42, _⟩ => ⟨S4x8192x4x2x64, .f32⟩
  | .hbm, ⟨43, _⟩ => ⟨S4x8192x512, .f32⟩
  | .hbm, ⟨44, _⟩ => ⟨S_, .f32⟩
  | .hbm, ⟨45, _⟩ => ⟨S4x8192x512, .f32⟩
  | .hbm, ⟨46, _⟩ => ⟨S4x8192x512, .f32⟩
  | .hbm, ⟨47, _⟩ => ⟨S_, .f32⟩
  | .hbm, ⟨48, _⟩ => ⟨S4x8192x3072, .f32⟩
  | .hbm, ⟨49, _⟩ => ⟨S4x8192x3072, .f32⟩
  | .hbm, ⟨50, _⟩ => ⟨S4x8192x7424, .f32⟩
  | .hbm, ⟨51, _⟩ => ⟨S4x8192x7424, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Proof.Moba.RunRef.lean ====
/-
  The run of the reference: its arguments end as they were.
-/
module

public import proofs.«01_k».proof.Proof.Gen.ReferenceIdeal.Run
public import Idealize.ShloMosaic.Lib.Quiescent
public import Idealize.ShloMosaic.PureOps.Ideal

@[expose] public section

noncomputable section

namespace Moba.RunR

open Cert.ReferenceIdeal
open Idealize.ShloMosaic Idealize.ShloMosaic.TcCoe Idealize.SL.Sem

variable (m : (ℓ : Loc nD τ sig) → Buf (Elt Idealize.ShloMosaic.Ideal) ℓ) (ρ : Dev nD → PrngReg)

theorem frame :
    θ_run defs (onTc (τ := τ) (main (F := Idealize.ShloMosaic.Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (Cert.ReferenceIdeal.Value.run m ρ)

end Moba.RunR

end
-- ==== Proof.Moba.Text.lean ====
/-
  The attention kernel's text, once, over any float type and any signature: what a grid point does with the buffers it
  is handed. The kernel keeps, for two heads of 512 queries, a running maximum, a running sum of weights and a running
  weighted sum of values; a step takes the scores of one group of 512 keys, which an earlier step left in one of two
  buffers, and fills the other buffer with the scores of the next group. Where the printed programs name an offset or a
  constant, these functions take it as an argument.
-/
module

public import Idealize.ShloMosaic.Lib.Pipeline
public import Idealize.ShloMosaic.Lib.Scf
public import Idealize.ShloMosaic.Lib.Sig
public import Idealize.ShloMosaic.PureOps
public import proofs.«01_k».proof.KernelIdeal.P01

@[expose] public section

noncomputable section

namespace Moba

open Idealize.ShloMosaic Idealize.SL.Sem
open Cert.KernelIdeal (S1x2048x128 S1x2x32x2048 S1x8192x128 S2x512x512 S16x256 S1x512x128 S512x128 S256x128 S256x512 S1x256x512 S512
  S1x512 S64x512 S1x1x1x512 S128x512 S64x256 S80x256 S80x512 S512x512)

/-! ## The shape facts the operations cite -/

theorem bits_lt : FTy.bits .bf16 < FTy.bits .f32 := by decide
theorem ne_S1x512x128 : 0 < S1x512x128.numel := by decide +kernel
theorem ne_S1x256x512 : 0 < S1x256x512.numel := by decide +kernel
theorem ne_S1x1x1x512 : 0 < S1x1x1x512.numel := by decide +kernel
theorem sc_S1x512x128 : S1x512x128.ShapeCasts S512x128 := by decide +kernel
theorem sc_S512x128 : S512x128.ShapeCasts S1x512x128 := by decide +kernel
theorem sc_S1x256x512 : S1x256x512.ShapeCasts S256x512 := by decide +kernel
theorem sc_S256x512 : S256x512.ShapeCasts S1x256x512 := by decide +kernel
theorem sc_S512 : S512.ShapeCasts S1x512 := by decide +kernel
theorem sc_S1x1x1x512 : S1x1x1x512.ShapeCasts S1x512 := by decide +kernel
theorem tr_S512x128 : S512x128.Transposes [1, 0] S128x512 := by decide +kernel
theorem tr_S128x512 : S128x512.Transposes [1, 0] S512x128 := by decide +kernel
theorem bc_S256x512 : S1x512.Broadcasts S256x512 := by decide +kernel
theorem bc_S64x512 : S1x512.Broadcasts S64x512 := by decide +kernel
theorem io_S512x128 : S512x128.Iotas .tc 32 [1] := by decide +kernel
theorem io0_S512x512 : S512x512.Iotas .tc 32 [0] := by decide +kernel
theorem io1_S512x512 : S512x512.Iotas .tc 32 [1] := by decide +kernel
theorem io_S1x512 : S1x512.Iotas .tc 32 [1] := by decide +kernel
theorem red_S256x512 : S256x512.Reduces [0] S512 := by decide +kernel
theorem cat_S80x256 : Shape.Concatenates [S64x256, S16x256] S80x256 0 := by decide +kernel
theorem cat_S128x512 : Shape.Concatenates [S64x512, S64x512] S128x512 0 := by decide +kernel
theorem sl_lo : S512x128.Slices ![0, 0] S256x128 := by decide +kernel
theorem sl_hi : S512x128.Slices ![256, 0] S256x128 := by decide +kernel
theorem sl_v00 : S128x512.Slices ![0, 0] S64x256 := by decide +kernel
theorem sl_v01 : S128x512.Slices ![0, 256] S64x256 := by decide +kernel
theorem sl_v10 : S128x512.Slices ![64, 0] S64x256 := by decide +kernel
theorem sl_v11 : S128x512.Slices ![64, 256] S64x256 := by decide +kernel
theorem sl_sum : S80x512.Slices ![64, 0] S1x512 := by decide +kernel
theorem sl_acc : S80x512.Slices ![0, 0] S64x512 := by decide +kernel
theorem sl_clo : S512x512.Slices ![0, 0] S256x512 := by decide +kernel
theorem sl_chi : S512x512.Slices ![256, 0] S256x512 := by decide +kernel
theorem in_t00 : ∀ a, (![0, 0, 0] : Fin 3 → Nat) a + S1x256x512.size a ≤ S2x512x512.size a := by decide +kernel
theorem in_t01 : ∀ a, (![0, 256, 0] : Fin 3 → Nat) a + S1x256x512.size a ≤ S2x512x512.size a := by decide +kernel
theorem in_t10 : ∀ a, (![1, 0, 0] : Fin 3 → Nat) a + S1x256x512.size a ≤ S2x512x512.size a := by decide +kernel
theorem in_t11 : ∀ a, (![1, 256, 0] : Fin 3 → Nat) a + S1x256x512.size a ≤ S2x512x512.size a := by decide +kernel
theorem in_k0 : ∀ a, (![0, 0, 0] : Fin 3 → Nat) a + S1x512x128.size a ≤ S1x8192x128.size a := by decide +kernel
theorem in_q0 : ∀ a, (![0, 0, 0] : Fin 3 → Nat) a + S1x512x128.size a ≤ S1x2048x128.size a := by decide +kernel
theorem in_q1 : ∀ a, (![0, 512, 0] : Fin 3 → Nat) a + S1x512x128.size a ≤ S1x2048x128.size a := by decide +kernel
theorem in_q2 : ∀ a, (![0, 1024, 0] : Fin 3 → Nat) a + S1x512x128.size a ≤ S1x2048x128.size a := by decide +kernel
theorem in_q3 : ∀ a, (![0, 1536, 0] : Fin 3 → Nat) a + S1x512x128.size a ≤ S1x2048x128.size a := by decide +kernel

variable {F : FTy → Type} [FloatOps F] {nD : Nat} {τ : Topo} {sig : RefSig} {Λ : Labels}

/-- The ten vectors a step hands to the next: per head the running maximum, sum and weighted sum, then the maxima of the
    four blocks of scores (head 0: first and second 256 keys, head 1 likewise). -/
local notation "𝒞" => FVec F S1x512 FTy.f32 × FVec F S1x512 FTy.f32 × FVec F S64x512 FTy.f32 × FVec F S1x512 FTy.f32 × FVec F S1x512 FTy.f32 × FVec F S64x512 FTy.f32
  × FVec F S1x512 FTy.f32 × FVec F S1x512 FTy.f32 × FVec F S1x512 FTy.f32 × FVec F S1x512 FTy.f32

/-- One row of the selection mask. -/
def selRow (sel : Memref sig .tc .vmem S1x2x32x2048 .f32) (o : Fin 4 → Nat) (ho : ∀ a, o a + S1x1x1x512.size a ≤ S1x2x32x2048.size a) :
    Prog (TpuEff nD τ sig (Elt F) Λ .tc) (FVec F S1x512 .f32) := do
  let x : Vec F S1x1x1x512 .f32 ← Prog.lift (.load sel (Rect.unit (s := S1x2x32x2048) o S1x1x1x512.size ho).toLoadRect (View.loadsAt_vmem ne_S1x1x1x512))
  pure (shapeCast S1x512 x sc_S1x1x1x512)

/-- The values of 512 keys, one key a column. -/
def valT (v : Memref sig .tc .vmem S1x8192x128 .bf16) (o : Fin 3 → Nat) (ho : ∀ a, o a + S1x512x128.size a ≤ S1x8192x128.size a) :
    Prog (TpuEff nD τ sig (Elt F) Λ .tc) (FVec F S128x512 .bf16) := do
  let x : Vec F S1x512x128 .bf16 ← Prog.lift (.load v (Rect.unit (s := S1x8192x128) o S1x512x128.size ho).toLoadRect (View.loadsAt_vmem ne_S1x512x128))
  pure (transpose S128x512 [1, 0] (shapeCast S512x128 x sc_S1x512x128) tr_S512x128)

/-- One block of scores out of a buffer. -/
def readTile (buf : Memref sig .tc .vmem S2x512x512 .f32) (o : Fin 3 → Nat) (ho : ∀ a, o a + S1x256x512.size a ≤ S2x512x512.size a) :
    Prog (TpuEff nD τ sig (Elt F) Λ .tc) (FVec F S256x512 .f32) := do
  let x : Vec F S1x256x512 .f32 ← Prog.lift (.load buf (Rect.unit (s := S2x512x512) o S1x256x512.size ho).toLoadRect (View.loadsAt_vmem ne_S1x256x512))
  pure (shapeCast S256x512 x sc_S1x256x512)

/-- Scores of 256 keys against the 512 queries of one head, written to a buffer; the maximum per query is returned. -/
def scoreTile (k : Memref sig .tc .vmem S1x8192x128 .bf16) (buf : Memref sig .tc .vmem S2x512x512 .f32)
    (dqk : DotDims S256x128 S512x128 S256x512) (q : FVec F S512x128 .bf16)
    (ok : Fin 3 → Nat) (hk : ∀ a, ok a + S1x512x128.size a ≤ S1x8192x128.size a)
    (os : Fin 2 → Nat) (hs : S512x128.Slices os S256x128)
    (o : Fin 3 → Nat) (ho : ∀ a, o a + S1x256x512.size a ≤ S2x512x512.size a) :
    Prog (TpuEff nD τ sig (Elt F) Λ .tc) (FVec F S1x512 .f32) := do
  let x : Vec F S1x512x128 .bf16 ← Prog.lift (.load k (Rect.unit (s := S1x8192x128) ok S1x512x128.size hk).toLoadRect (View.loadsAt_vmem ne_S1x512x128))
  have s : FVec F S256x512 .f32 := matmul dqk none (extractStridedSlice S256x128 os (shapeCast S512x128 x sc_S1x512x128) hs) q (constant S256x512 .f32 0x00000000#32)
  let _ : Vec F S1x256x512 .f32 ← Prog.lift (.load buf (Rect.unit (s := S2x512x512) o S1x256x512.size ho).toLoadRect (View.loadsAt_vmem ne_S1x256x512))
  have w : FVec F S1x256x512 .f32 := shapeCast S1x256x512 s sc_S256x512
  Prog.lift (.store buf (Rect.unit (s := S2x512x512) o S1x256x512.size ho) w Finset.univ (View.stores_vmem_bits_univ ne_S1x256x512 rfl) (.inl rfl))
  pure (shapeCast S1x512 (multiReduction .maximumf [0] S512 s 0xFF800000#32 red_S256x512 (.inl rfl) rfl) sc_S512)

/-- One step of the kernel over a group of keys before the queries' own: the scores in `cur` are used, those of the next
    group (offset `ok`) go to `nxt`. -/
def half (sel : Memref sig .tc .vmem S1x2x32x2048 .f32) (k v : Memref sig .tc .vmem S1x8192x128 .bf16)
    (cur nxt : Memref sig .tc .vmem S2x512x512 .f32)
    (dqk : DotDims S256x128 S512x128 S256x512) (dpv : DotDims S80x256 S256x512 S80x512) (mask big : F .f32)
    (ones : FVec F S16x256 .bf16) (q0 q1 : FVec F S512x128 .bf16)
    (o00 o01 o10 o11 : Fin 4 → Nat)
    (h00 : ∀ a, o00 a + S1x1x1x512.size a ≤ S1x2x32x2048.size a) (h01 : ∀ a, o01 a + S1x1x1x512.size a ≤ S1x2x32x2048.size a)
    (h10 : ∀ a, o10 a + S1x1x1x512.size a ≤ S1x2x32x2048.size a) (h11 : ∀ a, o11 a + S1x1x1x512.size a ≤ S1x2x32x2048.size a)
    (ov ok : Fin 3 → Nat) (hv : ∀ a, ov a + S1x512x128.size a ≤ S1x8192x128.size a) (hk : ∀ a, ok a + S1x512x128.size a ≤ S1x8192x128.size a)
    (c : 𝒞) : Prog (TpuEff nD τ sig (Elt F) Λ .tc) (𝒞) := do
  let (m0, l0, a0, m1, l1, a1, x00, x01, x10, x11) := c
  let s00 ← selRow sel o00 h00
  let s01 ← selRow sel o01 h01
  let s10 ← selRow sel o10 h10
  let s11 ← selRow sel o11 h11
  let vt ← valT v ov hv
  have n0 : FVec F S1x512 .f32 := maximumf
    (maximumf m0 (select (cmpf .ogt s00 (broadcast S1x512 (Scalar.ofBits .f32 0x3F000000#32))) x00 (broadcast S1x512 mask)))
    (select (cmpf .ogt s01 (broadcast S1x512 (Scalar.ofBits .f32 0x3F000000#32))) x01 (broadcast S1x512 mask))
  have n1 : FVec F S1x512 .f32 := maximumf
    (maximumf m1 (select (cmpf .ogt s10 (broadcast S1x512 (Scalar.ofBits .f32 0x3F000000#32))) x10 (broadcast S1x512 mask)))
    (select (cmpf .ogt s11 (broadcast S1x512 (Scalar.ofBits .f32 0x3F000000#32))) x11 (broadcast S1x512 mask))
  let t00 ← readTile cur ![0, 0, 0] in_t00
  have p00 : FVec F S256x512 .bf16 := truncf .bf16 (exp2 (subf t00 (broadcastTo S256x512
    (select (cmpf .ogt s00 (broadcast S1x512 (Scalar.ofBits .f32 0x3F000000#32))) n0 (broadcast S1x512 big)) bc_S256x512))) bits_lt
  have w00 : FVec F S80x512 .f32 := matmul dpv none (concatenate S80x256 0 [⟨S64x256, extractStridedSlice S64x256 ![0, 0] vt sl_v00⟩, ⟨S16x256, ones⟩] cat_S80x256)
    p00 (constant S80x512 .f32 0x00000000#32)
  let y00 ← scoreTile k nxt dqk q0 ok hk (![0, 0] :) sl_lo ![0, 0, 0] in_t00
  let y01 ← scoreTile k nxt dqk q0 ok hk (![256, 0] :) sl_hi ![0, 256, 0] in_t01
  let t01 ← readTile cur ![0, 256, 0] in_t01
  have p01 : FVec F S256x512 .bf16 := truncf .bf16 (exp2 (subf t01 (broadcastTo S256x512
    (select (cmpf .ogt s01 (broadcast S1x512 (Scalar.ofBits .f32 0x3F000000#32))) n0 (broadcast S1x512 big)) bc_S256x512))) bits_lt
  have w0 : FVec F S80x512 .f32 := addf w00 (matmul dpv none (concatenate S80x256 0 [⟨S64x256, extractStridedSlice S64x256 ![0, 256] vt sl_v01⟩, ⟨S16x256, ones⟩] cat_S80x256)
    p01 (constant S80x512 .f32 0x00000000#32))
  let y10 ← scoreTile k nxt dqk q1 ok hk (![0, 0] :) sl_lo ![1, 0, 0] in_t10
  let t10 ← readTile cur ![1, 0, 0] in_t10
  have p10 : FVec F S256x512 .bf16 := truncf .bf16 (exp2 (subf t10 (broadcastTo S256x512
    (select (cmpf .ogt s10 (broadcast S1x512 (Scalar.ofBits .f32 0x3F000000#32))) n1 (broadcast S1x512 big)) bc_S256x512))) bits_lt
  have w10 : FVec F S80x512 .f32 := matmul dpv none (concatenate S80x256 0 [⟨S64x256, extractStridedSlice S64x256 ![64, 0] vt sl_v10⟩, ⟨S16x256, ones⟩] cat_S80x256)
    p10 (constant S80x512 .f32 0x00000000#32)
  let y11 ← scoreTile k nxt dqk q1 ok hk (![256, 0] :) sl_hi ![1, 256, 0] in_t11
  let t11 ← readTile cur ![1, 256, 0] in_t11
  have p11 : FVec F S256x512 .bf16 := truncf .bf16 (exp2 (subf t11 (broadcastTo S256x512
    (select (cmpf .ogt s11 (broadcast S1x512 (Scalar.ofBits .f32 0x3F000000#32))) n1 (broadcast S1x512 big)) bc_S256x512))) bits_lt
  have w1 : FVec F S80x512 .f32 := addf w10 (matmul dpv none (concatenate S80x256 0 [⟨S64x256, extractStridedSlice S64x256 ![64, 256] vt sl_v11⟩, ⟨S16x256, ones⟩] cat_S80x256)
    p11 (constant S80x512 .f32 0x00000000#32))
  pure (n0, addf (mulf (exp2 (subf m0 n0)) l0) (extractStridedSlice S1x512 ![64, 0] w0 sl_sum),
    addf (mulf (broadcastTo S64x512 (exp2 (subf m0 n0)) bc_S64x512) a0) (extractStridedSlice S64x512 ![0, 0] w0 sl_acc),
    n1, addf (mulf (exp2 (subf m1 n1)) l1) (extractStridedSlice S1x512 ![64, 0] w1 sl_sum),
    addf (mulf (broadcastTo S64x512 (exp2 (subf m1 n1)) bc_S64x512) a1) (extractStridedSlice S64x512 ![0, 0] w1 sl_acc),
    y00, y01, y10, y11)

/-- Eight steps, the two buffers taking turns: one trip of the kernel's loop. The offsets are the printed ones as
    functions of the step's number and, for the mask, of the block in the group. -/
def trip (sel : Memref sig .tc .vmem S1x2x32x2048 .f32) (k v : Memref sig .tc .vmem S1x8192x128 .bf16)
    (cur nxt : Memref sig .tc .vmem S2x512x512 .f32)
    (dqk : DotDims S256x128 S512x128 S256x512) (dpv : DotDims S80x256 S256x512 S80x512) (mask big : F .f32)
    (ones : FVec F S16x256 .bf16) (q0 q1 : FVec F S512x128 .bf16)
    (oA oB : BitVec 32 → BitVec 32 → Fin 4 → Nat) (oV oK : BitVec 32 → Fin 3 → Nat)
    (hA : ∀ (r : Fin 8) (s : Fin 2) (a : Fin 4), oA (BitVec.ofNat 32 r.val) (BitVec.ofNat 32 s.val) a + S1x1x1x512.size a ≤ S1x2x32x2048.size a)
    (hB : ∀ (r : Fin 8) (s : Fin 2) (a : Fin 4), oB (BitVec.ofNat 32 r.val) (BitVec.ofNat 32 s.val) a + S1x1x1x512.size a ≤ S1x2x32x2048.size a)
    (hV : ∀ (r : Fin 8) (a : Fin 3), oV (BitVec.ofNat 32 r.val) a + S1x512x128.size a ≤ S1x8192x128.size a)
    (hK : ∀ (r : Fin 8) (a : Fin 3), oK (BitVec.ofNat 32 r.val) a + S1x512x128.size a ≤ S1x8192x128.size a)
    (c : 𝒞) : Prog (TpuEff nD τ sig (Elt F) Λ .tc) (𝒞) := do
  let c ← half sel k v cur nxt dqk dpv mask big ones q0 q1 (oA 0#32 0#32) (oA 0#32 1#32) (oB 0#32 0#32) (oB 0#32 1#32) (hA 0 0) (hA 0 1) (hB 0 0) (hB 0 1) (oV 0#32) (oK 0#32) (hV 0) (hK 0) c
  let c ← half sel k v nxt cur dqk dpv mask big ones q0 q1 (oA 1#32 0#32) (oA 1#32 1#32) (oB 1#32 0#32) (oB 1#32 1#32) (hA 1 0) (hA 1 1) (hB 1 0) (hB 1 1) (oV 1#32) (oK 1#32) (hV 1) (hK 1) c
  let c ← half sel k v cur nxt dqk dpv mask big ones q0 q1 (oA 2#32 0#32) (oA 2#32 1#32) (oB 2#32 0#32) (oB 2#32 1#32) (hA 2 0) (hA 2 1) (hB 2 0) (hB 2 1) (oV 2#32) (oK 2#32) (hV 2) (hK 2) c
  let c ← half sel k v nxt cur dqk dpv mask big ones q0 q1 (oA 3#32 0#32) (oA 3#32 1#32) (oB 3#32 0#32) (oB 3#32 1#32) (hA 3 0) (hA 3 1) (hB 3 0) (hB 3 1) (oV 3#32) (oK 3#32) (hV 3) (hK 3) c
  let c ← half sel k v cur nxt dqk dpv mask big ones q0 q1 (oA 4#32 0#32) (oA 4#32 1#32) (oB 4#32 0#32) (oB 4#32 1#32) (hA 4 0) (hA 4 1) (hB 4 0) (hB 4 1) (oV 4#32) (oK 4#32) (hV 4) (hK 4) c
  let c ← half sel k v nxt cur dqk dpv mask big ones q0 q1 (oA 5#32 0#32) (oA 5#32 1#32) (oB 5#32 0#32) (oB 5#32 1#32) (hA 5 0) (hA 5 1) (hB 5 0) (hB 5 1) (oV 5#32) (oK 5#32) (hV 5) (hK 5) c
  let c ← half sel k v cur nxt dqk dpv mask big ones q0 q1 (oA 6#32 0#32) (oA 6#32 1#32) (oB 6#32 0#32) (oB 6#32 1#32) (hA 6 0) (hA 6 1) (hB 6 0) (hB 6 1) (oV 6#32) (oK 6#32) (hV 6) (hK 6) c
  let (m0, l0, a0, m1, l1, a1, x00, x01, x10, x11) ← half sel k v nxt cur dqk dpv mask big ones q0 q1 (oA 7#32 0#32) (oA 7#32 1#32) (oB 7#32 0#32) (oB 7#32 1#32) (hA 7 0) (hA 7 1) (hB 7 0) (hB 7 1) (oV 7#32) (oK 7#32) (hV 7) (hK 7) c
  pure (m0, l0, a0, m1, l1, a1, x00, x01, x10, x11)

/-- What the queries' own group leaves for the result (per head the sum and the weighted sum) and for the next tile of
    queries (the maxima of its first scores). -/
local notation "𝒪" => FVec F S1x512 FTy.f32 × FVec F S64x512 FTy.f32 × FVec F S1x512 FTy.f32 × FVec F S64x512 FTy.f32 × FVec F S1x512 FTy.f32 × FVec F S1x512 FTy.f32 × FVec F S1x512 FTy.f32 × FVec F S1x512 FTy.f32

/-- The step over the queries' own group of keys, the scores in `cur`: a key after the query counts as `mask`; the second
    256 queries see the first 256 keys where the mask's row says so. The next tile's first scores go to `nxt`. -/
def own (sel : Memref sig .tc .vmem S1x2x32x2048 .f32) (k v : Memref sig .tc .vmem S1x8192x128 .bf16)
    (cur nxt : Memref sig .tc .vmem S2x512x512 .f32)
    (dqk : DotDims S256x128 S512x128 S256x512) (dpv : DotDims S80x256 S256x512 S80x512) (mask big : F .f32)
    (ones : FVec F S16x256 .bf16) (q0 q1 : FVec F S512x128 .bf16)
    (o0 o1 : Fin 4 → Nat)
    (h0 : ∀ a, o0 a + S1x1x1x512.size a ≤ S1x2x32x2048.size a) (h1 : ∀ a, o1 a + S1x1x1x512.size a ≤ S1x2x32x2048.size a)
    (ov : Fin 3 → Nat) (hv : ∀ a, ov a + S1x512x128.size a ≤ S1x8192x128.size a)
    (c : 𝒞) : Prog (TpuEff nD τ sig (Elt F) Λ .tc) (𝒪) := do
  let (m0, l0, a0, m1, l1, a1, _, _, _, _) := c
  have second : IVec S1x512 1 := cmpi .sge (iota .tc S1x512 32 [1] io_S1x512) (broadcast S1x512 256#32)
  have one : FVec F S1x512 .f32 := broadcast S1x512 (Scalar.ofBits .f32 0x3F800000#32)
  let r0 ← selRow sel o0 h0
  have s0 : FVec F S1x512 .f32 := select second r0 one
  let r1 ← selRow sel o1 h1
  have s1 : FVec F S1x512 .f32 := select second r1 one
  have causal : IVec S512x512 1 := cmpi .sle (iota .tc S512x512 32 [0] io0_S512x512) (iota .tc S512x512 32 [1] io1_S512x512)
  let vt ← valT v ov hv
  let t00 ← readTile cur ![0, 0, 0] in_t00
  have u00 : FVec F S256x512 .f32 := select (extractStridedSlice S256x512 ![0, 0] causal sl_clo) t00 (broadcast S256x512 mask)
  let t01 ← readTile cur ![0, 256, 0] in_t01
  have u01 : FVec F S256x512 .f32 := select (extractStridedSlice S256x512 ![256, 0] causal sl_chi) t01 (broadcast S256x512 mask)
  have n0 : FVec F S1x512 .f32 := maximumf
    (maximumf m0 (select (cmpf .ogt s0 (broadcast S1x512 (Scalar.ofBits .f32 0x3F000000#32)))
      (shapeCast S1x512 (multiReduction .maximumf [0] S512 u00 0xFF800000#32 red_S256x512 (.inl rfl) rfl) sc_S512) (broadcast S1x512 mask)))
    (select (cmpf .ogt one (broadcast S1x512 (Scalar.ofBits .f32 0x3F000000#32)))
      (shapeCast S1x512 (multiReduction .maximumf [0] S512 u01 0xFF800000#32 red_S256x512 (.inl rfl) rfl) sc_S512) (broadcast S1x512 mask))
  let t10 ← readTile cur ![1, 0, 0] in_t10
  have u10 : FVec F S256x512 .f32 := select (extractStridedSlice S256x512 ![0, 0] causal sl_clo) t10 (broadcast S256x512 mask)
  let t11 ← readTile cur ![1, 256, 0] in_t11
  have u11 : FVec F S256x512 .f32 := select (extractStridedSlice S256x512 ![256, 0] causal sl_chi) t11 (broadcast S256x512 mask)
  have n1 : FVec F S1x512 .f32 := maximumf
    (maximumf m1 (select (cmpf .ogt s1 (broadcast S1x512 (Scalar.ofBits .f32 0x3F000000#32)))
      (shapeCast S1x512 (multiReduction .maximumf [0] S512 u10 0xFF800000#32 red_S256x512 (.inl rfl) rfl) sc_S512) (broadcast S1x512 mask)))
    (select (cmpf .ogt one (broadcast S1x512 (Scalar.ofBits .f32 0x3F000000#32)))
      (shapeCast S1x512 (multiReduction .maximumf [0] S512 u11 0xFF800000#32 red_S256x512 (.inl rfl) rfl) sc_S512) (broadcast S1x512 mask))
  have p00 : FVec F S256x512 .bf16 := truncf .bf16 (exp2 (subf u00 (broadcastTo S256x512
    (select (cmpf .ogt s0 (broadcast S1x512 (Scalar.ofBits .f32 0x3F000000#32))) n0 (broadcast S1x512 big)) bc_S256x512))) bits_lt
  have w00 : FVec F S80x512 .f32 := matmul dpv none (concatenate S80x256 0 [⟨S64x256, extractStridedSlice S64x256 ![0, 0] vt sl_v00⟩, ⟨S16x256, ones⟩] cat_S80x256)
    p00 (constant S80x512 .f32 0x00000000#32)
  let y00 ← scoreTile k nxt dqk q0 ![0, 0, 0] in_k0 (![0, 0] :) sl_lo ![0, 0, 0] in_t00
  let y01 ← scoreTile k nxt dqk q0 ![0, 0, 0] in_k0 (![256, 0] :) sl_hi ![0, 256, 0] in_t01
  have p01 : FVec F S256x512 .bf16 := truncf .bf16 (exp2 (subf u01 (broadcastTo S256x512
    (select (cmpf .ogt one (broadcast S1x512 (Scalar.ofBits .f32 0x3F000000#32))) n0 (broadcast S1x512 big)) bc_S256x512))) bits_lt
  have w0 : FVec F S80x512 .f32 := addf w00 (matmul dpv none (concatenate S80x256 0 [⟨S64x256, extractStridedSlice S64x256 ![0, 256] vt sl_v01⟩, ⟨S16x256, ones⟩] cat_S80x256)
    p01 (constant S80x512 .f32 0x00000000#32))
  let y10 ← scoreTile k nxt dqk q1 ![0, 0, 0] in_k0 (![0, 0] :) sl_lo ![1, 0, 0] in_t10
  have p10 : FVec F S256x512 .bf16 := truncf .bf16 (exp2 (subf u10 (broadcastTo S256x512
    (select (cmpf .ogt s1 (broadcast S1x512 (Scalar.ofBits .f32 0x3F000000#32))) n1 (broadcast S1x512 big)) bc_S256x512))) bits_lt
  have w10 : FVec F S80x512 .f32 := matmul dpv none (concatenate S80x256 0 [⟨S64x256, extractStridedSlice S64x256 ![64, 0] vt sl_v10⟩, ⟨S16x256, ones⟩] cat_S80x256)
    p10 (constant S80x512 .f32 0x00000000#32)
  let y11 ← scoreTile k nxt dqk q1 ![0, 0, 0] in_k0 (![256, 0] :) sl_hi ![1, 256, 0] in_t11
  have p11 : FVec F S256x512 .bf16 := truncf .bf16 (exp2 (subf u11 (broadcastTo S256x512
    (select (cmpf .ogt one (broadcast S1x512 (Scalar.ofBits .f32 0x3F000000#32))) n1 (broadcast S1x512 big)) bc_S256x512))) bits_lt
  have w1 : FVec F S80x512 .f32 := addf w10 (matmul dpv none (concatenate S80x256 0 [⟨S64x256, extractStridedSlice S64x256 ![64, 256] vt sl_v11⟩, ⟨S16x256, ones⟩] cat_S80x256)
    p11 (constant S80x512 .f32 0x00000000#32))
  pure (addf (mulf (exp2 (subf m0 n0)) l0) (extractStridedSlice S1x512 ![64, 0] w0 sl_sum),
    addf (mulf (broadcastTo S64x512 (exp2 (subf m0 n0)) bc_S64x512) a0) (extractStridedSlice S64x512 ![0, 0] w0 sl_acc),
    addf (mulf (exp2 (subf m1 n1)) l1) (extractStridedSlice S1x512 ![64, 0] w1 sl_sum),
    addf (mulf (broadcastTo S64x512 (exp2 (subf m1 n1)) bc_S64x512) a1) (extractStridedSlice S64x512 ![0, 0] w1 sl_acc),
    y00, y01, y10, y11)

/-- The same for the last tile of a grid point, which no tile follows. -/
def ownLast (sel : Memref sig .tc .vmem S1x2x32x2048 .f32) (v : Memref sig .tc .vmem S1x8192x128 .bf16)
    (cur : Memref sig .tc .vmem S2x512x512 .f32)
    (dpv : DotDims S80x256 S256x512 S80x512) (mask big : F .f32)
    (ones : FVec F S16x256 .bf16)
    (o0 o1 : Fin 4 → Nat)
    (h0 : ∀ a, o0 a + S1x1x1x512.size a ≤ S1x2x32x2048.size a) (h1 : ∀ a, o1 a + S1x1x1x512.size a ≤ S1x2x32x2048.size a)
    (ov : Fin 3 → Nat) (hv : ∀ a, ov a + S1x512x128.size a ≤ S1x8192x128.size a)
    (c : 𝒞) : Prog (TpuEff nD τ sig (Elt F) Λ .tc) (FVec F S1x512 .f32 × FVec F S64x512 .f32 × FVec F S1x512 .f32 × FVec F S64x512 .f32) := do
  let (m0, l0, a0, m1, l1, a1, _, _, _, _) := c
  have second : IVec S1x512 1 := cmpi .sge (iota .tc S1x512 32 [1] io_S1x512) (broadcast S1x512 256#32)
  have one : FVec F S1x512 .f32 := broadcast S1x512 (Scalar.ofBits .f32 0x3F800000#32)
  let r0 ← selRow sel o0 h0
  have s0 : FVec F S1x512 .f32 := select second r0 one
  let r1 ← selRow sel o1 h1
  have s1 : FVec F S1x512 .f32 := select second r1 one
  have causal : IVec S512x512 1 := cmpi .sle (iota .tc S512x512 32 [0] io0_S512x512) (iota .tc S512x512 32 [1] io1_S512x512)
  let vt ← valT v ov hv
  let t00 ← readTile cur ![0, 0, 0] in_t00
  have u00 : FVec F S256x512 .f32 := select (extractStridedSlice S256x512 ![0, 0] causal sl_clo) t00 (broadcast S256x512 mask)
  let t01 ← readTile cur ![0, 256, 0] in_t01
  have u01 : FVec F S256x512 .f32 := select (extractStridedSlice S256x512 ![256, 0] causal sl_chi) t01 (broadcast S256x512 mask)
  have n0 : FVec F S1x512 .f32 := maximumf
    (maximumf m0 (select (cmpf .ogt s0 (broadcast S1x512 (Scalar.ofBits .f32 0x3F000000#32)))
      (shapeCast S1x512 (multiReduction .maximumf [0] S512 u00 0xFF800000#32 red_S256x512 (.inl rfl) rfl) sc_S512) (broadcast S1x512 mask)))
    (select (cmpf .ogt one (broadcast S1x512 (Scalar.ofBits .f32 0x3F000000#32)))
      (shapeCast S1x512 (multiReduction .maximumf [0] S512 u01 0xFF800000#32 red_S256x512 (.inl rfl) rfl) sc_S512) (broadcast S1x512 mask))
  let t10 ← readTile cur ![1, 0, 0] in_t10
  have u10 : FVec F S256x512 .f32 := select (extractStridedSlice S256x512 ![0, 0] causal sl_clo) t10 (broadcast S256x512 mask)
  let t11 ← readTile cur ![1, 256, 0] in_t11
  have u11 : FVec F S256x512 .f32 := select (extractStridedSlice S256x512 ![256, 0] causal sl_chi) t11 (broadcast S256x512 mask)
  have n1 : FVec F S1x512 .f32 := maximumf
    (maximumf m1 (select (cmpf .ogt s1 (broadcast S1x512 (Scalar.ofBits .f32 0x3F000000#32)))
      (shapeCast S1x512 (multiReduction .maximumf [0] S512 u10 0xFF800000#32 red_S256x512 (.inl rfl) rfl) sc_S512) (broadcast S1x512 mask)))
    (select (cmpf .ogt one (broadcast S1x512 (Scalar.ofBits .f32 0x3F000000#32)))
      (shapeCast S1x512 (multiReduction .maximumf [0] S512 u11 0xFF800000#32 red_S256x512 (.inl rfl) rfl) sc_S512) (broadcast S1x512 mask))
  have p00 : FVec F S256x512 .bf16 := truncf .bf16 (exp2 (subf u00 (broadcastTo S256x512
    (select (cmpf .ogt s0 (broadcast S1x512 (Scalar.ofBits .f32 0x3F000000#32))) n0 (broadcast S1x512 big)) bc_S256x512))) bits_lt
  have w00 : FVec F S80x512 .f32 := matmul dpv none (concatenate S80x256 0 [⟨S64x256, extractStridedSlice S64x256 ![0, 0] vt sl_v00⟩, ⟨S16x256, ones⟩] cat_S80x256)
    p00 (constant S80x512 .f32 0x00000000#32)
  have p01 : FVec F S256x512 .bf16 := truncf .bf16 (exp2 (subf u01 (broadcastTo S256x512
    (select (cmpf .ogt one (broadcast S1x512 (Scalar.ofBits .f32 0x3F000000#32))) n0 (broadcast S1x512 big)) bc_S256x512))) bits_lt
  have w0 : FVec F S80x512 .f32 := addf w00 (matmul dpv none (concatenate S80x256 0 [⟨S64x256, extractStridedSlice S64x256 ![0, 256] vt sl_v01⟩, ⟨S16x256, ones⟩] cat_S80x256)
    p01 (constant S80x512 .f32 0x00000000#32))
  have p10 : FVec F S256x512 .bf16 := truncf .bf16 (exp2 (subf u10 (broadcastTo S256x512
    (select (cmpf .ogt s1 (broadcast S1x512 (Scalar.ofBits .f32 0x3F000000#32))) n1 (broadcast S1x512 big)) bc_S256x512))) bits_lt
  have w10 : FVec F S80x512 .f32 := matmul dpv none (concatenate S80x256 0 [⟨S64x256, extractStridedSlice S64x256 ![64, 0] vt sl_v10⟩, ⟨S16x256, ones⟩] cat_S80x256)
    p10 (constant S80x512 .f32 0x00000000#32)
  have p11 : FVec F S256x512 .bf16 := truncf .bf16 (exp2 (subf u11 (broadcastTo S256x512
    (select (cmpf .ogt one (broadcast S1x512 (Scalar.ofBits .f32 0x3F000000#32))) n1 (broadcast S1x512 big)) bc_S256x512))) bits_lt
  have w1 : FVec F S80x512 .f32 := addf w10 (matmul dpv none (concatenate S80x256 0 [⟨S64x256, extractStridedSlice S64x256 ![64, 256] vt sl_v11⟩, ⟨S16x256, ones⟩] cat_S80x256)
    p11 (constant S80x512 .f32 0x00000000#32))
  pure (addf (mulf (exp2 (subf m0 n0)) l0) (extractStridedSlice S1x512 ![64, 0] w0 sl_sum),
    addf (mulf (broadcastTo S64x512 (exp2 (subf m0 n0)) bc_S64x512) a0) (extractStridedSlice S64x512 ![0, 0] w0 sl_acc),
    addf (mulf (exp2 (subf m1 n1)) l1) (extractStridedSlice S1x512 ![64, 0] w1 sl_sum),
    addf (mulf (broadcastTo S64x512 (exp2 (subf m1 n1)) bc_S64x512) a1) (extractStridedSlice S64x512 ![0, 0] w1 sl_acc))

/-- A tile's 512 queries, per head: the other head's half of the lanes is zero. -/
def queries (q : Memref sig .tc .vmem S1x2048x128 .bf16) (o : Fin 3 → Nat) (ho : ∀ a, o a + S1x512x128.size a ≤ S1x2048x128.size a) :
    Prog (TpuEff nD τ sig (Elt F) Λ .tc) (FVec F S512x128 .bf16 × FVec F S512x128 .bf16) := do
  let x : Vec F S1x512x128 .bf16 ← Prog.lift (.load q (Rect.unit (s := S1x2048x128) o S1x512x128.size ho).toLoadRect (View.loadsAt_vmem ne_S1x512x128))
  pure (select (cmpi .slt (iota .tc S512x128 32 [1] io_S512x128) (broadcast S512x128 64#32)) (shapeCast S512x128 x sc_S1x512x128)
      (broadcast S512x128 (Scalar.sitofp .bf16 0#32)),
    select (cmpi .sge (iota .tc S512x128 32 [1] io_S512x128) (broadcast S512x128 64#32)) (shapeCast S512x128 x sc_S1x512x128)
      (broadcast S512x128 (Scalar.sitofp .bf16 0#32)))

/-- A tile's result: each head's weighted sum over its sum, one query a row, times the gate's `z · sigmoid z`. -/
def finish (z out : Memref sig .tc .vmem S1x2048x128 .bf16) (o : Fin 3 → Nat) (ho : ∀ a, o a + S1x512x128.size a ≤ S1x2048x128.size a)
    (hst : (out.access (Rect.unit (s := S1x2048x128) o S1x512x128.size ho)).Stores Finset.univ)
    (l0 : FVec F S1x512 .f32) (a0 : FVec F S64x512 .f32) (l1 : FVec F S1x512 .f32) (a1 : FVec F S64x512 .f32) :
    Prog (TpuEff nD τ sig (Elt F) Λ .tc) PUnit := do
  let x : Vec F S1x512x128 .bf16 ← Prog.lift (.load z (Rect.unit (s := S1x2048x128) o S1x512x128.size ho).toLoadRect (View.loadsAt_vmem ne_S1x512x128))
  have g : FVec F S512x128 .f32 := extf .f32 (shapeCast S512x128 x sc_S1x512x128) bits_lt
  have y : FVec F S512x128 .f32 := transpose S512x128 [1, 0] (concatenate S128x512 0
    [⟨S64x512, divf a0 (broadcastTo S64x512 l0 bc_S64x512)⟩, ⟨S64x512, divf a1 (broadcastTo S64x512 l1 bc_S64x512)⟩] cat_S128x512) tr_S128x512
  have s : FVec F S512x128 .f32 := mulf g (addf (mulf (broadcast S512x128 (Scalar.ofBits .f32 0x3F000000#32))
    (tanh (mulf (broadcast S512x128 (Scalar.ofBits .f32 0x3F000000#32)) g))) (broadcast S512x128 (Scalar.ofBits .f32 0x3F000000#32)))
  let _ : Vec F S1x512x128 .bf16 ← Prog.lift (.load out (Rect.unit (s := S1x2048x128) o S1x512x128.size ho).toLoadRect (View.loadsAt_vmem ne_S1x512x128))
  have r : FVec F S1x512x128 .bf16 := shapeCast S1x512x128 (truncf .bf16 (mulf y s) bits_lt) sc_S512x128
  Prog.lift (.store out (Rect.unit (s := S1x2048x128) o S1x512x128.size ho) r Finset.univ hst (.inl rfl))

end Moba

end
-- ==== Proof.Moba.Kernel.lean ====
/-
  One grid point of the attention kernel over the structured text, for any float type and any signature: four tiles of 512
  queries. A tile's loops and its switch go through the groups of keys before the queries' own, eight to a trip and the
  rest one by one; then comes the own group. Offsets, loop bounds and conditions are the printed ones.
-/
module

public import proofs.«01_k».proof.Proof.Moba.Text
public import proofs.«01_k».proof.KernelIdeal.P01

@[expose] public section

noncomputable section

namespace Moba

open Idealize.ShloMosaic Idealize.SL.Sem
open Cert.KernelIdeal.Facts₀ Cert.KernelIdeal.Facts
open Cert.KernelIdeal

variable {F : FTy → Type} [FloatOps F] [Cert.KernelIdeal.Facts] {nD : Nat} {τ : Topo} {sig : RefSig} {Λ : Labels}

local notation "𝒞" => FVec F S1x512 FTy.f32 × FVec F S1x512 FTy.f32 × FVec F S64x512 FTy.f32 × FVec F S1x512 FTy.f32 × FVec F S1x512 FTy.f32 × FVec F S64x512 FTy.f32
  × FVec F S1x512 FTy.f32 × FVec F S1x512 FTy.f32 × FVec F S1x512 FTy.f32 × FVec F S1x512 FTy.f32
local notation "𝒪" => FVec F S1x512 FTy.f32 × FVec F S64x512 FTy.f32 × FVec F S1x512 FTy.f32 × FVec F S64x512 FTy.f32
  × FVec F S1x512 FTy.f32 × FVec F S1x512 FTy.f32 × FVec F S1x512 FTy.f32 × FVec F S1x512 FTy.f32
local notation "ℒ" => FVec F S1x512 FTy.f32 × FVec F S64x512 FTy.f32 × FVec F S1x512 FTy.f32 × FVec F S64x512 FTy.f32

/-- Tile 0: the groups before the queries' own, then the own group. -/
def tile0 (i : grid0.Coords) (mask big : F .f32) (ones : FVec F S16x256 .bf16)
    (sel : Memref sig .tc .vmem S1x2x32x2048 .f32) (k v : Memref sig .tc .vmem S1x8192x128 .bf16) (cur nxt : Memref sig .tc .vmem S2x512x512 .f32)
    (q0 q1 r0 r1 : FVec F S512x128 .bf16) (c : 𝒞) : Prog (TpuEff nD τ sig (Elt F) Λ .tc) (𝒪) := do
  let (m0, l0, a0, m1, l1, a1, x00, x01, x10, x11) ← Scf.Loop.for (σ := (𝒞)) (k0_t1_loop i) (k0_t1_ok i) c fun n c => trip sel k v cur nxt
        dot_S256x128_S512x128_S256x512_1_1_0_0_n_n dot_S80x256_S256x512_S80x512_1_0_0_1_n_n mask big ones q0 q1 (k0_off1 i n) (k0_off2 i n) (k0_off3 i n) (k0_off4 i n)
        (k0_off1_inb i n) (k0_off2_inb i n) (k0_off3_inb i n) (k0_off4_inb i n) c
  let (m0, l0, a0, m1, l1, a1, x00, x01, x10, x11) ← Scf.Loop.for (σ := (𝒞)) (k0_t2_loop i) (k0_t2_ok i) (m0, l0, a0, m1, l1, a1, x00, x01, x10, x11) fun n c => trip sel k v cur nxt
        dot_S256x128_S512x128_S256x512_1_1_0_0_n_n dot_S80x256_S256x512_S80x512_1_0_0_1_n_n mask big ones q0 q1 (k0_off5 i n) (k0_off6 i n) (k0_off7 i n) (k0_off8 i n)
        (k0_off5_inb i n) (k0_off6_inb i n) (k0_off7_inb i n) (k0_off8_inb i n) c
  if hc : k0_cond1 i = 1#1 then do
    have c : 𝒞 := (m0, l0, a0, m1, l1, a1, x00, x01, x10, x11)
    let c ← half sel k v cur nxt
        dot_S256x128_S512x128_S256x512_1_1_0_0_n_n dot_S80x256_S256x512_S80x512_1_0_0_1_n_n mask big ones q0 q1 (k0_off9 i 0#32 0#32) (k0_off9 i 0#32 1#32) (k0_off10 i 0#32 0#32) (k0_off10 i 0#32 1#32)
        (k0_off9_inb i hc 0 0) (k0_off9_inb i hc 0 1) (k0_off10_inb i hc 0 0) (k0_off10_inb i hc 0 1) (k0_off11 i 0#32) (k0_off12 i 0#32) (k0_off11_inb i hc 0) (k0_off12_inb i hc 0) c
    let c ← half sel k v nxt cur
        dot_S256x128_S512x128_S256x512_1_1_0_0_n_n dot_S80x256_S256x512_S80x512_1_0_0_1_n_n mask big ones q0 q1 (k0_off9 i 1#32 0#32) (k0_off9 i 1#32 1#32) (k0_off10 i 1#32 0#32) (k0_off10 i 1#32 1#32)
        (k0_off9_inb i hc 1 0) (k0_off9_inb i hc 1 1) (k0_off10_inb i hc 1 0) (k0_off10_inb i hc 1 1) (k0_off11 i 1#32) (k0_off12 i 1#32) (k0_off11_inb i hc 1) (k0_off12_inb i hc 1) c
    let c ← half sel k v cur nxt
        dot_S256x128_S512x128_S256x512_1_1_0_0_n_n dot_S80x256_S256x512_S80x512_1_0_0_1_n_n mask big ones q0 q1 (k0_off9 i 2#32 0#32) (k0_off9 i 2#32 1#32) (k0_off10 i 2#32 0#32) (k0_off10 i 2#32 1#32)
        (k0_off9_inb i hc 2 0) (k0_off9_inb i hc 2 1) (k0_off10_inb i hc 2 0) (k0_off10_inb i hc 2 1) (k0_off11 i 2#32) (k0_off12 i 2#32) (k0_off11_inb i hc 2) (k0_off12_inb i hc 2) c
    let c ← half sel k v nxt cur
        dot_S256x128_S512x128_S256x512_1_1_0_0_n_n dot_S80x256_S256x512_S80x512_1_0_0_1_n_n mask big ones q0 q1 (k0_off9 i 3#32 0#32) (k0_off9 i 3#32 1#32) (k0_off10 i 3#32 0#32) (k0_off10 i 3#32 1#32)
        (k0_off9_inb i hc 3 0) (k0_off9_inb i hc 3 1) (k0_off10_inb i hc 3 0) (k0_off10_inb i hc 3 1) (k0_off11 i 3#32) (k0_off12 i 3#32) (k0_off11_inb i hc 3) (k0_off12_inb i hc 3) c
    own sel k v cur nxt
        dot_S256x128_S512x128_S256x512_1_1_0_0_n_n dot_S80x256_S256x512_S80x512_1_0_0_1_n_n mask big ones r0 r1 (k0_off13 i) (k0_off14 i)
        (k0_off13_inb i hc) (k0_off14_inb i hc) (k0_off15 i) (k0_off15_inb i hc) c
  else do
    have c : 𝒞 := (m0, l0, a0, m1, l1, a1, x00, x01, x10, x11)
    own sel k v cur nxt
        dot_S256x128_S512x128_S256x512_1_1_0_0_n_n dot_S80x256_S256x512_S80x512_1_0_0_1_n_n mask big ones r0 r1 (k0_off16 i) (k0_off17 i)
        (k0_off16_inb i hc) (k0_off17_inb i hc) (k0_off18 i) (k0_off18_inb i hc) c

/-- Tile 1: the groups before the queries' own, then the own group. -/
def tile1 (i : grid0.Coords) (mask big : F .f32) (ones : FVec F S16x256 .bf16)
    (sel : Memref sig .tc .vmem S1x2x32x2048 .f32) (k v : Memref sig .tc .vmem S1x8192x128 .bf16) (cur nxt : Memref sig .tc .vmem S2x512x512 .f32)
    (q0 q1 r0 r1 : FVec F S512x128 .bf16) (c : 𝒞) : Prog (TpuEff nD τ sig (Elt F) Λ .tc) (𝒪) := do
  let (m0, l0, a0, m1, l1, a1, x00, x01, x10, x11) ← Scf.Loop.for (σ := (𝒞)) (k0_t3_loop i) (k0_t3_ok i) c fun n c => trip sel k v cur nxt
        dot_S256x128_S512x128_S256x512_1_1_0_0_n_n dot_S80x256_S256x512_S80x512_1_0_0_1_n_n mask big ones q0 q1 (k0_off19 i n) (k0_off20 i n) (k0_off21 i n) (k0_off22 i n)
        (k0_off19_inb i n) (k0_off20_inb i n) (k0_off21_inb i n) (k0_off22_inb i n) c
  let (m0, l0, a0, m1, l1, a1, x00, x01, x10, x11) ← Scf.Loop.for (σ := (𝒞)) (k0_t4_loop i) (k0_t4_ok i) (m0, l0, a0, m1, l1, a1, x00, x01, x10, x11) fun n c => trip sel k v cur nxt
        dot_S256x128_S512x128_S256x512_1_1_0_0_n_n dot_S80x256_S256x512_S80x512_1_0_0_1_n_n mask big ones q0 q1 (k0_off23 i n) (k0_off24 i n) (k0_off25 i n) (k0_off26 i n)
        (k0_off23_inb i n) (k0_off24_inb i n) (k0_off25_inb i n) (k0_off26_inb i n) c
  if hc : k0_cond2 i = 1#1 then do
    have c : 𝒞 := (m0, l0, a0, m1, l1, a1, x00, x01, x10, x11)
    let c ← half sel k v cur nxt
        dot_S256x128_S512x128_S256x512_1_1_0_0_n_n dot_S80x256_S256x512_S80x512_1_0_0_1_n_n mask big ones q0 q1 (k0_off27 i 0#32 0#32) (k0_off27 i 0#32 1#32) (k0_off28 i 0#32 0#32) (k0_off28 i 0#32 1#32)
        (k0_off27_inb i hc 0 0) (k0_off27_inb i hc 0 1) (k0_off28_inb i hc 0 0) (k0_off28_inb i hc 0 1) (k0_off29 i 0#32) (k0_off30 i 0#32) (k0_off29_inb i hc 0) (k0_off30_inb i hc 0) c
    let c ← half sel k v nxt cur
        dot_S256x128_S512x128_S256x512_1_1_0_0_n_n dot_S80x256_S256x512_S80x512_1_0_0_1_n_n mask big ones q0 q1 (k0_off27 i 1#32 0#32) (k0_off27 i 1#32 1#32) (k0_off28 i 1#32 0#32) (k0_off28 i 1#32 1#32)
        (k0_off27_inb i hc 1 0) (k0_off27_inb i hc 1 1) (k0_off28_inb i hc 1 0) (k0_off28_inb i hc 1 1) (k0_off29 i 1#32) (k0_off30 i 1#32) (k0_off29_inb i hc 1) (k0_off30_inb i hc 1) c
    let c ← half sel k v cur nxt
        dot_S256x128_S512x128_S256x512_1_1_0_0_n_n dot_S80x256_S256x512_S80x512_1_0_0_1_n_n mask big ones q0 q1 (k0_off27 i 2#32 0#32) (k0_off27 i 2#32 1#32) (k0_off28 i 2#32 0#32) (k0_off28 i 2#32 1#32)
        (k0_off27_inb i hc 2 0) (k0_off27_inb i hc 2 1) (k0_off28_inb i hc 2 0) (k0_off28_inb i hc 2 1) (k0_off29 i 2#32) (k0_off30 i 2#32) (k0_off29_inb i hc 2) (k0_off30_inb i hc 2) c
    let c ← half sel k v nxt cur
        dot_S256x128_S512x128_S256x512_1_1_0_0_n_n dot_S80x256_S256x512_S80x512_1_0_0_1_n_n mask big ones q0 q1 (k0_off27 i 3#32 0#32) (k0_off27 i 3#32 1#32) (k0_off28 i 3#32 0#32) (k0_off28 i 3#32 1#32)
        (k0_off27_inb i hc 3 0) (k0_off27_inb i hc 3 1) (k0_off28_inb i hc 3 0) (k0_off28_inb i hc 3 1) (k0_off29 i 3#32) (k0_off30 i 3#32) (k0_off29_inb i hc 3) (k0_off30_inb i hc 3) c
    let c ← half sel k v cur nxt
        dot_S256x128_S512x128_S256x512_1_1_0_0_n_n dot_S80x256_S256x512_S80x512_1_0_0_1_n_n mask big ones q0 q1 (k0_off27 i 4#32 0#32) (k0_off27 i 4#32 1#32) (k0_off28 i 4#32 0#32) (k0_off28 i 4#32 1#32)
        (k0_off27_inb i hc 4 0) (k0_off27_inb i hc 4 1) (k0_off28_inb i hc 4 0) (k0_off28_inb i hc 4 1) (k0_off29 i 4#32) (k0_off30 i 4#32) (k0_off29_inb i hc 4) (k0_off30_inb i hc 4) c
    own sel k v nxt cur
        dot_S256x128_S512x128_S256x512_1_1_0_0_n_n dot_S80x256_S256x512_S80x512_1_0_0_1_n_n mask big ones r0 r1 (k0_off31 i) (k0_off32 i)
        (k0_off31_inb i hc) (k0_off32_inb i hc) (k0_off33 i) (k0_off33_inb i hc) c
  else do
    have c : 𝒞 := (m0, l0, a0, m1, l1, a1, x00, x01, x10, x11)
    let c ← half sel k v cur nxt
        dot_S256x128_S512x128_S256x512_1_1_0_0_n_n dot_S80x256_S256x512_S80x512_1_0_0_1_n_n mask big ones q0 q1 (k0_off34 i 0#32) (k0_off34 i 1#32) (k0_off35 i 0#32) (k0_off35 i 1#32)
        (k0_off34_inb i hc 0) (k0_off34_inb i hc 1) (k0_off35_inb i hc 0) (k0_off35_inb i hc 1) (k0_off36 i) (k0_off37 i) (k0_off36_inb i hc) (k0_off37_inb i hc) c
    own sel k v nxt cur
        dot_S256x128_S512x128_S256x512_1_1_0_0_n_n dot_S80x256_S256x512_S80x512_1_0_0_1_n_n mask big ones r0 r1 (k0_off38 i) (k0_off39 i)
        (k0_off38_inb i hc) (k0_off39_inb i hc) (k0_off40 i) (k0_off40_inb i hc) c

/-- Tile 2: the groups before the queries' own, then the own group. -/
def tile2 (i : grid0.Coords) (mask big : F .f32) (ones : FVec F S16x256 .bf16)
    (sel : Memref sig .tc .vmem S1x2x32x2048 .f32) (k v : Memref sig .tc .vmem S1x8192x128 .bf16) (cur nxt : Memref sig .tc .vmem S2x512x512 .f32)
    (q0 q1 r0 r1 : FVec F S512x128 .bf16) (c : 𝒞) : Prog (TpuEff nD τ sig (Elt F) Λ .tc) (𝒪) := do
  let (m0, l0, a0, m1, l1, a1, x00, x01, x10, x11) ← Scf.Loop.for (σ := (𝒞)) (k0_t5_loop i) (k0_t5_ok i) c fun n c => trip sel k v cur nxt
        dot_S256x128_S512x128_S256x512_1_1_0_0_n_n dot_S80x256_S256x512_S80x512_1_0_0_1_n_n mask big ones q0 q1 (k0_off41 i n) (k0_off42 i n) (k0_off43 i n) (k0_off44 i n)
        (k0_off41_inb i n) (k0_off42_inb i n) (k0_off43_inb i n) (k0_off44_inb i n) c
  let (m0, l0, a0, m1, l1, a1, x00, x01, x10, x11) ← Scf.Loop.for (σ := (𝒞)) (k0_t6_loop i) (k0_t6_ok i) (m0, l0, a0, m1, l1, a1, x00, x01, x10, x11) fun n c => trip sel k v cur nxt
        dot_S256x128_S512x128_S256x512_1_1_0_0_n_n dot_S80x256_S256x512_S80x512_1_0_0_1_n_n mask big ones q0 q1 (k0_off45 i n) (k0_off46 i n) (k0_off47 i n) (k0_off48 i n)
        (k0_off45_inb i n) (k0_off46_inb i n) (k0_off47_inb i n) (k0_off48_inb i n) c
  if hc : k0_cond3 i = 1#1 then do
    have c : 𝒞 := (m0, l0, a0, m1, l1, a1, x00, x01, x10, x11)
    let c ← half sel k v cur nxt
        dot_S256x128_S512x128_S256x512_1_1_0_0_n_n dot_S80x256_S256x512_S80x512_1_0_0_1_n_n mask big ones q0 q1 (k0_off49 i 0#32 0#32) (k0_off49 i 0#32 1#32) (k0_off50 i 0#32 0#32) (k0_off50 i 0#32 1#32)
        (k0_off49_inb i hc 0 0) (k0_off49_inb i hc 0 1) (k0_off50_inb i hc 0 0) (k0_off50_inb i hc 0 1) (k0_off51 i 0#32) (k0_off52 i 0#32) (k0_off51_inb i hc 0) (k0_off52_inb i hc 0) c
    let c ← half sel k v nxt cur
        dot_S256x128_S512x128_S256x512_1_1_0_0_n_n dot_S80x256_S256x512_S80x512_1_0_0_1_n_n mask big ones q0 q1 (k0_off49 i 1#32 0#32) (k0_off49 i 1#32 1#32) (k0_off50 i 1#32 0#32) (k0_off50 i 1#32 1#32)
        (k0_off49_inb i hc 1 0) (k0_off49_inb i hc 1 1) (k0_off50_inb i hc 1 0) (k0_off50_inb i hc 1 1) (k0_off51 i 1#32) (k0_off52 i 1#32) (k0_off51_inb i hc 1) (k0_off52_inb i hc 1) c
    let c ← half sel k v cur nxt
        dot_S256x128_S512x128_S256x512_1_1_0_0_n_n dot_S80x256_S256x512_S80x512_1_0_0_1_n_n mask big ones q0 q1 (k0_off49 i 2#32 0#32) (k0_off49 i 2#32 1#32) (k0_off50 i 2#32 0#32) (k0_off50 i 2#32 1#32)
        (k0_off49_inb i hc 2 0) (k0_off49_inb i hc 2 1) (k0_off50_inb i hc 2 0) (k0_off50_inb i hc 2 1) (k0_off51 i 2#32) (k0_off52 i 2#32) (k0_off51_inb i hc 2) (k0_off52_inb i hc 2) c
    let c ← half sel k v nxt cur
        dot_S256x128_S512x128_S256x512_1_1_0_0_n_n dot_S80x256_S256x512_S80x512_1_0_0_1_n_n mask big ones q0 q1 (k0_off49 i 3#32 0#32) (k0_off49 i 3#32 1#32) (k0_off50 i 3#32 0#32) (k0_off50 i 3#32 1#32)
        (k0_off49_inb i hc 3 0) (k0_off49_inb i hc 3 1) (k0_off50_inb i hc 3 0) (k0_off50_inb i hc 3 1) (k0_off51 i 3#32) (k0_off52 i 3#32) (k0_off51_inb i hc 3) (k0_off52_inb i hc 3) c
    let c ← half sel k v cur nxt
        dot_S256x128_S512x128_S256x512_1_1_0_0_n_n dot_S80x256_S256x512_S80x512_1_0_0_1_n_n mask big ones q0 q1 (k0_off49 i 4#32 0#32) (k0_off49 i 4#32 1#32) (k0_off50 i 4#32 0#32) (k0_off50 i 4#32 1#32)
        (k0_off49_inb i hc 4 0) (k0_off49_inb i hc 4 1) (k0_off50_inb i hc 4 0) (k0_off50_inb i hc 4 1) (k0_off51 i 4#32) (k0_off52 i 4#32) (k0_off51_inb i hc 4) (k0_off52_inb i hc 4) c
    let c ← half sel k v nxt cur
        dot_S256x128_S512x128_S256x512_1_1_0_0_n_n dot_S80x256_S256x512_S80x512_1_0_0_1_n_n mask big ones q0 q1 (k0_off49 i 5#32 0#32) (k0_off49 i 5#32 1#32) (k0_off50 i 5#32 0#32) (k0_off50 i 5#32 1#32)
        (k0_off49_inb i hc 5 0) (k0_off49_inb i hc 5 1) (k0_off50_inb i hc 5 0) (k0_off50_inb i hc 5 1) (k0_off51 i 5#32) (k0_off52 i 5#32) (k0_off51_inb i hc 5) (k0_off52_inb i hc 5) c
    own sel k v cur nxt
        dot_S256x128_S512x128_S256x512_1_1_0_0_n_n dot_S80x256_S256x512_S80x512_1_0_0_1_n_n mask big ones r0 r1 (k0_off53 i) (k0_off54 i)
        (k0_off53_inb i hc) (k0_off54_inb i hc) (k0_off55 i) (k0_off55_inb i hc) c
  else do
    have c : 𝒞 := (m0, l0, a0, m1, l1, a1, x00, x01, x10, x11)
    let c ← half sel k v cur nxt
        dot_S256x128_S512x128_S256x512_1_1_0_0_n_n dot_S80x256_S256x512_S80x512_1_0_0_1_n_n mask big ones q0 q1 (k0_off56 i 0#32 0#32) (k0_off56 i 0#32 1#32) (k0_off57 i 0#32 0#32) (k0_off57 i 0#32 1#32)
        (k0_off56_inb i hc 0 0) (k0_off56_inb i hc 0 1) (k0_off57_inb i hc 0 0) (k0_off57_inb i hc 0 1) (k0_off58 i 0#32) (k0_off59 i 0#32) (k0_off58_inb i hc 0) (k0_off59_inb i hc 0) c
    let c ← half sel k v nxt cur
        dot_S256x128_S512x128_S256x512_1_1_0_0_n_n dot_S80x256_S256x512_S80x512_1_0_0_1_n_n mask big ones q0 q1 (k0_off56 i 1#32 0#32) (k0_off56 i 1#32 1#32) (k0_off57 i 1#32 0#32) (k0_off57 i 1#32 1#32)
        (k0_off56_inb i hc 1 0) (k0_off56_inb i hc 1 1) (k0_off57_inb i hc 1 0) (k0_off57_inb i hc 1 1) (k0_off58 i 1#32) (k0_off59 i 1#32) (k0_off58_inb i hc 1) (k0_off59_inb i hc 1) c
    own sel k v cur nxt
        dot_S256x128_S512x128_S256x512_1_1_0_0_n_n dot_S80x256_S256x512_S80x512_1_0_0_1_n_n mask big ones r0 r1 (k0_off60 i) (k0_off61 i)
        (k0_off60_inb i hc) (k0_off61_inb i hc) (k0_off62 i) (k0_off62_inb i hc) c

/-- Tile 3: the groups before the queries' own, then the own group. -/
def tile3 (i : grid0.Coords) (mask big : F .f32) (ones : FVec F S16x256 .bf16)
    (sel : Memref sig .tc .vmem S1x2x32x2048 .f32) (k v : Memref sig .tc .vmem S1x8192x128 .bf16) (cur nxt : Memref sig .tc .vmem S2x512x512 .f32)
    (q0 q1 : FVec F S512x128 .bf16) (c : 𝒞) : Prog (TpuEff nD τ sig (Elt F) Λ .tc) (ℒ) := do
  let (m0, l0, a0, m1, l1, a1, x00, x01, x10, x11) ← Scf.Loop.for (σ := (𝒞)) (k0_t7_loop i) (k0_t7_ok i) c fun n c => trip sel k v cur nxt
        dot_S256x128_S512x128_S256x512_1_1_0_0_n_n dot_S80x256_S256x512_S80x512_1_0_0_1_n_n mask big ones q0 q1 (k0_off63 i n) (k0_off64 i n) (k0_off65 i n) (k0_off66 i n)
        (k0_off63_inb i n) (k0_off64_inb i n) (k0_off65_inb i n) (k0_off66_inb i n) c
  let (m0, l0, a0, m1, l1, a1, x00, x01, x10, x11) ← Scf.Loop.for (σ := (𝒞)) (k0_t8_loop i) (k0_t8_ok i) (m0, l0, a0, m1, l1, a1, x00, x01, x10, x11) fun n c => trip sel k v cur nxt
        dot_S256x128_S512x128_S256x512_1_1_0_0_n_n dot_S80x256_S256x512_S80x512_1_0_0_1_n_n mask big ones q0 q1 (k0_off67 i n) (k0_off68 i n) (k0_off69 i n) (k0_off70 i n)
        (k0_off67_inb i n) (k0_off68_inb i n) (k0_off69_inb i n) (k0_off70_inb i n) c
  if hc : k0_cond4 i = 1#1 then do
    have c : 𝒞 := (m0, l0, a0, m1, l1, a1, x00, x01, x10, x11)
    let c ← half sel k v cur nxt
        dot_S256x128_S512x128_S256x512_1_1_0_0_n_n dot_S80x256_S256x512_S80x512_1_0_0_1_n_n mask big ones q0 q1 (k0_off71 i 0#32 0#32) (k0_off71 i 0#32 1#32) (k0_off72 i 0#32 0#32) (k0_off72 i 0#32 1#32)
        (k0_off71_inb i hc 0 0) (k0_off71_inb i hc 0 1) (k0_off72_inb i hc 0 0) (k0_off72_inb i hc 0 1) (k0_off73 i 0#32) (k0_off74 i 0#32) (k0_off73_inb i hc 0) (k0_off74_inb i hc 0) c
    let c ← half sel k v nxt cur
        dot_S256x128_S512x128_S256x512_1_1_0_0_n_n dot_S80x256_S256x512_S80x512_1_0_0_1_n_n mask big ones q0 q1 (k0_off71 i 1#32 0#32) (k0_off71 i 1#32 1#32) (k0_off72 i 1#32 0#32) (k0_off72 i 1#32 1#32)
        (k0_off71_inb i hc 1 0) (k0_off71_inb i hc 1 1) (k0_off72_inb i hc 1 0) (k0_off72_inb i hc 1 1) (k0_off73 i 1#32) (k0_off74 i 1#32) (k0_off73_inb i hc 1) (k0_off74_inb i hc 1) c
    let c ← half sel k v cur nxt
        dot_S256x128_S512x128_S256x512_1_1_0_0_n_n dot_S80x256_S256x512_S80x512_1_0_0_1_n_n mask big ones q0 q1 (k0_off71 i 2#32 0#32) (k0_off71 i 2#32 1#32) (k0_off72 i 2#32 0#32) (k0_off72 i 2#32 1#32)
        (k0_off71_inb i hc 2 0) (k0_off71_inb i hc 2 1) (k0_off72_inb i hc 2 0) (k0_off72_inb i hc 2 1) (k0_off73 i 2#32) (k0_off74 i 2#32) (k0_off73_inb i hc 2) (k0_off74_inb i hc 2) c
    let c ← half sel k v nxt cur
        dot_S256x128_S512x128_S256x512_1_1_0_0_n_n dot_S80x256_S256x512_S80x512_1_0_0_1_n_n mask big ones q0 q1 (k0_off71 i 3#32 0#32) (k0_off71 i 3#32 1#32) (k0_off72 i 3#32 0#32) (k0_off72 i 3#32 1#32)
        (k0_off71_inb i hc 3 0) (k0_off71_inb i hc 3 1) (k0_off72_inb i hc 3 0) (k0_off72_inb i hc 3 1) (k0_off73 i 3#32) (k0_off74 i 3#32) (k0_off73_inb i hc 3) (k0_off74_inb i hc 3) c
    let c ← half sel k v cur nxt
        dot_S256x128_S512x128_S256x512_1_1_0_0_n_n dot_S80x256_S256x512_S80x512_1_0_0_1_n_n mask big ones q0 q1 (k0_off71 i 4#32 0#32) (k0_off71 i 4#32 1#32) (k0_off72 i 4#32 0#32) (k0_off72 i 4#32 1#32)
        (k0_off71_inb i hc 4 0) (k0_off71_inb i hc 4 1) (k0_off72_inb i hc 4 0) (k0_off72_inb i hc 4 1) (k0_off73 i 4#32) (k0_off74 i 4#32) (k0_off73_inb i hc 4) (k0_off74_inb i hc 4) c
    let c ← half sel k v nxt cur
        dot_S256x128_S512x128_S256x512_1_1_0_0_n_n dot_S80x256_S256x512_S80x512_1_0_0_1_n_n mask big ones q0 q1 (k0_off71 i 5#32 0#32) (k0_off71 i 5#32 1#32) (k0_off72 i 5#32 0#32) (k0_off72 i 5#32 1#32)
        (k0_off71_inb i hc 5 0) (k0_off71_inb i hc 5 1) (k0_off72_inb i hc 5 0) (k0_off72_inb i hc 5 1) (k0_off73 i 5#32) (k0_off74 i 5#32) (k0_off73_inb i hc 5) (k0_off74_inb i hc 5) c
    let c ← half sel k v cur nxt
        dot_S256x128_S512x128_S256x512_1_1_0_0_n_n dot_S80x256_S256x512_S80x512_1_0_0_1_n_n mask big ones q0 q1 (k0_off71 i 6#32 0#32) (k0_off71 i 6#32 1#32) (k0_off72 i 6#32 0#32) (k0_off72 i 6#32 1#32)
        (k0_off71_inb i hc 6 0) (k0_off71_inb i hc 6 1) (k0_off72_inb i hc 6 0) (k0_off72_inb i hc 6 1) (k0_off73 i 6#32) (k0_off74 i 6#32) (k0_off73_inb i hc 6) (k0_off74_inb i hc 6) c
    ownLast sel v nxt dot_S80x256_S256x512_S80x512_1_0_0_1_n_n mask big ones (k0_off75 i) (k0_off76 i)
        (k0_off75_inb i hc) (k0_off76_inb i hc) (k0_off77 i) (k0_off77_inb i hc) c
  else do
    have c : 𝒞 := (m0, l0, a0, m1, l1, a1, x00, x01, x10, x11)
    let c ← half sel k v cur nxt
        dot_S256x128_S512x128_S256x512_1_1_0_0_n_n dot_S80x256_S256x512_S80x512_1_0_0_1_n_n mask big ones q0 q1 (k0_off78 i 0#32 0#32) (k0_off78 i 0#32 1#32) (k0_off79 i 0#32 0#32) (k0_off79 i 0#32 1#32)
        (k0_off78_inb i hc 0 0) (k0_off78_inb i hc 0 1) (k0_off79_inb i hc 0 0) (k0_off79_inb i hc 0 1) (k0_off80 i 0#32) (k0_off81 i 0#32) (k0_off80_inb i hc 0) (k0_off81_inb i hc 0) c
    let c ← half sel k v nxt cur
        dot_S256x128_S512x128_S256x512_1_1_0_0_n_n dot_S80x256_S256x512_S80x512_1_0_0_1_n_n mask big ones q0 q1 (k0_off78 i 1#32 0#32) (k0_off78 i 1#32 1#32) (k0_off79 i 1#32 0#32) (k0_off79 i 1#32 1#32)
        (k0_off78_inb i hc 1 0) (k0_off78_inb i hc 1 1) (k0_off79_inb i hc 1 0) (k0_off79_inb i hc 1 1) (k0_off80 i 1#32) (k0_off81 i 1#32) (k0_off80_inb i hc 1) (k0_off81_inb i hc 1) c
    let c ← half sel k v cur nxt
        dot_S256x128_S512x128_S256x512_1_1_0_0_n_n dot_S80x256_S256x512_S80x512_1_0_0_1_n_n mask big ones q0 q1 (k0_off78 i 2#32 0#32) (k0_off78 i 2#32 1#32) (k0_off79 i 2#32 0#32) (k0_off79 i 2#32 1#32)
        (k0_off78_inb i hc 2 0) (k0_off78_inb i hc 2 1) (k0_off79_inb i hc 2 0) (k0_off79_inb i hc 2 1) (k0_off80 i 2#32) (k0_off81 i 2#32) (k0_off80_inb i hc 2) (k0_off81_inb i hc 2) c
    ownLast sel v nxt dot_S80x256_S256x512_S80x512_1_0_0_1_n_n mask big ones (k0_off82 i) (k0_off83 i)
        (k0_off82_inb i hc) (k0_off83_inb i hc) (k0_off84 i) (k0_off84_inb i hc) c

/-- One grid point. -/
def kernel (mask big : F .f32) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2x32x2048 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x2048x128 .bf16) (harg8 : arg8.IsWhole) (arg9 : Memref sig .tc .vmem S2x512x512 .f32) (harg9 : arg9.IsWhole) (arg10 : Memref sig .tc .vmem S2x512x512 .f32) (harg10 : arg10.IsWhole) :
    Prog (TpuEff nD τ sig (Elt F) Λ .tc) PUnit := do
  have ones : FVec F S16x256 .bf16 := broadcast S16x256 (Scalar.ofBits .bf16 0x3F80#16)
  have zero : F .f32 := Scalar.ofBits .f32 0x00000000#32
  have mi : FVec F S1x512 .f32 := broadcast S1x512 mask
  have li : FVec F S1x512 .f32 := broadcast S1x512 zero
  have ai : FVec F S64x512 .f32 := broadcast S64x512 zero
  let (q00, q01) ← queries arg3 ![0, 0, 0] in_q0
  let (q10, q11) ← queries arg3 ![0, 512, 0] in_q1
  let (q20, q21) ← queries arg3 ![0, 1024, 0] in_q2
  let (q30, q31) ← queries arg3 ![0, 1536, 0] in_q3
  let x00 ← scoreTile arg6 arg9 dot_S256x128_S512x128_S256x512_1_1_0_0_n_n q00 ![0, 0, 0] in_k0 (![0, 0] :) sl_lo ![0, 0, 0] in_t00
  let x01 ← scoreTile arg6 arg9 dot_S256x128_S512x128_S256x512_1_1_0_0_n_n q00 ![0, 0, 0] in_k0 (![256, 0] :) sl_hi ![0, 256, 0] in_t01
  let x10 ← scoreTile arg6 arg9 dot_S256x128_S512x128_S256x512_1_1_0_0_n_n q01 ![0, 0, 0] in_k0 (![0, 0] :) sl_lo ![1, 0, 0] in_t10
  let x11 ← scoreTile arg6 arg9 dot_S256x128_S512x128_S256x512_1_1_0_0_n_n q01 ![0, 0, 0] in_k0 (![256, 0] :) sl_hi ![1, 256, 0] in_t11
  let (l0, a0, l1, a1, x00, x01, x10, x11) ← tile0 i mask big ones arg5 arg6 arg7 arg9 arg10 q00 q01 q10 q11 (mi, li, ai, mi, li, ai, x00, x01, x10, x11)
  finish arg4 arg8 ![0, 0, 0] in_q0 (View.stores_vmem ne_S1x512x128 (harg8.storeExact_slice rfl _ packedbf16_S1x2048x128_S1x512x128_0_0_0) (fun _ => rfl)) l0 a0 l1 a1
  let (l0, a0, l1, a1, x00, x01, x10, x11) ← tile1 i mask big ones arg5 arg6 arg7 arg10 arg9 q10 q11 q20 q21 (mi, li, ai, mi, li, ai, x00, x01, x10, x11)
  finish arg4 arg8 ![0, 512, 0] in_q1 (View.stores_vmem ne_S1x512x128 (harg8.storeExact_slice rfl _ packedbf16_S1x2048x128_S1x512x128_0_512_0) (fun _ => rfl)) l0 a0 l1 a1
  let (l0, a0, l1, a1, x00, x01, x10, x11) ← tile2 i mask big ones arg5 arg6 arg7 arg10 arg9 q20 q21 q30 q31 (mi, li, ai, mi, li, ai, x00, x01, x10, x11)
  finish arg4 arg8 ![0, 1024, 0] in_q2 (View.stores_vmem ne_S1x512x128 (harg8.storeExact_slice rfl _ packedbf16_S1x2048x128_S1x512x128_0_1024_0) (fun _ => rfl)) l0 a0 l1 a1
  let (l0, a0, l1, a1) ← tile3 i mask big ones arg5 arg6 arg7 arg9 arg10 q30 q31 (mi, li, ai, mi, li, ai, x00, x01, x10, x11)
  finish arg4 arg8 ![0, 1536, 0] in_q3 (View.stores_vmem ne_S1x512x128 (harg8.storeExact_slice rfl _ packedbf16_S1x2048x128_S1x512x128_0_1536_0) (fun _ => rfl)) l0 a0 l1 a1
  pure ⟨⟩

end Moba

end
-- ==== Proof.Moba.Value.lean ====
/-
  What the attention kernel computes, as functions of its buffers' contents, for any float type: one step over a group of
  keys, the steps before the queries' own group one after the other, the own group, and a tile's result.
-/
module

public import proofs.«01_k».proof.Proof.Moba.Kernel

@[expose] public section

noncomputable section

namespace Moba

open Idealize.ShloMosaic
open Cert.KernelIdeal

variable {F : FTy → Type} [FloatOps F] [Cert.KernelIdeal.Facts]

/-- Scores of one group: per head, the first and the second 256 keys. -/
structure Tiles (F : FTy → Type) where
  t00 : FVec F S256x512 .f32
  t01 : FVec F S256x512 .f32
  t10 : FVec F S256x512 .f32
  t11 : FVec F S256x512 .f32

/-- Per head the running maximum, sum and weighted sum. -/
structure Acc (F : FTy → Type) where
  m0 : FVec F S1x512 .f32
  l0 : FVec F S1x512 .f32
  a0 : FVec F S64x512 .f32
  m1 : FVec F S1x512 .f32
  l1 : FVec F S1x512 .f32
  a1 : FVec F S64x512 .f32

/-- A row of the mask. -/
def rowV (S : S1x2x32x2048.Idx → F .f32) (o : Fin 4 → Nat) (ho : ∀ a, o a + S1x1x1x512.size a ≤ S1x2x32x2048.size a) : FVec F S1x512 .f32 :=
  shapeCast S1x512 (fun y : S1x1x1x512.Idx => S ((Rect.unit (s := S1x2x32x2048) o S1x1x1x512.size ho).emb y)) sc_S1x1x1x512

/-- 512 rows of keys or values. -/
def rowsV (K : S1x8192x128.Idx → F .bf16) (o : Fin 3 → Nat) (ho : ∀ a, o a + S1x512x128.size a ≤ S1x8192x128.size a) : FVec F S512x128 .bf16 :=
  shapeCast S512x128 (fun y : S1x512x128.Idx => K ((Rect.unit (s := S1x8192x128) o S1x512x128.size ho).emb y)) sc_S1x512x128

/-- Their transpose. -/
def valTV (V : S1x8192x128.Idx → F .bf16) (o : Fin 3 → Nat) (ho : ∀ a, o a + S1x512x128.size a ≤ S1x8192x128.size a) : FVec F S128x512 .bf16 :=
  transpose S128x512 [1, 0] (rowsV V o ho) tr_S512x128

/-- Scores of 256 of 512 keys. -/
def tileV (K : S1x8192x128.Idx → F .bf16) (q : FVec F S512x128 .bf16) (o : Fin 3 → Nat) (ho : ∀ a, o a + S1x512x128.size a ≤ S1x8192x128.size a)
    (os : Fin 2 → Nat) (hs : S512x128.Slices os S256x128) : FVec F S256x512 .f32 :=
  matmul dot_S256x128_S512x128_S256x512_1_1_0_0_n_n none (extractStridedSlice S256x128 os (rowsV K o ho) hs) q (constant S256x512 .f32 0x00000000#32)

/-- A block's maximum per query. -/
def tmaxV (t : FVec F S256x512 .f32) : FVec F S1x512 .f32 :=
  shapeCast S1x512 (multiReduction .maximumf [0] S512 t 0xFF800000#32 red_S256x512 (.inl rfl) rfl) sc_S512

/-- The four blocks of a group. -/
def tilesV (K : S1x8192x128.Idx → F .bf16) (q0 q1 : FVec F S512x128 .bf16) (o : Fin 3 → Nat)
    (ho : ∀ a, o a + S1x512x128.size a ≤ S1x8192x128.size a) : Tiles F :=
  ⟨tileV K q0 o ho ![0, 0] sl_lo, tileV K q0 o ho ![256, 0] sl_hi, tileV K q1 o ho ![0, 0] sl_lo, tileV K q1 o ho ![256, 0] sl_hi⟩

/-- Is the block on, per query? -/
def onV (s : FVec F S1x512 .f32) : IVec S1x512 1 := cmpf .ogt s (broadcast S1x512 (Scalar.ofBits .f32 0x3F000000#32))

/-- The new maximum: of the old one and of the blocks that are on. -/
def maxV (mask : F .f32) (m s0 s1 x0 x1 : FVec F S1x512 .f32) : FVec F S1x512 .f32 :=
  maximumf (maximumf m (select (onV s0) x0 (broadcast S1x512 mask))) (select (onV s1) x1 (broadcast S1x512 mask))

/-- A block's weights: zero where it is off. -/
def weightV (big : F .f32) (t : FVec F S256x512 .f32) (s n : FVec F S1x512 .f32) : FVec F S256x512 .bf16 :=
  truncf .bf16 (exp2 (subf t (broadcastTo S256x512 (select (onV s) n (broadcast S1x512 big)) bc_S256x512))) bits_lt

/-- Weighted sums of a block's values and, in the rows from 64 on, of ones. -/
def sumsV (ones : FVec F S16x256 .bf16) (vt : FVec F S128x512 .bf16) (o : Fin 2 → Nat) (ho : S128x512.Slices o S64x256) (p : FVec F S256x512 .bf16) :
    FVec F S80x512 .f32 :=
  matmul dot_S80x256_S256x512_S80x512_1_0_0_1_n_n none (concatenate S80x256 0 [⟨S64x256, extractStridedSlice S64x256 o vt ho⟩, ⟨S16x256, ones⟩] cat_S80x256)
    p (constant S80x512 .f32 0x00000000#32)

/-- The new sum of weights. -/
def lV (m n l : FVec F S1x512 .f32) (w : FVec F S80x512 .f32) : FVec F S1x512 .f32 :=
  addf (mulf (exp2 (subf m n)) l) (extractStridedSlice S1x512 ![64, 0] w sl_sum)

/-- The new weighted sum. -/
def aV (m n : FVec F S1x512 .f32) (a : FVec F S64x512 .f32) (w : FVec F S80x512 .f32) : FVec F S64x512 .f32 :=
  addf (mulf (broadcastTo S64x512 (exp2 (subf m n)) bc_S64x512) a) (extractStridedSlice S64x512 ![0, 0] w sl_acc)

/-- One step: the group's scores `T`, the values `vt`, the mask's rows `s`, the blocks' maxima `x`. -/
def stepV (mask big : F .f32) (ones : FVec F S16x256 .bf16) (vt : FVec F S128x512 .bf16) (s00 s01 s10 s11 x00 x01 x10 x11 : FVec F S1x512 .f32)
    (T : Tiles F) (A : Acc F) : Acc F :=
  have n0 := maxV mask A.m0 s00 s01 x00 x01
  have n1 := maxV mask A.m1 s10 s11 x10 x11
  have w0 := addf (sumsV ones vt ![0, 0] sl_v00 (weightV big T.t00 s00 n0)) (sumsV ones vt ![0, 256] sl_v01 (weightV big T.t01 s01 n0))
  have w1 := addf (sumsV ones vt ![64, 0] sl_v10 (weightV big T.t10 s10 n1)) (sumsV ones vt ![64, 256] sl_v11 (weightV big T.t11 s11 n1))
  ⟨n0, lV A.m0 n0 A.l0 w0, aV A.m0 n0 A.a0 w0, n1, lV A.m1 n1 A.l1 w1, aV A.m1 n1 A.a1 w1⟩

/-- Where the group `g` of keys starts. -/
def offK (g : Nat) : Fin 3 → Nat := ![0, 512 * (g % 16), 0]

/-- The mask's row of block `s` of group `g`, head `h`, at tile `t`'s queries. -/
def offS (h : Fin 2) (g : Nat) (s : Fin 2) (t : Fin 4) : Fin 4 → Nat := ![0, h.val, 2 * (g % 16) + s.val, 512 * t.val]

theorem inK (g : Nat) : ∀ a, offK g a + S1x512x128.size a ≤ S1x8192x128.size a := by
  intro a; fin_cases a
  · show (0 + 1 : Nat) ≤ 1; omega
  · show 512 * (g % 16) + 512 ≤ 8192; omega
  · show (0 + 128 : Nat) ≤ 128; omega

theorem inS (h : Fin 2) (g : Nat) (s : Fin 2) (t : Fin 4) : ∀ a, offS h g s t a + S1x1x1x512.size a ≤ S1x2x32x2048.size a := by
  intro a; fin_cases a
  · show (0 + 1 : Nat) ≤ 1; omega
  · show h.val + 1 ≤ 2; omega
  · show 2 * (g % 16) + s.val + 1 ≤ 32; omega
  · show 512 * t.val + 512 ≤ 2048; omega

section Run

variable (mask big : F .f32) (ones : FVec F S16x256 .bf16) (S : S1x2x32x2048.Idx → F .f32) (K V : S1x8192x128.Idx → F .bf16)
  (q0 q1 : FVec F S512x128 .bf16) (t : Fin 4)

/-- The scores of group `g`. -/
def groupV (g : Nat) : Tiles F := tilesV K q0 q1 (offK g) (inK g)

/-- The step over group `g`. -/
def stepG (g : Nat) (A : Acc F) : Acc F :=
  stepV mask big ones (valTV V (offK g) (inK g)) (rowV S (offS 0 g 0 t) (inS 0 g 0 t)) (rowV S (offS 0 g 1 t) (inS 0 g 1 t))
    (rowV S (offS 1 g 0 t) (inS 1 g 0 t)) (rowV S (offS 1 g 1 t) (inS 1 g 1 t))
    (tmaxV (groupV K q0 q1 g).t00) (tmaxV (groupV K q0 q1 g).t01) (tmaxV (groupV K q0 q1 g).t10) (tmaxV (groupV K q0 q1 g).t11) (groupV K q0 q1 g) A

/-- No group seen. -/
def acc0 : Acc F :=
  ⟨broadcast S1x512 mask, broadcast S1x512 (Scalar.ofBits .f32 0x00000000#32), broadcast S64x512 (Scalar.ofBits .f32 0x00000000#32),
    broadcast S1x512 mask, broadcast S1x512 (Scalar.ofBits .f32 0x00000000#32), broadcast S64x512 (Scalar.ofBits .f32 0x00000000#32)⟩

/-- After the first `n` groups. -/
def accV : Nat → Acc F
  | 0 => acc0 mask
  | g + 1 => stepG mask big ones S K V q0 q1 t g (accV g)

/-- The queries of the second 256. -/
def secondV : IVec S1x512 1 := cmpi .sge (iota .tc S1x512 32 [1] io_S1x512) (broadcast S1x512 256#32)

/-- The vector of ones. -/
def oneV : FVec F S1x512 .f32 := broadcast S1x512 (Scalar.ofBits .f32 0x3F800000#32)

/-- Keys not after the query, in the own group. -/
def causalV : IVec S512x512 1 := cmpi .sle (iota .tc S512x512 32 [0] io0_S512x512) (iota .tc S512x512 32 [1] io1_S512x512)

/-- The own group's scores, a key after the query at `mask`. -/
def maskedV (T : Tiles F) : Tiles F :=
  ⟨select (extractStridedSlice S256x512 ![0, 0] causalV sl_clo) T.t00 (broadcast S256x512 mask),
    select (extractStridedSlice S256x512 ![256, 0] causalV sl_chi) T.t01 (broadcast S256x512 mask),
    select (extractStridedSlice S256x512 ![0, 0] causalV sl_clo) T.t10 (broadcast S256x512 mask),
    select (extractStridedSlice S256x512 ![256, 0] causalV sl_chi) T.t11 (broadcast S256x512 mask)⟩

/-- The step over the own group. -/
def ownG (g : Nat) (A : Acc F) : Acc F :=
  have T := maskedV mask (groupV K q0 q1 g)
  stepV mask big ones (valTV V (offK g) (inK g))
    (select secondV (rowV S (offS 0 g 0 t) (inS 0 g 0 t)) oneV) oneV
    (select secondV (rowV S (offS 1 g 0 t) (inS 1 g 0 t)) oneV) oneV
    (tmaxV T.t00) (tmaxV T.t01) (tmaxV T.t10) (tmaxV T.t11) T A

/-- All of a tile whose own group is `n`. -/
def tileAcc (n : Nat) : Acc F := ownG mask big ones S K V q0 q1 t n (accV mask big ones S K V q0 q1 t n)

end Run

/-- 512 rows of queries or of the gate. -/
def qrowsV (Q : S1x2048x128.Idx → F .bf16) (o : Fin 3 → Nat) (ho : ∀ a, o a + S1x512x128.size a ≤ S1x2048x128.size a) : FVec F S512x128 .bf16 :=
  shapeCast S512x128 (fun y : S1x512x128.Idx => Q ((Rect.unit (s := S1x2048x128) o S1x512x128.size ho).emb y)) sc_S1x512x128

/-- A tile's queries with the second head's lanes zero. -/
def query0V (q : FVec F S512x128 .bf16) : FVec F S512x128 .bf16 :=
  select (cmpi .slt (iota .tc S512x128 32 [1] io_S512x128) (broadcast S512x128 64#32)) q (broadcast S512x128 (Scalar.sitofp .bf16 0#32))

/-- A tile's queries with the first head's lanes zero. -/
def query1V (q : FVec F S512x128 .bf16) : FVec F S512x128 .bf16 :=
  select (cmpi .sge (iota .tc S512x128 32 [1] io_S512x128) (broadcast S512x128 64#32)) q (broadcast S512x128 (Scalar.sitofp .bf16 0#32))

/-- The gate. -/
def gateV (z : FVec F S512x128 .bf16) : FVec F S512x128 .f32 :=
  have g : FVec F S512x128 .f32 := extf .f32 z bits_lt
  mulf g (addf (mulf (broadcast S512x128 (Scalar.ofBits .f32 0x3F000000#32)) (tanh (mulf (broadcast S512x128 (Scalar.ofBits .f32 0x3F000000#32)) g)))
    (broadcast S512x128 (Scalar.ofBits .f32 0x3F000000#32)))

/-- A tile's result. -/
def resultV (z : FVec F S512x128 .bf16) (A : Acc F) : FVec F S512x128 .bf16 :=
  have y : FVec F S512x128 .f32 := transpose S512x128 [1, 0] (concatenate S128x512 0
    [⟨S64x512, divf A.a0 (broadcastTo S64x512 A.l0 bc_S64x512)⟩, ⟨S64x512, divf A.a1 (broadcastTo S64x512 A.l1 bc_S64x512)⟩] cat_S128x512) tr_S128x512
  truncf .bf16 (mulf y (gateV z)) bits_lt

/-- Where tile `t`'s queries start. -/
def offQ (t : Fin 4) : Fin 3 → Nat := ![0, 512 * t.val, 0]

theorem inQ (t : Fin 4) : ∀ a, offQ t a + S1x512x128.size a ≤ S1x2048x128.size a := by
  intro a; fin_cases a
  · show (0 + 1 : Nat) ≤ 1; omega
  · show 512 * t.val + 512 ≤ 2048; omega
  · show (0 + 128 : Nat) ≤ 128; omega

/-- Tile `t`'s result at a grid point whose tiles' own groups are `4 * j + t`, from the blocks of queries, gate, mask, keys and values. -/
def outTile (mask big : F .f32) (Q Z : S1x2048x128.Idx → F .bf16) (S : S1x2x32x2048.Idx → F .f32) (K V : S1x8192x128.Idx → F .bf16) (j : Nat)
    (t : Fin 4) : FVec F S512x128 .bf16 :=
  have q := qrowsV Q (offQ t) (inQ t)
  resultV (qrowsV Z (offQ t) (inQ t))
    (tileAcc mask big (broadcast S16x256 (Scalar.ofBits .bf16 0x3F80#16)) S K V (query0V q) (query1V q) t (4 * j + t.val))

/-- The place in its tile of a place in the block of results: row `r` is row `r % 512` of tile `r / 512`. -/
def rowAt (y : S1x2048x128.Idx) : S512x128.Idx := fun a => match a with
  | ⟨0, _⟩ => ⟨(y 1).val % 512, Nat.mod_lt _ (by decide)⟩
  | ⟨1, _⟩ => y 2

/-- The tile of a place in the block of results. -/
def tileAt (y : S1x2048x128.Idx) : Fin 4 := ⟨(y 1).val / 512, by have h : (y 1).val < 2048 := (y 1).isLt; omega⟩

/-- The grid point's block of results. -/
def outV (mask big : F .f32) (Q Z : S1x2048x128.Idx → F .bf16) (S : S1x2x32x2048.Idx → F .f32) (K V : S1x8192x128.Idx → F .bf16) (j : Nat) :
    S1x2048x128.Idx → F .bf16 := fun y => outTile mask big Q Z S K V j (tileAt y) (rowAt y)

end Moba

end
-- ==== Proof.Moba.Mem.lean ====
/-
  A load and a store of part of a memref, stated for a memref that is owned at known contents: a load gives the contents
  under the rectangle, a store replaces them.
-/
module

public import Idealize.ShloMosaic.Lib.Pipeline
public import Idealize.ShloMosaic.Lib.Memref
public import Idealize.ShloMosaic.Lib.Tactic

@[expose] public section

noncomputable section

namespace Moba

open Idealize.ShloMosaic Idealize.SL.Sem
open Idealize.SL Idealize.SL.RA
open Idealize.SL.BI (sProp)
open scoped Idealize.SL.BI
open Idealize.SL.BI.BIBase Idealize.SL.BI.Laws Idealize.SL.ProofMode

variable {nD : Nat} {τ : Topo} {sig : RefSig} {Ix : Type} [DecidableEq Ix]
variable {Val : EltTy → Type} {Name : Type} [DecidableEq Name] {U : Type} [URA U] {Lvl : Type} {Λ : Labels}
local notation "𝕄" => MT nD τ sig Ix Val Name U Lvl

variable [Preorder Lvl] {defs : Defs nD τ sig Val Λ} (𝒱 : Variants) (c : Thread nD τ) (bd : Option 𝒱.V) (E : Set Name)
variable {s : Shape} {e : EltTy}

/-- A load from an owned memref gives its contents under the rectangle. -/
theorem wp_load_owns {cs : CoreSpace} {m : Memref sig c.2.kind cs s e} {r : Rect s} {hl : m.view.LoadsAt r} {q : PosShare TreeShare}
    {X : s.Idx → Val e} {Q : (r.shape.Idx → Val e) → sProp 𝕄} :
    owns c m q X ⊢ iprop((owns c m q X -∗ Q (fun y => X (r.emb y)))
      -∗ wp frame (wpE defs 𝒱 c bd) E (Prog.lift (.load m r.toLoadRect hl)) Q) := by
  unfold owns
  iintro ⟨%f, %hf, H⟩ HQ
  have hS : (m.access r).set ⊆ m.view.set := View.set_slice_subset _ _
  ihave HW := (wp_load_rect (defs := defs) 𝒱 c bd E (hl := hl) (k := fun x => .ret x) (f := f) (q := q) (Q := Q) hS) $$ H
  iapply HW
  iintro H
  rw [wp_ret]
  imodintro
  have hX : (m.access r).read Val f = fun y => X (r.emb y) := by rw [← hf]; rfl
  rw [hX]
  iapply HQ
  iexists f
  isplitr; · ipureintro; exact hf
  iexact H

/-- A store to an owned memref leaves the stored values under the rectangle and the old contents elsewhere. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {X : s.Idx → Val e} {Q : PUnit → sProp 𝕄} :
    owns c m fullShare X ⊢ iprop((owns c m fullShare (r.overlay X w) -∗ Q ⟨⟩)
      -∗ wp frame (wpE defs 𝒱 c bd) E (Prog.lift (.store m r w Finset.univ hx hm)) Q) := by
  unfold owns
  iintro ⟨%f, %hf, H⟩ HQ
  have hS : (m.access r).setOn Finset.univ ⊆ m.view.set := View.set_slice_subset _ _
  ihave HW := (wp_store (defs := defs) 𝒱 c bd E (hx := hx) (hm := hm) (k := fun x => .ret x) (f := f) (w := w) (Q := Q) hS) $$ H
  iapply HW
  iintro H
  rw [wp_ret]
  imodintro
  iapply HQ
  iexists _
  isplitr; swap; · iexact H
  ipureintro
  funext y
  by_cases hy : y ∈ r.set
  · rw [← Rect.map_emb_univ, Finset.mem_map] at hy
    obtain ⟨x, -, rfl⟩ := hy
    rw [Rect.overlay_emb]
    exact View.read_slice_write_emb (v := m.view) r f w (Finset.mem_univ x)
  · rw [Rect.overlay_of_not_mem _ _ _ hy]
    rw [← Rect.map_emb_univ] at hy
    rw [← hf]
    exact View.read_slice_write_of_not_mem (v := m.view) r f w _ hy

end Moba

end
-- ==== Proof.Moba.Steps.lean ====
/-
  What a step of the attention kernel does to its buffers: from the scores of one group in one buffer to the scores of the
  next group in the other, the carried vectors going from one state of `Value.lean` to the next.
-/
module

public import proofs.«01_k».proof.Proof.Moba.Value
public import proofs.«01_k».proof.Proof.Moba.Mem
public import Idealize.ShloMosaic.Lib.Pipeline.Value

@[expose] public section

noncomputable section

namespace Moba

open Idealize.ShloMosaic Idealize.ShloMosaic.TcCoe Idealize.SL.Sem
open Idealize.SL Idealize.SL.RA
open Idealize.SL.BI (sProp)
open scoped Idealize.SL.BI
open Idealize.SL.BI.BIBase Idealize.SL.BI.Laws Idealize.SL.ProofMode
open Cert.KernelIdeal (S1x2048x128 S1x2x32x2048 S1x8192x128 S2x512x512 S16x256 S1x512x128 S512x128 S256x128 S256x512 S1x256x512 S512
  S1x512 S64x512 S1x1x1x512 S128x512 S64x256 S80x256 S80x512 S512x512 dot_S256x128_S512x128_S256x512_1_1_0_0_n_n
  dot_S80x256_S256x512_S80x512_1_0_0_1_n_n)

variable {F : FTy → Type} [FloatOps F] [Cert.KernelIdeal.Facts]
variable {nD : Nat} {τ : Topo} {sig : RefSig} {Ix : Type} [DecidableEq Ix]
variable {Name : Type} [DecidableEq Name] {U : Type} [URA U] {Lvl : Type} {Λ : Labels}
variable [Preorder Lvl] {defs : Defs nD τ sig (Elt F) Λ} (𝒱 : Variants) (d : Dev nD) (bd : Option 𝒱.V) (E : Set Name)

local notation "𝕄" => MT nD τ sig Ix (Elt F) Name U Lvl
local notation "𝒞" => FVec F S1x512 FTy.f32 × FVec F S1x512 FTy.f32 × FVec F S64x512 FTy.f32 × FVec F S1x512 FTy.f32 × FVec F S1x512 FTy.f32 × FVec F S64x512 FTy.f32
  × FVec F S1x512 FTy.f32 × FVec F S1x512 FTy.f32 × FVec F S1x512 FTy.f32 × FVec F S1x512 FTy.f32
local notation "𝒪" => FVec F S1x512 FTy.f32 × FVec F S64x512 FTy.f32 × FVec F S1x512 FTy.f32 × FVec F S64x512 FTy.f32 × FVec F S1x512 FTy.f32 × FVec F S1x512 FTy.f32 × FVec F S1x512 FTy.f32 × FVec F S1x512 FTy.f32
local notation "ℒ" => FVec F S1x512 FTy.f32 × FVec F S64x512 FTy.f32 × FVec F S1x512 FTy.f32 × FVec F S64x512 FTy.f32

/-! ## The four blocks of a score buffer -/

abbrev r00 : Rect S2x512x512 := Rect.unit (s := S2x512x512) ![0, 0, 0] S1x256x512.size in_t00
abbrev r01 : Rect S2x512x512 := Rect.unit (s := S2x512x512) ![0, 256, 0] S1x256x512.size in_t01
abbrev r10 : Rect S2x512x512 := Rect.unit (s := S2x512x512) ![1, 0, 0] S1x256x512.size in_t10
abbrev r11 : Rect S2x512x512 := Rect.unit (s := S2x512x512) ![1, 256, 0] S1x256x512.size in_t11

/-- A block as it is stored. -/
def asTile (t : FVec F S256x512 .f32) : FVec F S1x256x512 .f32 := shapeCast S1x256x512 t sc_S256x512

theorem asTile_back (t : FVec F S256x512 .f32) : shapeCast S256x512 (asTile t) sc_S1x256x512 = t := by
  unfold asTile; rw [shapeCast_shapeCast]

/-- A buffer's contents hold the blocks `T`. -/
def Filled (X : S2x512x512.Idx → F .f32) (T : Tiles F) : Prop :=
  (fun y : S1x256x512.Idx => X (r00.emb y)) = asTile T.t00 ∧ (fun y : S1x256x512.Idx => X (r01.emb y)) = asTile T.t01
    ∧ (fun y : S1x256x512.Idx => X (r10.emb y)) = asTile T.t10 ∧ (fun y : S1x256x512.Idx => X (r11.emb y)) = asTile T.t11

theorem overlay_same {r : Rect S2x512x512} (X : S2x512x512.Idx → F .f32) (w : r.shape.Idx → F .f32) :
    (fun y => r.overlay X w (r.emb y)) = w := funext fun y => Rect.overlay_emb _ _ _ _

theorem overlay_other {r r' : Rect S2x512x512} (h : ∀ y, r'.emb y ∉ r.set) (X : S2x512x512.Idx → F .f32) (w : r.shape.Idx → F .f32) :
    (fun y => r.overlay X w (r'.emb y)) = fun y => X (r'.emb y) := funext fun y => Rect.overlay_of_not_mem _ _ _ (h y)

theorem emb_val {o : Fin 3 → Nat} {ho : ∀ a, o a + S1x256x512.size a ≤ S2x512x512.size a} (y : S1x256x512.Idx) (a : Fin 3) :
    ((Rect.unit (s := S2x512x512) o S1x256x512.size ho).emb y a).val = o a + (y a).val := by
  show o a + 1 * (y a).val = _; omega

theorem apart {o o' : Fin 3 → Nat} {ho : ∀ a, o a + S1x256x512.size a ≤ S2x512x512.size a} {ho' : ∀ a, o' a + S1x256x512.size a ≤ S2x512x512.size a}
    (a : Fin 3) (h : o a + S1x256x512.size a ≤ o' a ∨ o' a + S1x256x512.size a ≤ o a) (y : S1x256x512.Idx) :
    (Rect.unit (s := S2x512x512) o' S1x256x512.size ho').emb y ∉ (Rect.unit (s := S2x512x512) o S1x256x512.size ho).set := by
  rw [Rect.mem_set_unit]
  intro hm
  have := hm a
  rw [emb_val] at this
  have := (y a).isLt
  change (y a).val < S1x256x512.size a at this
  omega

/-- Four stores fill a buffer. -/
theorem filled_stores (Y : S2x512x512.Idx → F .f32) (T : Tiles F) :
    Filled (r11.overlay (r10.overlay (r01.overlay (r00.overlay Y (asTile T.t00)) (asTile T.t01)) (asTile T.t10)) (asTile T.t11)) T := by
  refine ⟨?_, ?_, ?_, ?_⟩
  · refine (overlay_other (r := r11) (r' := r00) (apart 0 (by decide)) _ _).trans ?_
    refine (overlay_other (r := r10) (r' := r00) (apart 0 (by decide)) _ _).trans ?_
    refine (overlay_other (r := r01) (r' := r00) (apart 1 (by decide)) _ _).trans ?_
    exact overlay_same (r := r00) _ _
  · refine (overlay_other (r := r11) (r' := r01) (apart 0 (by decide)) _ _).trans ?_
    refine (overlay_other (r := r10) (r' := r01) (apart 0 (by decide)) _ _).trans ?_
    exact overlay_same (r := r01) _ _
  · refine (overlay_other (r := r11) (r' := r10) (apart 1 (by decide)) _ _).trans ?_
    exact overlay_same (r := r10) _ _
  · exact overlay_same (r := r11) _ _

/-! ## The kernel's reads and the scoring of a block -/

theorem post_eq {α : Type} {Q : α → sProp 𝕄} {a b : α} (h : a = b) : Q a ⊢ Q b := by subst h; exact .rfl

theorem selRow_wp {sel : Memref sig .tc .vmem S1x2x32x2048 .f32} {o ho} {S : S1x2x32x2048.Idx → F .f32} {Q : FVec F S1x512 .f32 → sProp 𝕄} :
    owns (d : Thread nD τ) sel fullShare S ⊢ iprop((owns (d : Thread nD τ) sel fullShare S -∗ Q (rowV S o ho))
      -∗ wp frame (wpE defs 𝒱 d bd) E (selRow sel o ho) Q) := by
  unfold selRow
  rw [wp_bind]
  iintro H HQ
  iapply (wp_load_owns (defs := defs) 𝒱 (d : Thread nD τ) bd E) $$ H
  iintro H
  rw [wp_pure]
  imodintro
  iapply (post_eq (Q := Q) (a := rowV S o ho) ?_)
  · rfl
  iapply HQ
  iexact H

theorem valT_wp {v : Memref sig .tc .vmem S1x8192x128 .bf16} {o ho} {V : S1x8192x128.Idx → F .bf16} {Q : FVec F S128x512 .bf16 → sProp 𝕄} :
    owns (d : Thread nD τ) v fullShare V ⊢ iprop((owns (d : Thread nD τ) v fullShare V -∗ Q (valTV V o ho))
      -∗ wp frame (wpE defs 𝒱 d bd) E (valT v o ho) Q) := by
  unfold valT
  rw [wp_bind]
  iintro H HQ
  iapply (wp_load_owns (defs := defs) 𝒱 (d : Thread nD τ) bd E) $$ H
  iintro H
  rw [wp_pure]
  imodintro
  iapply (post_eq (Q := Q) (a := valTV V o ho) ?_)
  · rfl
  iapply HQ
  iexact H

theorem readTile_wp {buf : Memref sig .tc .vmem S2x512x512 .f32} {o ho} {X : S2x512x512.Idx → F .f32} {t : FVec F S256x512 .f32}
    (ht : (fun y : S1x256x512.Idx => X ((Rect.unit (s := S2x512x512) o S1x256x512.size ho).emb y)) = asTile t) {Q : FVec F S256x512 .f32 → sProp 𝕄} :
    owns (d : Thread nD τ) buf fullShare X ⊢ iprop((owns (d : Thread nD τ) buf fullShare X -∗ Q t)
      -∗ wp frame (wpE defs 𝒱 d bd) E (readTile buf o ho) Q) := by
  have e : shapeCast S256x512 (fun y : S1x256x512.Idx => X ((Rect.unit (s := S2x512x512) o S1x256x512.size ho).emb y)) sc_S1x256x512 = t := by
    rw [ht]; exact asTile_back t
  unfold readTile
  rw [wp_bind]
  iintro H HQ
  iapply (wp_load_owns (defs := defs) 𝒱 (d : Thread nD τ) bd E) $$ H
  iintro H
  rw [wp_pure]
  imodintro
  iapply (post_eq (Q := Q) (a := t) ?_)
  · exact e.symm
  iapply HQ
  iexact H

theorem scoreTile_wp {k : Memref sig .tc .vmem S1x8192x128 .bf16} {buf : Memref sig .tc .vmem S2x512x512 .f32} {q : FVec F S512x128 .bf16}
    {ok hk os hs o ho} {K : S1x8192x128.Idx → F .bf16} {Y : S2x512x512.Idx → F .f32} {Q : FVec F S1x512 .f32 → sProp 𝕄} :
    owns (d : Thread nD τ) k fullShare K ⊢ iprop(owns (d : Thread nD τ) buf fullShare Y
      -∗ (owns (d : Thread nD τ) k fullShare K
        -∗ owns (d : Thread nD τ) buf fullShare ((Rect.unit (s := S2x512x512) o S1x256x512.size ho).overlay Y (asTile (tileV K q ok hk os hs)))
        -∗ Q (tmaxV (tileV K q ok hk os hs)))
      -∗ wp frame (wpE defs 𝒱 d bd) E (scoreTile k buf dot_S256x128_S512x128_S256x512_1_1_0_0_n_n q ok hk os hs o ho) Q) := by
  unfold scoreTile
  simp only [wp_bind]
  iintro HK H HQ
  iapply (wp_load_owns (defs := defs) 𝒱 (d : Thread nD τ) bd E) $$ HK
  iintro HK
  iapply (wp_load_owns (defs := defs) 𝒱 (d : Thread nD τ) bd E) $$ H
  iintro H
  iapply (wp_store_owns (defs := defs) 𝒱 (d : Thread nD τ) bd E) $$ H
  iintro H
  rw [wp_pure]
  imodintro
  iapply (post_eq (Q := Q) (a := tmaxV (tileV K q ok hk os hs)) ?_)
  · rfl
  iapply HQ $$ HK
  iexact H

/-! ## A step -/

/-- The carried vectors: the state after some groups and the maxima of the next group's blocks. -/
def carry (A : Acc F) (T : Tiles F) : 𝒞 :=
  (A.m0, A.l0, A.a0, A.m1, A.l1, A.a1, tmaxV T.t00, tmaxV T.t01, tmaxV T.t10, tmaxV T.t11)

/-- The mask, keys and values at `S`, `K`, `V`; the blocks `T` in `cur`. -/
def Held (sel : Memref sig .tc .vmem S1x2x32x2048 .f32) (k v : Memref sig .tc .vmem S1x8192x128 .bf16)
    (cur nxt : Memref sig .tc .vmem S2x512x512 .f32) (S : S1x2x32x2048.Idx → F .f32) (K V : S1x8192x128.Idx → F .bf16) (T : Tiles F) : sProp 𝕄 :=
  iprop(owns (d : Thread nD τ) sel fullShare S ∗ owns (d : Thread nD τ) k fullShare K ∗ owns (d : Thread nD τ) v fullShare V
    ∗ (∃ X, ⌜Filled X T⌝ ∗ owns (d : Thread nD τ) cur fullShare X) ∗ (∃ Y, owns (d : Thread nD τ) nxt fullShare Y))

variable {sel : Memref sig .tc .vmem S1x2x32x2048 .f32} {k v : Memref sig .tc .vmem S1x8192x128 .bf16}
  {cur nxt : Memref sig .tc .vmem S2x512x512 .f32} {S : S1x2x32x2048.Idx → F .f32} {K V : S1x8192x128.Idx → F .bf16}
  {mask big : F .f32} {ones : FVec F S16x256 .bf16} {q0 q1 : FVec F S512x128 .bf16}

/-- What the own group's step hands on. -/
def outC (A : Acc F) (T : Tiles F) : 𝒪 := (A.l0, A.a0, A.l1, A.a1, tmaxV T.t00, tmaxV T.t01, tmaxV T.t10, tmaxV T.t11)

/-- What the last tile's own step leaves. -/
def outL (A : Acc F) : ℒ := (A.l0, A.a0, A.l1, A.a1)

/-- The own group's step from its rows of the mask and its values. -/
def ownV (mask big : F .f32) (ones : FVec F S16x256 .bf16) (vt : FVec F S128x512 .bf16) (r0 r1 : FVec F S1x512 .f32) (T : Tiles F) (A : Acc F) : Acc F :=
  have U := maskedV mask T
  stepV mask big ones vt (select secondV r0 oneV) oneV (select secondV r1 oneV) oneV (tmaxV U.t00) (tmaxV U.t01) (tmaxV U.t10) (tmaxV U.t11) U A

theorem half_wp {o00 o01 o10 o11 : Fin 4 → Nat} {h00 h01 h10 h11} {ov ok : Fin 3 → Nat} {hv hk} {A : Acc F} {T : Tiles F} {Q : 𝒞 → sProp 𝕄} :
    Held d sel k v cur nxt S K V T ⊢ iprop((Held d sel k v nxt cur S K V (tilesV K q0 q1 ok hk)
        -∗ Q (carry (stepV mask big ones (valTV V ov hv) (rowV S o00 h00) (rowV S o01 h01) (rowV S o10 h10) (rowV S o11 h11)
          (tmaxV T.t00) (tmaxV T.t01) (tmaxV T.t10) (tmaxV T.t11) T A) (tilesV K q0 q1 ok hk)))
      -∗ wp frame (wpE defs 𝒱 d bd) E (half sel k v cur nxt dot_S256x128_S512x128_S256x512_1_1_0_0_n_n
        dot_S80x256_S256x512_S80x512_1_0_0_1_n_n mask big ones q0 q1 o00 o01 o10 o11 h00 h01 h10 h11 ov ok hv hk (carry A T)) Q) := by
  unfold Held half
  simp only [carry, wp_bind]
  iintro ⟨HS, HK, HV, ⟨%X, %hX, HX⟩, ⟨%Y, HY⟩⟩ HQ
  obtain ⟨e00, e01, e10, e11⟩ := hX
  iapply (selRow_wp 𝒱 d bd E) $$ HS; iintro HS
  iapply (selRow_wp 𝒱 d bd E) $$ HS; iintro HS
  iapply (selRow_wp 𝒱 d bd E) $$ HS; iintro HS
  iapply (selRow_wp 𝒱 d bd E) $$ HS; iintro HS
  iapply (valT_wp 𝒱 d bd E) $$ HV; iintro HV
  iapply (readTile_wp 𝒱 d bd E e00) $$ HX; iintro HX
  iapply (scoreTile_wp 𝒱 d bd E) $$ HK HY; iintro HK HY
  iapply (scoreTile_wp 𝒱 d bd E) $$ HK HY; iintro HK HY
  iapply (readTile_wp 𝒱 d bd E e01) $$ HX; iintro HX
  iapply (scoreTile_wp 𝒱 d bd E) $$ HK HY; iintro HK HY
  iapply (readTile_wp 𝒱 d bd E e10) $$ HX; iintro HX
  iapply (scoreTile_wp 𝒱 d bd E) $$ HK HY; iintro HK HY
  iapply (readTile_wp 𝒱 d bd E e11) $$ HX; iintro HX
  rw [wp_pure]
  imodintro
  simp only [outC, outL, ownV, stepV, maxV, weightV, sumsV, lV, aV, onV, maskedV, secondV, oneV, causalV, tmaxV, tilesV, tileV, carry]
  iapply HQ
  isplitl [HS]; · iexact HS
  isplitl [HK]; · iexact HK
  isplitl [HV]; · iexact HV
  isplitl [HY]
  · iexists _
    isplitr; swap; · iexact HY
    ipureintro
    exact filled_stores Y (tilesV K q0 q1 ok hk)
  iexists X; iexact HX

theorem own_wp {o0 o1 : Fin 4 → Nat} {h0 h1} {ov : Fin 3 → Nat} {hv} {A : Acc F} {T : Tiles F} {Q : 𝒪 → sProp 𝕄} :
    Held d sel k v cur nxt S K V T ⊢ iprop((Held d sel k v nxt cur S K V (tilesV K q0 q1 ![0, 0, 0] in_k0)
        -∗ Q (outC (ownV mask big ones (valTV V ov hv) (rowV S o0 h0) (rowV S o1 h1) T A) (tilesV K q0 q1 ![0, 0, 0] in_k0)))
      -∗ wp frame (wpE defs 𝒱 d bd) E (own sel k v cur nxt dot_S256x128_S512x128_S256x512_1_1_0_0_n_n
        dot_S80x256_S256x512_S80x512_1_0_0_1_n_n mask big ones q0 q1 o0 o1 h0 h1 ov hv (carry A T)) Q) := by
  unfold Held own
  simp only [carry, wp_bind]
  iintro ⟨HS, HK, HV, ⟨%X, %hX, HX⟩, ⟨%Y, HY⟩⟩ HQ
  obtain ⟨e00, e01, e10, e11⟩ := hX
  iapply (selRow_wp 𝒱 d bd E) $$ HS; iintro HS
  iapply (selRow_wp 𝒱 d bd E) $$ HS; iintro HS
  iapply (valT_wp 𝒱 d bd E) $$ HV; iintro HV
  iapply (readTile_wp 𝒱 d bd E e00) $$ HX; iintro HX
  iapply (readTile_wp 𝒱 d bd E e01) $$ HX; iintro HX
  iapply (readTile_wp 𝒱 d bd E e10) $$ HX; iintro HX
  iapply (readTile_wp 𝒱 d bd E e11) $$ HX; iintro HX
  iapply (scoreTile_wp 𝒱 d bd E) $$ HK HY; iintro HK HY
  iapply (scoreTile_wp 𝒱 d bd E) $$ HK HY; iintro HK HY
  iapply (scoreTile_wp 𝒱 d bd E) $$ HK HY; iintro HK HY
  iapply (scoreTile_wp 𝒱 d bd E) $$ HK HY; iintro HK HY
  rw [wp_pure]
  imodintro
  simp only [outC, outL, ownV, stepV, maxV, weightV, sumsV, lV, aV, onV, maskedV, secondV, oneV, causalV, tmaxV, tilesV, tileV, carry]
  iapply HQ
  isplitl [HS]; · iexact HS
  isplitl [HK]; · iexact HK
  isplitl [HV]; · iexact HV
  isplitl [HY]
  · iexists _
    isplitr; swap; · iexact HY
    ipureintro
    exact filled_stores Y (tilesV K q0 q1 ![0, 0, 0] in_k0)
  iexists X; iexact HX

theorem ownLast_wp {o0 o1 : Fin 4 → Nat} {h0 h1} {ov : Fin 3 → Nat} {hv} {A : Acc F} {T : Tiles F} {Q : ℒ → sProp 𝕄} :
    Held d sel k v cur nxt S K V T ⊢ iprop((Held d sel k v cur nxt S K V T
        -∗ Q (outL (ownV mask big ones (valTV V ov hv) (rowV S o0 h0) (rowV S o1 h1) T A)))
      -∗ wp frame (wpE defs 𝒱 d bd) E (ownLast sel v cur
        dot_S80x256_S256x512_S80x512_1_0_0_1_n_n mask big ones o0 o1 h0 h1 ov hv (carry A T)) Q) := by
  unfold Held ownLast
  simp only [carry, wp_bind]
  iintro ⟨HS, HK, HV, ⟨%X, %hX, HX⟩, HY⟩ HQ
  obtain ⟨e00, e01, e10, e11⟩ := hX
  iapply (selRow_wp 𝒱 d bd E) $$ HS; iintro HS
  iapply (selRow_wp 𝒱 d bd E) $$ HS; iintro HS
  iapply (valT_wp 𝒱 d bd E) $$ HV; iintro HV
  iapply (readTile_wp 𝒱 d bd E e00) $$ HX; iintro HX
  iapply (readTile_wp 𝒱 d bd E e01) $$ HX; iintro HX
  iapply (readTile_wp 𝒱 d bd E e10) $$ HX; iintro HX
  iapply (readTile_wp 𝒱 d bd E e11) $$ HX; iintro HX
  rw [wp_pure]
  imodintro
  simp only [outC, outL, ownV, stepV, maxV, weightV, sumsV, lV, aV, onV, maskedV, secondV, oneV, causalV, tmaxV, tilesV, tileV, carry]
  iapply HQ
  isplitl [HS]; · iexact HS
  isplitl [HK]; · iexact HK
  isplitl [HV]; · iexact HV
  isplitl [HX]
  · iexists X
    isplitr; swap; · iexact HX
    ipureintro
    exact ⟨e00, e01, e10, e11⟩
  iexact HY

end Moba

end
-- ==== Proof.Moba.Offsets.lean ====
/-
  Where the printed offsets, loop bounds and conditions of the attention kernel point: which group of keys, which row of
  the mask. Each is a statement about finitely many grid points, by computation.
-/
module

public import proofs.«01_k».proof.Proof.Moba.Value

@[expose] public section

set_option maxRecDepth 100000

noncomputable section

namespace Moba

open Idealize.ShloMosaic
open Cert.KernelIdeal

/-! ## Tile 0 -/

theorem trips2 : ∀ i : grid0.Coords, (k0_t2_loop i).trips = 0 := by decide +kernel
theorem trips1_then : ∀ i : grid0.Coords, k0_cond1 i = 1#1 → 8 * (k0_t1_loop i).trips + 4 = 4 * (i 2).val := by decide +kernel
theorem trips1_else : ∀ i : grid0.Coords, ¬ k0_cond1 i = 1#1 → 8 * (k0_t1_loop i).trips = 4 * (i 2).val := by decide +kernel
theorem off1 : ∀ (i : grid0.Coords) (n : Fin (k0_t1_loop i).trips) (r : Fin 8) (s : Fin 2) (a : Fin 4),
    k0_off1 i n (BitVec.ofNat 32 r.val) (BitVec.ofNat 32 s.val) a = offS 0 (8 * n.val + r.val) s 0 a := by decide +kernel
theorem off2 : ∀ (i : grid0.Coords) (n : Fin (k0_t1_loop i).trips) (r : Fin 8) (s : Fin 2) (a : Fin 4),
    k0_off2 i n (BitVec.ofNat 32 r.val) (BitVec.ofNat 32 s.val) a = offS 1 (8 * n.val + r.val) s 0 a := by decide +kernel
theorem off3 : ∀ (i : grid0.Coords) (n : Fin (k0_t1_loop i).trips) (r : Fin 8) (a : Fin 3),
    k0_off3 i n (BitVec.ofNat 32 r.val) a = offK (8 * n.val + r.val) a := by decide +kernel
theorem off4 : ∀ (i : grid0.Coords) (n : Fin (k0_t1_loop i).trips) (r : Fin 8) (a : Fin 3),
    k0_off4 i n (BitVec.ofNat 32 r.val) a = offK (8 * n.val + r.val + 1) a := by decide +kernel
theorem off9 : ∀ (i : grid0.Coords), k0_cond1 i = 1#1 → ∀ (r : Fin 4) (s : Fin 2) (a : Fin 4),
    k0_off9 i (BitVec.ofNat 32 r.val) (BitVec.ofNat 32 s.val) a = offS 0 (8 * (k0_t1_loop i).trips + r.val) s 0 a := by decide +kernel
theorem off10 : ∀ (i : grid0.Coords), k0_cond1 i = 1#1 → ∀ (r : Fin 4) (s : Fin 2) (a : Fin 4),
    k0_off10 i (BitVec.ofNat 32 r.val) (BitVec.ofNat 32 s.val) a = offS 1 (8 * (k0_t1_loop i).trips + r.val) s 0 a := by decide +kernel
theorem off11 : ∀ (i : grid0.Coords), k0_cond1 i = 1#1 → ∀ (r : Fin 4) (a : Fin 3),
    k0_off11 i (BitVec.ofNat 32 r.val) a = offK (8 * (k0_t1_loop i).trips + r.val) a := by decide +kernel
theorem off12 : ∀ (i : grid0.Coords), k0_cond1 i = 1#1 → ∀ (r : Fin 4) (a : Fin 3),
    k0_off12 i (BitVec.ofNat 32 r.val) a = offK (8 * (k0_t1_loop i).trips + r.val + 1) a := by decide +kernel
theorem off13 : ∀ (i : grid0.Coords), k0_cond1 i = 1#1 → ∀ (a : Fin 4), k0_off13 i a = offS 0 (4 * (i 2).val + 0) 0 0 a := by decide +kernel
theorem off14 : ∀ (i : grid0.Coords), k0_cond1 i = 1#1 → ∀ (a : Fin 4), k0_off14 i a = offS 1 (4 * (i 2).val + 0) 0 0 a := by decide +kernel
theorem off15 : ∀ (i : grid0.Coords), k0_cond1 i = 1#1 → ∀ (a : Fin 3), k0_off15 i a = offK (4 * (i 2).val + 0) a := by decide +kernel
theorem off16 : ∀ (i : grid0.Coords), ¬ k0_cond1 i = 1#1 → ∀ (a : Fin 4), k0_off16 i a = offS 0 (4 * (i 2).val + 0) 0 0 a := by decide +kernel
theorem off17 : ∀ (i : grid0.Coords), ¬ k0_cond1 i = 1#1 → ∀ (a : Fin 4), k0_off17 i a = offS 1 (4 * (i 2).val + 0) 0 0 a := by decide +kernel
theorem off18 : ∀ (i : grid0.Coords), ¬ k0_cond1 i = 1#1 → ∀ (a : Fin 3), k0_off18 i a = offK (4 * (i 2).val + 0) a := by decide +kernel

/-! ## Tile 1 -/

theorem trips4 : ∀ i : grid0.Coords, (k0_t4_loop i).trips = 0 := by decide +kernel
theorem trips3_then : ∀ i : grid0.Coords, k0_cond2 i = 1#1 → 8 * (k0_t3_loop i).trips + 4 = 4 * (i 2).val := by decide +kernel
theorem trips3_else : ∀ i : grid0.Coords, ¬ k0_cond2 i = 1#1 → 8 * (k0_t3_loop i).trips = 4 * (i 2).val := by decide +kernel
theorem off19 : ∀ (i : grid0.Coords) (n : Fin (k0_t3_loop i).trips) (r : Fin 8) (s : Fin 2) (a : Fin 4),
    k0_off19 i n (BitVec.ofNat 32 r.val) (BitVec.ofNat 32 s.val) a = offS 0 (8 * n.val + r.val) s 1 a := by decide +kernel
theorem off20 : ∀ (i : grid0.Coords) (n : Fin (k0_t3_loop i).trips) (r : Fin 8) (s : Fin 2) (a : Fin 4),
    k0_off20 i n (BitVec.ofNat 32 r.val) (BitVec.ofNat 32 s.val) a = offS 1 (8 * n.val + r.val) s 1 a := by decide +kernel
theorem off21 : ∀ (i : grid0.Coords) (n : Fin (k0_t3_loop i).trips) (r : Fin 8) (a : Fin 3),
    k0_off21 i n (BitVec.ofNat 32 r.val) a = offK (8 * n.val + r.val) a := by decide +kernel
theorem off22 : ∀ (i : grid0.Coords) (n : Fin (k0_t3_loop i).trips) (r : Fin 8) (a : Fin 3),
    k0_off22 i n (BitVec.ofNat 32 r.val) a = offK (8 * n.val + r.val + 1) a := by decide +kernel
theorem off27 : ∀ (i : grid0.Coords), k0_cond2 i = 1#1 → ∀ (r : Fin 5) (s : Fin 2) (a : Fin 4),
    k0_off27 i (BitVec.ofNat 32 r.val) (BitVec.ofNat 32 s.val) a = offS 0 (8 * (k0_t3_loop i).trips + r.val) s 1 a := by decide +kernel
theorem off28 : ∀ (i : grid0.Coords), k0_cond2 i = 1#1 → ∀ (r : Fin 5) (s : Fin 2) (a : Fin 4),
    k0_off28 i (BitVec.ofNat 32 r.val) (BitVec.ofNat 32 s.val) a = offS 1 (8 * (k0_t3_loop i).trips + r.val) s 1 a := by decide +kernel
theorem off29 : ∀ (i : grid0.Coords), k0_cond2 i = 1#1 → ∀ (r : Fin 5) (a : Fin 3),
    k0_off29 i (BitVec.ofNat 32 r.val) a = offK (8 * (k0_t3_loop i).trips + r.val) a := by decide +kernel
theorem off30 : ∀ (i : grid0.Coords), k0_cond2 i = 1#1 → ∀ (r : Fin 5) (a : Fin 3),
    k0_off30 i (BitVec.ofNat 32 r.val) a = offK (8 * (k0_t3_loop i).trips + r.val + 1) a := by decide +kernel
theorem off34 : ∀ (i : grid0.Coords), ¬ k0_cond2 i = 1#1 → ∀ (r : Fin 1) (s : Fin 2) (a : Fin 4),
    k0_off34 i (BitVec.ofNat 32 s.val) a = offS 0 (8 * (k0_t3_loop i).trips + r.val) s 1 a := by decide +kernel
theorem off35 : ∀ (i : grid0.Coords), ¬ k0_cond2 i = 1#1 → ∀ (r : Fin 1) (s : Fin 2) (a : Fin 4),
    k0_off35 i (BitVec.ofNat 32 s.val) a = offS 1 (8 * (k0_t3_loop i).trips + r.val) s 1 a := by decide +kernel
theorem off36 : ∀ (i : grid0.Coords), ¬ k0_cond2 i = 1#1 → ∀ (r : Fin 1) (a : Fin 3),
    k0_off36 i a = offK (8 * (k0_t3_loop i).trips + r.val) a := by decide +kernel
theorem off37 : ∀ (i : grid0.Coords), ¬ k0_cond2 i = 1#1 → ∀ (r : Fin 1) (a : Fin 3),
    k0_off37 i a = offK (8 * (k0_t3_loop i).trips + r.val + 1) a := by decide +kernel
theorem off31 : ∀ (i : grid0.Coords), k0_cond2 i = 1#1 → ∀ (a : Fin 4), k0_off31 i a = offS 0 (4 * (i 2).val + 1) 0 1 a := by decide +kernel
theorem off32 : ∀ (i : grid0.Coords), k0_cond2 i = 1#1 → ∀ (a : Fin 4), k0_off32 i a = offS 1 (4 * (i 2).val + 1) 0 1 a := by decide +kernel
theorem off33 : ∀ (i : grid0.Coords), k0_cond2 i = 1#1 → ∀ (a : Fin 3), k0_off33 i a = offK (4 * (i 2).val + 1) a := by decide +kernel
theorem off38 : ∀ (i : grid0.Coords), ¬ k0_cond2 i = 1#1 → ∀ (a : Fin 4), k0_off38 i a = offS 0 (4 * (i 2).val + 1) 0 1 a := by decide +kernel
theorem off39 : ∀ (i : grid0.Coords), ¬ k0_cond2 i = 1#1 → ∀ (a : Fin 4), k0_off39 i a = offS 1 (4 * (i 2).val + 1) 0 1 a := by decide +kernel
theorem off40 : ∀ (i : grid0.Coords), ¬ k0_cond2 i = 1#1 → ∀ (a : Fin 3), k0_off40 i a = offK (4 * (i 2).val + 1) a := by decide +kernel

/-! ## Tile 2 -/

theorem trips6 : ∀ i : grid0.Coords, (k0_t6_loop i).trips = 0 := by decide +kernel
theorem trips5_then : ∀ i : grid0.Coords, k0_cond3 i = 1#1 → 8 * (k0_t5_loop i).trips + 4 = 4 * (i 2).val := by decide +kernel
theorem trips5_else : ∀ i : grid0.Coords, ¬ k0_cond3 i = 1#1 → 8 * (k0_t5_loop i).trips = 4 * (i 2).val := by decide +kernel
theorem off41 : ∀ (i : grid0.Coords) (n : Fin (k0_t5_loop i).trips) (r : Fin 8) (s : Fin 2) (a : Fin 4),
    k0_off41 i n (BitVec.ofNat 32 r.val) (BitVec.ofNat 32 s.val) a = offS 0 (8 * n.val + r.val) s 2 a := by decide +kernel
theorem off42 : ∀ (i : grid0.Coords) (n : Fin (k0_t5_loop i).trips) (r : Fin 8) (s : Fin 2) (a : Fin 4),
    k0_off42 i n (BitVec.ofNat 32 r.val) (BitVec.ofNat 32 s.val) a = offS 1 (8 * n.val + r.val) s 2 a := by decide +kernel
theorem off43 : ∀ (i : grid0.Coords) (n : Fin (k0_t5_loop i).trips) (r : Fin 8) (a : Fin 3),
    k0_off43 i n (BitVec.ofNat 32 r.val) a = offK (8 * n.val + r.val) a := by decide +kernel
theorem off44 : ∀ (i : grid0.Coords) (n : Fin (k0_t5_loop i).trips) (r : Fin 8) (a : Fin 3),
    k0_off44 i n (BitVec.ofNat 32 r.val) a = offK (8 * n.val + r.val + 1) a := by decide +kernel
theorem off49 : ∀ (i : grid0.Coords), k0_cond3 i = 1#1 → ∀ (r : Fin 6) (s : Fin 2) (a : Fin 4),
    k0_off49 i (BitVec.ofNat 32 r.val) (BitVec.ofNat 32 s.val) a = offS 0 (8 * (k0_t5_loop i).trips + r.val) s 2 a := by decide +kernel
theorem off50 : ∀ (i : grid0.Coords), k0_cond3 i = 1#1 → ∀ (r : Fin 6) (s : Fin 2) (a : Fin 4),
    k0_off50 i (BitVec.ofNat 32 r.val) (BitVec.ofNat 32 s.val) a = offS 1 (8 * (k0_t5_loop i).trips + r.val) s 2 a := by decide +kernel
theorem off51 : ∀ (i : grid0.Coords), k0_cond3 i = 1#1 → ∀ (r : Fin 6) (a : Fin 3),
    k0_off51 i (BitVec.ofNat 32 r.val) a = offK (8 * (k0_t5_loop i).trips + r.val) a := by decide +kernel
theorem off52 : ∀ (i : grid0.Coords), k0_cond3 i = 1#1 → ∀ (r : Fin 6) (a : Fin 3),
    k0_off52 i (BitVec.ofNat 32 r.val) a = offK (8 * (k0_t5_loop i).trips + r.val + 1) a := by decide +kernel
theorem off56 : ∀ (i : grid0.Coords), ¬ k0_cond3 i = 1#1 → ∀ (r : Fin 2) (s : Fin 2) (a : Fin 4),
    k0_off56 i (BitVec.ofNat 32 r.val) (BitVec.ofNat 32 s.val) a = offS 0 (8 * (k0_t5_loop i).trips + r.val) s 2 a := by decide +kernel
theorem off57 : ∀ (i : grid0.Coords), ¬ k0_cond3 i = 1#1 → ∀ (r : Fin 2) (s : Fin 2) (a : Fin 4),
    k0_off57 i (BitVec.ofNat 32 r.val) (BitVec.ofNat 32 s.val) a = offS 1 (8 * (k0_t5_loop i).trips + r.val) s 2 a := by decide +kernel
theorem off58 : ∀ (i : grid0.Coords), ¬ k0_cond3 i = 1#1 → ∀ (r : Fin 2) (a : Fin 3),
    k0_off58 i (BitVec.ofNat 32 r.val) a = offK (8 * (k0_t5_loop i).trips + r.val) a := by decide +kernel
theorem off59 : ∀ (i : grid0.Coords), ¬ k0_cond3 i = 1#1 → ∀ (r : Fin 2) (a : Fin 3),
    k0_off59 i (BitVec.ofNat 32 r.val) a = offK (8 * (k0_t5_loop i).trips + r.val + 1) a := by decide +kernel
theorem off53 : ∀ (i : grid0.Coords), k0_cond3 i = 1#1 → ∀ (a : Fin 4), k0_off53 i a = offS 0 (4 * (i 2).val + 2) 0 2 a := by decide +kernel
theorem off54 : ∀ (i : grid0.Coords), k0_cond3 i = 1#1 → ∀ (a : Fin 4), k0_off54 i a = offS 1 (4 * (i 2).val + 2) 0 2 a := by decide +kernel
theorem off55 : ∀ (i : grid0.Coords), k0_cond3 i = 1#1 → ∀ (a : Fin 3), k0_off55 i a = offK (4 * (i 2).val + 2) a := by decide +kernel
theorem off60 : ∀ (i : grid0.Coords), ¬ k0_cond3 i = 1#1 → ∀ (a : Fin 4), k0_off60 i a = offS 0 (4 * (i 2).val + 2) 0 2 a := by decide +kernel
theorem off61 : ∀ (i : grid0.Coords), ¬ k0_cond3 i = 1#1 → ∀ (a : Fin 4), k0_off61 i a = offS 1 (4 * (i 2).val + 2) 0 2 a := by decide +kernel
theorem off62 : ∀ (i : grid0.Coords), ¬ k0_cond3 i = 1#1 → ∀ (a : Fin 3), k0_off62 i a = offK (4 * (i 2).val + 2) a := by decide +kernel

/-! ## Tile 3 -/

theorem trips8 : ∀ i : grid0.Coords, (k0_t8_loop i).trips = 0 := by decide +kernel
theorem trips7_then : ∀ i : grid0.Coords, k0_cond4 i = 1#1 → 8 * (k0_t7_loop i).trips + 4 = 4 * (i 2).val := by decide +kernel
theorem trips7_else : ∀ i : grid0.Coords, ¬ k0_cond4 i = 1#1 → 8 * (k0_t7_loop i).trips = 4 * (i 2).val := by decide +kernel
theorem off63 : ∀ (i : grid0.Coords) (n : Fin (k0_t7_loop i).trips) (r : Fin 8) (s : Fin 2) (a : Fin 4),
    k0_off63 i n (BitVec.ofNat 32 r.val) (BitVec.ofNat 32 s.val) a = offS 0 (8 * n.val + r.val) s 3 a := by decide +kernel
theorem off64 : ∀ (i : grid0.Coords) (n : Fin (k0_t7_loop i).trips) (r : Fin 8) (s : Fin 2) (a : Fin 4),
    k0_off64 i n (BitVec.ofNat 32 r.val) (BitVec.ofNat 32 s.val) a = offS 1 (8 * n.val + r.val) s 3 a := by decide +kernel
theorem off65 : ∀ (i : grid0.Coords) (n : Fin (k0_t7_loop i).trips) (r : Fin 8) (a : Fin 3),
    k0_off65 i n (BitVec.ofNat 32 r.val) a = offK (8 * n.val + r.val) a := by decide +kernel
theorem off66 : ∀ (i : grid0.Coords) (n : Fin (k0_t7_loop i).trips) (r : Fin 8) (a : Fin 3),
    k0_off66 i n (BitVec.ofNat 32 r.val) a = offK (8 * n.val + r.val + 1) a := by decide +kernel
theorem off71 : ∀ (i : grid0.Coords), k0_cond4 i = 1#1 → ∀ (r : Fin 7) (s : Fin 2) (a : Fin 4),
    k0_off71 i (BitVec.ofNat 32 r.val) (BitVec.ofNat 32 s.val) a = offS 0 (8 * (k0_t7_loop i).trips + r.val) s 3 a := by decide +kernel
theorem off72 : ∀ (i : grid0.Coords), k0_cond4 i = 1#1 → ∀ (r : Fin 7) (s : Fin 2) (a : Fin 4),
    k0_off72 i (BitVec.ofNat 32 r.val) (BitVec.ofNat 32 s.val) a = offS 1 (8 * (k0_t7_loop i).trips + r.val) s 3 a := by decide +kernel
theorem off73 : ∀ (i : grid0.Coords), k0_cond4 i = 1#1 → ∀ (r : Fin 7) (a : Fin 3),
    k0_off73 i (BitVec.ofNat 32 r.val) a = offK (8 * (k0_t7_loop i).trips + r.val) a := by decide +kernel
theorem off74 : ∀ (i : grid0.Coords), k0_cond4 i = 1#1 → ∀ (r : Fin 7) (a : Fin 3),
    k0_off74 i (BitVec.ofNat 32 r.val) a = offK (8 * (k0_t7_loop i).trips + r.val + 1) a := by decide +kernel
theorem off78 : ∀ (i : grid0.Coords), ¬ k0_cond4 i = 1#1 → ∀ (r : Fin 3) (s : Fin 2) (a : Fin 4),
    k0_off78 i (BitVec.ofNat 32 r.val) (BitVec.ofNat 32 s.val) a = offS 0 (8 * (k0_t7_loop i).trips + r.val) s 3 a := by decide +kernel
theorem off79 : ∀ (i : grid0.Coords), ¬ k0_cond4 i = 1#1 → ∀ (r : Fin 3) (s : Fin 2) (a : Fin 4),
    k0_off79 i (BitVec.ofNat 32 r.val) (BitVec.ofNat 32 s.val) a = offS 1 (8 * (k0_t7_loop i).trips + r.val) s 3 a := by decide +kernel
theorem off80 : ∀ (i : grid0.Coords), ¬ k0_cond4 i = 1#1 → ∀ (r : Fin 3) (a : Fin 3),
    k0_off80 i (BitVec.ofNat 32 r.val) a = offK (8 * (k0_t7_loop i).trips + r.val) a := by decide +kernel
theorem off81 : ∀ (i : grid0.Coords), ¬ k0_cond4 i = 1#1 → ∀ (r : Fin 3) (a : Fin 3),
    k0_off81 i (BitVec.ofNat 32 r.val) a = offK (8 * (k0_t7_loop i).trips + r.val + 1) a := by decide +kernel
theorem off75 : ∀ (i : grid0.Coords), k0_cond4 i = 1#1 → ∀ (a : Fin 4), k0_off75 i a = offS 0 (4 * (i 2).val + 3) 0 3 a := by decide +kernel
theorem off76 : ∀ (i : grid0.Coords), k0_cond4 i = 1#1 → ∀ (a : Fin 4), k0_off76 i a = offS 1 (4 * (i 2).val + 3) 0 3 a := by decide +kernel
theorem off77 : ∀ (i : grid0.Coords), k0_cond4 i = 1#1 → ∀ (a : Fin 3), k0_off77 i a = offK (4 * (i 2).val + 3) a := by decide +kernel
theorem off82 : ∀ (i : grid0.Coords), ¬ k0_cond4 i = 1#1 → ∀ (a : Fin 4), k0_off82 i a = offS 0 (4 * (i 2).val + 3) 0 3 a := by decide +kernel
theorem off83 : ∀ (i : grid0.Coords), ¬ k0_cond4 i = 1#1 → ∀ (a : Fin 4), k0_off83 i a = offS 1 (4 * (i 2).val + 3) 0 3 a := by decide +kernel
theorem off84 : ∀ (i : grid0.Coords), ¬ k0_cond4 i = 1#1 → ∀ (a : Fin 3), k0_off84 i a = offK (4 * (i 2).val + 3) a := by decide +kernel

end Moba

end
-- ==== Proof.Moba.Groups.lean ====
/-
  The attention kernel's steps at their places: a step over group `g`, a trip of eight, a loop, and the own group's step.
-/
module

public import proofs.«01_k».proof.Proof.Moba.Steps
public import proofs.«01_k».proof.Proof.Moba.Offsets

@[expose] public section

noncomputable section

namespace Moba

open Idealize.ShloMosaic Idealize.ShloMosaic.TcCoe Idealize.SL.Sem
open Idealize.SL Idealize.SL.RA
open Idealize.SL.BI (sProp)
open scoped Idealize.SL.BI
open Idealize.SL.BI.BIBase Idealize.SL.BI.Laws Idealize.SL.ProofMode
open Cert.KernelIdeal (S1x2048x128 S1x2x32x2048 S1x8192x128 S2x512x512 S16x256 S1x512x128 S512x128 S256x128 S256x512 S1x256x512 S512
  S1x512 S64x512 S1x1x1x512 S128x512 S64x256 S80x256 S80x512 S512x512 dot_S256x128_S512x128_S256x512_1_1_0_0_n_n
  dot_S80x256_S256x512_S80x512_1_0_0_1_n_n)

variable {F : FTy → Type} [FloatOps F] [Cert.KernelIdeal.Facts]
variable {nD : Nat} {τ : Topo} {sig : RefSig} {Ix : Type} [DecidableEq Ix]
variable {Name : Type} [DecidableEq Name] {U : Type} [URA U] {Lvl : Type} {Λ : Labels}
variable [Preorder Lvl] {defs : Defs nD τ sig (Elt F) Λ} (𝒱 : Variants) (d : Dev nD) (bd : Option 𝒱.V) (E : Set Name)

local notation "𝕄" => MT nD τ sig Ix (Elt F) Name U Lvl
local notation "𝒞" => FVec F S1x512 FTy.f32 × FVec F S1x512 FTy.f32 × FVec F S64x512 FTy.f32 × FVec F S1x512 FTy.f32 × FVec F S1x512 FTy.f32 × FVec F S64x512 FTy.f32
  × FVec F S1x512 FTy.f32 × FVec F S1x512 FTy.f32 × FVec F S1x512 FTy.f32 × FVec F S1x512 FTy.f32
local notation "𝒪" => FVec F S1x512 FTy.f32 × FVec F S64x512 FTy.f32 × FVec F S1x512 FTy.f32 × FVec F S64x512 FTy.f32 × FVec F S1x512 FTy.f32 × FVec F S1x512 FTy.f32 × FVec F S1x512 FTy.f32 × FVec F S1x512 FTy.f32
local notation "ℒ" => FVec F S1x512 FTy.f32 × FVec F S64x512 FTy.f32 × FVec F S1x512 FTy.f32 × FVec F S64x512 FTy.f32

/-- The carried vectors before the step over group `g`. -/
def st (mask big : F .f32) (ones : FVec F S16x256 .bf16) (S : S1x2x32x2048.Idx → F .f32) (K V : S1x8192x128.Idx → F .bf16)
    (q0 q1 : FVec F S512x128 .bf16) (t : Fin 4) (g : Nat) : 𝒞 :=
  carry (accV mask big ones S K V q0 q1 t g) (groupV K q0 q1 g)

variable {sel : Memref sig .tc .vmem S1x2x32x2048 .f32} {k v : Memref sig .tc .vmem S1x8192x128 .bf16}
  {cur nxt : Memref sig .tc .vmem S2x512x512 .f32} {S : S1x2x32x2048.Idx → F .f32} {K V : S1x8192x128.Idx → F .bf16}
  {mask big : F .f32} {ones : FVec F S16x256 .bf16} {q0 q1 r0 r1 : FVec F S512x128 .bf16} (t : Fin 4)

theorem step_wp (g : Nat) {o00 o01 o10 o11 : Fin 4 → Nat} {h00 h01 h10 h11} {ov ok : Fin 3 → Nat} {hv hk} {Q : 𝒞 → sProp 𝕄}
    (e00 : ∀ a, o00 a = offS 0 g 0 t a) (e01 : ∀ a, o01 a = offS 0 g 1 t a) (e10 : ∀ a, o10 a = offS 1 g 0 t a) (e11 : ∀ a, o11 a = offS 1 g 1 t a)
    (ev : ∀ a, ov a = offK g a) (ek : ∀ a, ok a = offK (g + 1) a) :
    Held d sel k v cur nxt S K V (groupV K q0 q1 g) ⊢ iprop((Held d sel k v nxt cur S K V (groupV K q0 q1 (g + 1))
        -∗ Q (st mask big ones S K V q0 q1 t (g + 1)))
      -∗ wp frame (wpE defs 𝒱 d bd) E (half sel k v cur nxt dot_S256x128_S512x128_S256x512_1_1_0_0_n_n
        dot_S80x256_S256x512_S80x512_1_0_0_1_n_n mask big ones q0 q1 o00 o01 o10 o11 h00 h01 h10 h11 ov ok hv hk
        (st mask big ones S K V q0 q1 t g)) Q) := by
  obtain rfl := funext e00; obtain rfl := funext e01; obtain rfl := funext e10; obtain rfl := funext e11
  obtain rfl := funext ev; obtain rfl := funext ek
  exact half_wp 𝒱 d bd E

theorem trip_wp (g : Nat) {oA oB : BitVec 32 → BitVec 32 → Fin 4 → Nat} {oV oK : BitVec 32 → Fin 3 → Nat} {hA hB hV hK} {Q : 𝒞 → sProp 𝕄}
    (eA : ∀ (r : Fin 8) (s : Fin 2) (a : Fin 4), oA (BitVec.ofNat 32 r.val) (BitVec.ofNat 32 s.val) a = offS 0 (g + r.val) s t a)
    (eB : ∀ (r : Fin 8) (s : Fin 2) (a : Fin 4), oB (BitVec.ofNat 32 r.val) (BitVec.ofNat 32 s.val) a = offS 1 (g + r.val) s t a)
    (eV : ∀ (r : Fin 8) (a : Fin 3), oV (BitVec.ofNat 32 r.val) a = offK (g + r.val) a)
    (eK : ∀ (r : Fin 8) (a : Fin 3), oK (BitVec.ofNat 32 r.val) a = offK (g + r.val + 1) a) :
    Held d sel k v cur nxt S K V (groupV K q0 q1 g) ⊢ iprop((Held d sel k v cur nxt S K V (groupV K q0 q1 (g + 8))
        -∗ Q (st mask big ones S K V q0 q1 t (g + 8)))
      -∗ wp frame (wpE defs 𝒱 d bd) E (trip sel k v cur nxt dot_S256x128_S512x128_S256x512_1_1_0_0_n_n
        dot_S80x256_S256x512_S80x512_1_0_0_1_n_n mask big ones q0 q1 oA oB oV oK hA hB hV hK (st mask big ones S K V q0 q1 t g)) Q) := by
  unfold trip
  simp only [wp_bind]
  iintro H HQ
  iapply (step_wp 𝒱 d bd E t g (eA 0 0) (eA 0 1) (eB 0 0) (eB 0 1) (eV 0) (eK 0)) $$ H; iintro H
  iapply (step_wp 𝒱 d bd E t (g + 1) (eA 1 0) (eA 1 1) (eB 1 0) (eB 1 1) (eV 1) (eK 1)) $$ H; iintro H
  iapply (step_wp 𝒱 d bd E t (g + 2) (eA 2 0) (eA 2 1) (eB 2 0) (eB 2 1) (eV 2) (eK 2)) $$ H; iintro H
  iapply (step_wp 𝒱 d bd E t (g + 3) (eA 3 0) (eA 3 1) (eB 3 0) (eB 3 1) (eV 3) (eK 3)) $$ H; iintro H
  iapply (step_wp 𝒱 d bd E t (g + 4) (eA 4 0) (eA 4 1) (eB 4 0) (eB 4 1) (eV 4) (eK 4)) $$ H; iintro H
  iapply (step_wp 𝒱 d bd E t (g + 5) (eA 5 0) (eA 5 1) (eB 5 0) (eB 5 1) (eV 5) (eK 5)) $$ H; iintro H
  iapply (step_wp 𝒱 d bd E t (g + 6) (eA 6 0) (eA 6 1) (eB 6 0) (eB 6 1) (eV 6) (eK 6)) $$ H; iintro H
  iapply (step_wp 𝒱 d bd E t (g + 7) (eA 7 0) (eA 7 1) (eB 7 0) (eB 7 1) (eV 7) (eK 7)) $$ H; iintro H
  simp only [st, carry]
  rw [wp_pure]
  imodintro
  iapply HQ
  iexact H

theorem loop_wp (L : Scf.Loop 32) (hL : L.OK) {oA oB : Fin L.trips → BitVec 32 → BitVec 32 → Fin 4 → Nat} {oV oK : Fin L.trips → BitVec 32 → Fin 3 → Nat}
    {hA : ∀ (n : Fin L.trips) (r : Fin 8) (s : Fin 2) (a : Fin 4), oA n (BitVec.ofNat 32 r.val) (BitVec.ofNat 32 s.val) a + S1x1x1x512.size a ≤ S1x2x32x2048.size a}
    {hB : ∀ (n : Fin L.trips) (r : Fin 8) (s : Fin 2) (a : Fin 4), oB n (BitVec.ofNat 32 r.val) (BitVec.ofNat 32 s.val) a + S1x1x1x512.size a ≤ S1x2x32x2048.size a}
    {hV : ∀ (n : Fin L.trips) (r : Fin 8) (a : Fin 3), oV n (BitVec.ofNat 32 r.val) a + S1x512x128.size a ≤ S1x8192x128.size a}
    {hK : ∀ (n : Fin L.trips) (r : Fin 8) (a : Fin 3), oK n (BitVec.ofNat 32 r.val) a + S1x512x128.size a ≤ S1x8192x128.size a} {Q : 𝒞 → sProp 𝕄}
    (eA : ∀ (n : Fin L.trips) (r : Fin 8) (s : Fin 2) (a : Fin 4), oA n (BitVec.ofNat 32 r.val) (BitVec.ofNat 32 s.val) a = offS 0 (8 * n.val + r.val) s t a)
    (eB : ∀ (n : Fin L.trips) (r : Fin 8) (s : Fin 2) (a : Fin 4), oB n (BitVec.ofNat 32 r.val) (BitVec.ofNat 32 s.val) a = offS 1 (8 * n.val + r.val) s t a)
    (eV : ∀ (n : Fin L.trips) (r : Fin 8) (a : Fin 3), oV n (BitVec.ofNat 32 r.val) a = offK (8 * n.val + r.val) a)
    (eK : ∀ (n : Fin L.trips) (r : Fin 8) (a : Fin 3), oK n (BitVec.ofNat 32 r.val) a = offK (8 * n.val + r.val + 1) a) :
    Held d sel k v cur nxt S K V (groupV K q0 q1 0) ⊢ iprop((Held d sel k v cur nxt S K V (groupV K q0 q1 (8 * L.trips))
        -∗ Q (st mask big ones S K V q0 q1 t (8 * L.trips)))
      -∗ wp frame (wpE defs 𝒱 d bd) E (Scf.Loop.for (σ := (𝒞)) L hL (st mask big ones S K V q0 q1 t 0) fun n c =>
        trip sel k v cur nxt dot_S256x128_S512x128_S256x512_1_1_0_0_n_n
        dot_S80x256_S256x512_S80x512_1_0_0_1_n_n mask big ones q0 q1 (oA n) (oB n) (oV n) (oK n) (hA n) (hB n) (hV n) (hK n) c) Q) := by
  unfold Scf.Loop.for
  iintro H HQ
  iapply (Scf.wp_for frame (wpE defs 𝒱 d bd) E L.lb L.ub L.st hL _ _
    (fun (n : Nat) (c : 𝒞) => iprop(⌜c = st mask big ones S K V q0 q1 t (8 * n)⌝ ∗ Held d sel k v cur nxt S K V (groupV K q0 q1 (8 * n)))) ?_)
  · intro n c
    iintro ⟨%hc, H⟩
    subst hc
    iapply (trip_wp 𝒱 d bd E t (8 * n.val) (eA n) (eB n) (eV n) (eK n)) $$ H
    iintro H
    isplitr
    · ipureintro; rfl
    · iexact H
  isplitl [H]
  · isplitr
    · ipureintro; rfl
    · iexact H
  iintro %c ⟨%hc, H⟩
  subst hc
  iapply HQ
  iexact H

/-- A loop of no trips. -/
theorem loop_none_wp (L : Scf.Loop 32) (hL : L.OK) (h0 : L.trips = 0) {body : Fin L.trips → 𝒞 → Prog (TpuEff nD τ sig (Elt F) Λ .tc) (𝒞)} {c : 𝒞} {Q : 𝒞 → sProp 𝕄} :
    Q c ⊢ wp frame (wpE defs 𝒱 d bd) E (Scf.Loop.for (σ := (𝒞)) L hL c body) Q := by
  unfold Scf.Loop.for
  iintro H
  iapply (Scf.wp_for frame (wpE defs 𝒱 d bd) E L.lb L.ub L.st hL _ _ (fun (n : Nat) (c' : 𝒞) => iprop(⌜c' = c⌝ ∗ Q c)) ?_)
  · intro n; exact absurd n.isLt (by have : Scf.trips L.lb L.ub L.st = 0 := h0; omega)
  isplitl [H]
  · isplitr
    · ipureintro; rfl
    · iexact H
  iintro %c' ⟨%hc, H⟩
  subst hc
  iexact H

theorem ownStep_wp (g : Nat) {o0 o1 : Fin 4 → Nat} {h0 h1} {ov : Fin 3 → Nat} {hv} {Q : 𝒪 → sProp 𝕄}
    (e0 : ∀ a, o0 a = offS 0 g 0 t a) (e1 : ∀ a, o1 a = offS 1 g 0 t a) (ev : ∀ a, ov a = offK g a) :
    Held d sel k v cur nxt S K V (groupV K q0 q1 g) ⊢ iprop((Held d sel k v nxt cur S K V (groupV K r0 r1 0)
        -∗ Q (outC (tileAcc mask big ones S K V q0 q1 t g) (groupV K r0 r1 0)))
      -∗ wp frame (wpE defs 𝒱 d bd) E (own sel k v cur nxt dot_S256x128_S512x128_S256x512_1_1_0_0_n_n
        dot_S80x256_S256x512_S80x512_1_0_0_1_n_n mask big ones r0 r1 o0 o1 h0 h1 ov hv (st mask big ones S K V q0 q1 t g)) Q) := by
  obtain rfl := funext e0; obtain rfl := funext e1; obtain rfl := funext ev
  exact own_wp 𝒱 d bd E

theorem ownLastStep_wp (g : Nat) {o0 o1 : Fin 4 → Nat} {h0 h1} {ov : Fin 3 → Nat} {hv} {Q : ℒ → sProp 𝕄}
    (e0 : ∀ a, o0 a = offS 0 g 0 t a) (e1 : ∀ a, o1 a = offS 1 g 0 t a) (ev : ∀ a, ov a = offK g a) :
    Held d sel k v cur nxt S K V (groupV K q0 q1 g) ⊢ iprop((Held d sel k v cur nxt S K V (groupV K q0 q1 g)
        -∗ Q (outL (tileAcc mask big ones S K V q0 q1 t g)))
      -∗ wp frame (wpE defs 𝒱 d bd) E (ownLast sel v cur
        dot_S80x256_S256x512_S80x512_1_0_0_1_n_n mask big ones o0 o1 h0 h1 ov hv (st mask big ones S K V q0 q1 t g)) Q) := by
  obtain rfl := funext e0; obtain rfl := funext e1; obtain rfl := funext ev
  exact ownLast_wp 𝒱 d bd E

end Moba

end
-- ==== Proof.Moba.Tiles.lean ====
/-
  The attention kernel's four tiles: from the first group's scores in one buffer to the next tile's first scores in the
  other, with the tile's sums and weighted sums.
-/
module

public import proofs.«01_k».proof.Proof.Moba.Groups

@[expose] public section

noncomputable section

namespace Moba

open Idealize.ShloMosaic Idealize.ShloMosaic.TcCoe Idealize.SL.Sem
open Idealize.SL Idealize.SL.RA
open Idealize.SL.BI (sProp)
open scoped Idealize.SL.BI
open Idealize.SL.BI.BIBase Idealize.SL.BI.Laws Idealize.SL.ProofMode
open Cert.KernelIdeal.Facts₀ Cert.KernelIdeal.Facts
open Cert.KernelIdeal

variable {F : FTy → Type} [FloatOps F] [Cert.KernelIdeal.Facts]
variable {nD : Nat} {τ : Topo} {sig : RefSig} {Ix : Type} [DecidableEq Ix]
variable {Name : Type} [DecidableEq Name] {U : Type} [URA U] {Lvl : Type} {Λ : Labels}
variable [Preorder Lvl] {defs : Defs nD τ sig (Elt F) Λ} (𝒱 : Variants) (d : Dev nD) (bd : Option 𝒱.V) (E : Set Name)

local notation "𝕄" => MT nD τ sig Ix (Elt F) Name U Lvl
local notation "𝒞" => FVec F S1x512 FTy.f32 × FVec F S1x512 FTy.f32 × FVec F S64x512 FTy.f32 × FVec F S1x512 FTy.f32 × FVec F S1x512 FTy.f32 × FVec F S64x512 FTy.f32
  × FVec F S1x512 FTy.f32 × FVec F S1x512 FTy.f32 × FVec F S1x512 FTy.f32 × FVec F S1x512 FTy.f32
local notation "𝒪" => FVec F S1x512 FTy.f32 × FVec F S64x512 FTy.f32 × FVec F S1x512 FTy.f32 × FVec F S64x512 FTy.f32 × FVec F S1x512 FTy.f32 × FVec F S1x512 FTy.f32 × FVec F S1x512 FTy.f32 × FVec F S1x512 FTy.f32
local notation "ℒ" => FVec F S1x512 FTy.f32 × FVec F S64x512 FTy.f32 × FVec F S1x512 FTy.f32 × FVec F S64x512 FTy.f32

variable {sel : Memref sig .tc .vmem S1x2x32x2048 .f32} {k v : Memref sig .tc .vmem S1x8192x128 .bf16}
  {cur nxt : Memref sig .tc .vmem S2x512x512 .f32} {S : S1x2x32x2048.Idx → F .f32} {K V : S1x8192x128.Idx → F .bf16}
  {mask big : F .f32} {ones : FVec F S16x256 .bf16} {q0 q1 r0 r1 : FVec F S512x128 .bf16}

theorem tile0_wp (i : grid0.Coords) {Q : 𝒪 → sProp 𝕄} :
    Held d sel k v cur nxt S K V (groupV K q0 q1 0) ⊢ iprop((Held d sel k v nxt cur S K V (groupV K r0 r1 0)
        -∗ Q (outC (tileAcc mask big ones S K V q0 q1 0 (4 * (i 2).val + 0)) (groupV K r0 r1 0)))
      -∗ wp frame (wpE defs 𝒱 d bd) E (tile0 i mask big ones sel k v cur nxt q0 q1 r0 r1 (st mask big ones S K V q0 q1 0 0)) Q) := by
  unfold tile0
  simp only [wp_bind]
  iintro H HQ
  iapply (loop_wp 𝒱 d bd E 0 (k0_t1_loop i) (k0_t1_ok i) (oA := k0_off1 i) (oB := k0_off2 i) (oV := k0_off3 i) (oK := k0_off4 i) (off1 i) (off2 i) (off3 i) (off4 i)) $$ H
  iintro H
  simp only [st, carry]
  iapply (loop_none_wp 𝒱 d bd E (k0_t2_loop i) (k0_t2_ok i) (trips2 i))
  dsimp only
  by_cases hc : k0_cond1 i = 1#1
  · have e : 8 * (k0_t1_loop i).trips + 4 = 4 * (i 2).val + 0 := by have := trips1_then i hc; omega
    rw [dif_pos hc]
    simp only [wp_bind]
    have o9 := off9 i hc
    have o10 := off10 i hc
    have o11 := off11 i hc
    have o12 := off12 i hc
    generalize 8 * (k0_t1_loop i).trips = g at e o9 o10 o11 o12 ⊢
    iapply (step_wp 𝒱 d bd E 0 (g) (o9 0 0) (o9 0 1) (o10 0 0) (o10 0 1) (o11 0) (o12 0)) $$ H; iintro H
    iapply (step_wp 𝒱 d bd E 0 (g + 1) (o9 1 0) (o9 1 1) (o10 1 0) (o10 1 1) (o11 1) (o12 1)) $$ H; iintro H
    iapply (step_wp 𝒱 d bd E 0 (g + 2) (o9 2 0) (o9 2 1) (o10 2 0) (o10 2 1) (o11 2) (o12 2)) $$ H; iintro H
    iapply (step_wp 𝒱 d bd E 0 (g + 3) (o9 3 0) (o9 3 1) (o10 3 0) (o10 3 1) (o11 3) (o12 3)) $$ H; iintro H
    rw [e]
    iapply (ownStep_wp 𝒱 d bd E 0 (4 * (i 2).val + 0) (off13 i hc) (off14 i hc) (off15 i hc)) $$ H; iintro H
    iapply HQ
    iexact H
  · have e : 8 * (k0_t1_loop i).trips + 0 = 4 * (i 2).val + 0 := by have := trips1_else i hc; omega
    rw [dif_neg hc]
    generalize 8 * (k0_t1_loop i).trips = g at e ⊢
    rw [show g = 4 * (i 2).val + 0 from e]
    iapply (ownStep_wp 𝒱 d bd E 0 (4 * (i 2).val + 0) (off16 i hc) (off17 i hc) (off18 i hc)) $$ H; iintro H
    iapply HQ
    iexact H

theorem tile1_wp (i : grid0.Coords) {Q : 𝒪 → sProp 𝕄} :
    Held d sel k v cur nxt S K V (groupV K q0 q1 0) ⊢ iprop((Held d sel k v cur nxt S K V (groupV K r0 r1 0)
        -∗ Q (outC (tileAcc mask big ones S K V q0 q1 1 (4 * (i 2).val + 1)) (groupV K r0 r1 0)))
      -∗ wp frame (wpE defs 𝒱 d bd) E (tile1 i mask big ones sel k v cur nxt q0 q1 r0 r1 (st mask big ones S K V q0 q1 1 0)) Q) := by
  unfold tile1
  simp only [wp_bind]
  iintro H HQ
  iapply (loop_wp 𝒱 d bd E 1 (k0_t3_loop i) (k0_t3_ok i) (oA := k0_off19 i) (oB := k0_off20 i) (oV := k0_off21 i) (oK := k0_off22 i) (off19 i) (off20 i) (off21 i) (off22 i)) $$ H
  iintro H
  simp only [st, carry]
  iapply (loop_none_wp 𝒱 d bd E (k0_t4_loop i) (k0_t4_ok i) (trips4 i))
  dsimp only
  by_cases hc : k0_cond2 i = 1#1
  · have e : 8 * (k0_t3_loop i).trips + 5 = 4 * (i 2).val + 1 := by have := trips3_then i hc; omega
    rw [dif_pos hc]
    simp only [wp_bind]
    have o27 := off27 i hc
    have o28 := off28 i hc
    have o29 := off29 i hc
    have o30 := off30 i hc
    generalize 8 * (k0_t3_loop i).trips = g at e o27 o28 o29 o30 ⊢
    iapply (step_wp 𝒱 d bd E 1 (g) (o27 0 0) (o27 0 1) (o28 0 0) (o28 0 1) (o29 0) (o30 0)) $$ H; iintro H
    iapply (step_wp 𝒱 d bd E 1 (g + 1) (o27 1 0) (o27 1 1) (o28 1 0) (o28 1 1) (o29 1) (o30 1)) $$ H; iintro H
    iapply (step_wp 𝒱 d bd E 1 (g + 2) (o27 2 0) (o27 2 1) (o28 2 0) (o28 2 1) (o29 2) (o30 2)) $$ H; iintro H
    iapply (step_wp 𝒱 d bd E 1 (g + 3) (o27 3 0) (o27 3 1) (o28 3 0) (o28 3 1) (o29 3) (o30 3)) $$ H; iintro H
    iapply (step_wp 𝒱 d bd E 1 (g + 4) (o27 4 0) (o27 4 1) (o28 4 0) (o28 4 1) (o29 4) (o30 4)) $$ H; iintro H
    rw [e]
    iapply (ownStep_wp 𝒱 d bd E 1 (4 * (i 2).val + 1) (off31 i hc) (off32 i hc) (off33 i hc)) $$ H; iintro H
    iapply HQ
    iexact H
  · have e : 8 * (k0_t3_loop i).trips + 1 = 4 * (i 2).val + 1 := by have := trips3_else i hc; omega
    rw [dif_neg hc]
    simp only [wp_bind]
    have o34 := off34 i hc
    have o35 := off35 i hc
    have o36 := off36 i hc
    have o37 := off37 i hc
    generalize 8 * (k0_t3_loop i).trips = g at e o34 o35 o36 o37 ⊢
    iapply (step_wp 𝒱 d bd E 1 (g) (o34 0 0) (o34 0 1) (o35 0 0) (o35 0 1) (o36 0) (o37 0)) $$ H; iintro H
    rw [e]
    iapply (ownStep_wp 𝒱 d bd E 1 (4 * (i 2).val + 1) (off38 i hc) (off39 i hc) (off40 i hc)) $$ H; iintro H
    iapply HQ
    iexact H

theorem tile2_wp (i : grid0.Coords) {Q : 𝒪 → sProp 𝕄} :
    Held d sel k v cur nxt S K V (groupV K q0 q1 0) ⊢ iprop((Held d sel k v nxt cur S K V (groupV K r0 r1 0)
        -∗ Q (outC (tileAcc mask big ones S K V q0 q1 2 (4 * (i 2).val + 2)) (groupV K r0 r1 0)))
      -∗ wp frame (wpE defs 𝒱 d bd) E (tile2 i mask big ones sel k v cur nxt q0 q1 r0 r1 (st mask big ones S K V q0 q1 2 0)) Q) := by
  unfold tile2
  simp only [wp_bind]
  iintro H HQ
  iapply (loop_wp 𝒱 d bd E 2 (k0_t5_loop i) (k0_t5_ok i) (oA := k0_off41 i) (oB := k0_off42 i) (oV := k0_off43 i) (oK := k0_off44 i) (off41 i) (off42 i) (off43 i) (off44 i)) $$ H
  iintro H
  simp only [st, carry]
  iapply (loop_none_wp 𝒱 d bd E (k0_t6_loop i) (k0_t6_ok i) (trips6 i))
  dsimp only
  by_cases hc : k0_cond3 i = 1#1
  · have e : 8 * (k0_t5_loop i).trips + 6 = 4 * (i 2).val + 2 := by have := trips5_then i hc; omega
    rw [dif_pos hc]
    simp only [wp_bind]
    have o49 := off49 i hc
    have o50 := off50 i hc
    have o51 := off51 i hc
    have o52 := off52 i hc
    generalize 8 * (k0_t5_loop i).trips = g at e o49 o50 o51 o52 ⊢
    iapply (step_wp 𝒱 d bd E 2 (g) (o49 0 0) (o49 0 1) (o50 0 0) (o50 0 1) (o51 0) (o52 0)) $$ H; iintro H
    iapply (step_wp 𝒱 d bd E 2 (g + 1) (o49 1 0) (o49 1 1) (o50 1 0) (o50 1 1) (o51 1) (o52 1)) $$ H; iintro H
    iapply (step_wp 𝒱 d bd E 2 (g + 2) (o49 2 0) (o49 2 1) (o50 2 0) (o50 2 1) (o51 2) (o52 2)) $$ H; iintro H
    iapply (step_wp 𝒱 d bd E 2 (g + 3) (o49 3 0) (o49 3 1) (o50 3 0) (o50 3 1) (o51 3) (o52 3)) $$ H; iintro H
    iapply (step_wp 𝒱 d bd E 2 (g + 4) (o49 4 0) (o49 4 1) (o50 4 0) (o50 4 1) (o51 4) (o52 4)) $$ H; iintro H
    iapply (step_wp 𝒱 d bd E 2 (g + 5) (o49 5 0) (o49 5 1) (o50 5 0) (o50 5 1) (o51 5) (o52 5)) $$ H; iintro H
    rw [e]
    iapply (ownStep_wp 𝒱 d bd E 2 (4 * (i 2).val + 2) (off53 i hc) (off54 i hc) (off55 i hc)) $$ H; iintro H
    iapply HQ
    iexact H
  · have e : 8 * (k0_t5_loop i).trips + 2 = 4 * (i 2).val + 2 := by have := trips5_else i hc; omega
    rw [dif_neg hc]
    simp only [wp_bind]
    have o56 := off56 i hc
    have o57 := off57 i hc
    have o58 := off58 i hc
    have o59 := off59 i hc
    generalize 8 * (k0_t5_loop i).trips = g at e o56 o57 o58 o59 ⊢
    iapply (step_wp 𝒱 d bd E 2 (g) (o56 0 0) (o56 0 1) (o57 0 0) (o57 0 1) (o58 0) (o59 0)) $$ H; iintro H
    iapply (step_wp 𝒱 d bd E 2 (g + 1) (o56 1 0) (o56 1 1) (o57 1 0) (o57 1 1) (o58 1) (o59 1)) $$ H; iintro H
    rw [e]
    iapply (ownStep_wp 𝒱 d bd E 2 (4 * (i 2).val + 2) (off60 i hc) (off61 i hc) (off62 i hc)) $$ H; iintro H
    iapply HQ
    iexact H

theorem tile3_wp (i : grid0.Coords) {Q : ℒ → sProp 𝕄} :
    Held d sel k v cur nxt S K V (groupV K q0 q1 0) ⊢ iprop((Held d sel k v nxt cur S K V (groupV K q0 q1 (4 * (i 2).val + 3))
        -∗ Q (outL (tileAcc mask big ones S K V q0 q1 3 (4 * (i 2).val + 3))))
      -∗ wp frame (wpE defs 𝒱 d bd) E (tile3 i mask big ones sel k v cur nxt q0 q1 (st mask big ones S K V q0 q1 3 0)) Q) := by
  unfold tile3
  simp only [wp_bind]
  iintro H HQ
  iapply (loop_wp 𝒱 d bd E 3 (k0_t7_loop i) (k0_t7_ok i) (oA := k0_off63 i) (oB := k0_off64 i) (oV := k0_off65 i) (oK := k0_off66 i) (off63 i) (off64 i) (off65 i) (off66 i)) $$ H
  iintro H
  simp only [st, carry]
  iapply (loop_none_wp 𝒱 d bd E (k0_t8_loop i) (k0_t8_ok i) (trips8 i))
  dsimp only
  by_cases hc : k0_cond4 i = 1#1
  · have e : 8 * (k0_t7_loop i).trips + 7 = 4 * (i 2).val + 3 := by have := trips7_then i hc; omega
    rw [dif_pos hc]
    simp only [wp_bind]
    have o71 := off71 i hc
    have o72 := off72 i hc
    have o73 := off73 i hc
    have o74 := off74 i hc
    generalize 8 * (k0_t7_loop i).trips = g at e o71 o72 o73 o74 ⊢
    iapply (step_wp 𝒱 d bd E 3 (g) (o71 0 0) (o71 0 1) (o72 0 0) (o72 0 1) (o73 0) (o74 0)) $$ H; iintro H
    iapply (step_wp 𝒱 d bd E 3 (g + 1) (o71 1 0) (o71 1 1) (o72 1 0) (o72 1 1) (o73 1) (o74 1)) $$ H; iintro H
    iapply (step_wp 𝒱 d bd E 3 (g + 2) (o71 2 0) (o71 2 1) (o72 2 0) (o72 2 1) (o73 2) (o74 2)) $$ H; iintro H
    iapply (step_wp 𝒱 d bd E 3 (g + 3) (o71 3 0) (o71 3 1) (o72 3 0) (o72 3 1) (o73 3) (o74 3)) $$ H; iintro H
    iapply (step_wp 𝒱 d bd E 3 (g + 4) (o71 4 0) (o71 4 1) (o72 4 0) (o72 4 1) (o73 4) (o74 4)) $$ H; iintro H
    iapply (step_wp 𝒱 d bd E 3 (g + 5) (o71 5 0) (o71 5 1) (o72 5 0) (o72 5 1) (o73 5) (o74 5)) $$ H; iintro H
    iapply (step_wp 𝒱 d bd E 3 (g + 6) (o71 6 0) (o71 6 1) (o72 6 0) (o72 6 1) (o73 6) (o74 6)) $$ H; iintro H
    rw [e]
    iapply (ownLastStep_wp 𝒱 d bd E 3 (4 * (i 2).val + 3) (off75 i hc) (off76 i hc) (off77 i hc)) $$ H; iintro H
    iapply HQ
    iexact H
  · have e : 8 * (k0_t7_loop i).trips + 3 = 4 * (i 2).val + 3 := by have := trips7_else i hc; omega
    rw [dif_neg hc]
    simp only [wp_bind]
    have o78 := off78 i hc
    have o79 := off79 i hc
    have o80 := off80 i hc
    have o81 := off81 i hc
    generalize 8 * (k0_t7_loop i).trips = g at e o78 o79 o80 o81 ⊢
    iapply (step_wp 𝒱 d bd E 3 (g) (o78 0 0) (o78 0 1) (o79 0 0) (o79 0 1) (o80 0) (o81 0)) $$ H; iintro H
    iapply (step_wp 𝒱 d bd E 3 (g + 1) (o78 1 0) (o78 1 1) (o79 1 0) (o79 1 1) (o80 1) (o81 1)) $$ H; iintro H
    iapply (step_wp 𝒱 d bd E 3 (g + 2) (o78 2 0) (o78 2 1) (o79 2 0) (o79 2 1) (o80 2) (o81 2)) $$ H; iintro H
    rw [e]
    iapply (ownLastStep_wp 𝒱 d bd E 3 (4 * (i 2).val + 3) (off82 i hc) (off83 i hc) (off84 i hc)) $$ H; iintro H
    iapply HQ
    iexact H

end Moba

end
-- ==== Proof.Moba.Point.lean ====
/-
  A grid point of the attention kernel: on its blocks of queries, gate, mask, keys and values it leaves the block of
  results `outV`, whatever the two score buffers and the result's buffer held.
-/
module

public import proofs.«01_k».proof.Proof.Moba.Tiles

@[expose] public section

noncomputable section

namespace Moba

open Idealize.ShloMosaic Idealize.ShloMosaic.TcCoe Idealize.SL.Sem
open Idealize.SL Idealize.SL.RA
open Idealize.SL.BI (sProp)
open scoped Idealize.SL.BI
open Idealize.SL.BI.BIBase Idealize.SL.BI.Laws Idealize.SL.ProofMode
open Cert.KernelIdeal.Facts₀ Cert.KernelIdeal.Facts
open Cert.KernelIdeal

variable {F : FTy → Type} [FloatOps F] [Cert.KernelIdeal.Facts]
variable {nD : Nat} {τ : Topo} {sig : RefSig} {Ix : Type} [DecidableEq Ix]
variable {Name : Type} [DecidableEq Name] {U : Type} [URA U] {Lvl : Type} {Λ : Labels}
variable [Preorder Lvl] {defs : Defs nD τ sig (Elt F) Λ} (𝒱 : Variants) (d : Dev nD) (bd : Option 𝒱.V) (E : Set Name)

local notation "𝕄" => MT nD τ sig Ix (Elt F) Name U Lvl
local notation "𝒞" => FVec F S1x512 FTy.f32 × FVec F S1x512 FTy.f32 × FVec F S64x512 FTy.f32 × FVec F S1x512 FTy.f32 × FVec F S1x512 FTy.f32 × FVec F S64x512 FTy.f32
  × FVec F S1x512 FTy.f32 × FVec F S1x512 FTy.f32 × FVec F S1x512 FTy.f32 × FVec F S1x512 FTy.f32
local notation "𝒪" => FVec F S1x512 FTy.f32 × FVec F S64x512 FTy.f32 × FVec F S1x512 FTy.f32 × FVec F S64x512 FTy.f32 × FVec F S1x512 FTy.f32 × FVec F S1x512 FTy.f32 × FVec F S1x512 FTy.f32 × FVec F S1x512 FTy.f32
local notation "ℒ" => FVec F S1x512 FTy.f32 × FVec F S64x512 FTy.f32 × FVec F S1x512 FTy.f32 × FVec F S64x512 FTy.f32

theorem queries_wp {q : Memref sig .tc .vmem S1x2048x128 .bf16} {o ho} {X : S1x2048x128.Idx → F .bf16}
    {Q : FVec F S512x128 .bf16 × FVec F S512x128 .bf16 → sProp 𝕄} :
    owns (d : Thread nD τ) q fullShare X ⊢ iprop((owns (d : Thread nD τ) q fullShare X -∗ Q (query0V (qrowsV X o ho), query1V (qrowsV X o ho)))
      -∗ wp frame (wpE defs 𝒱 d bd) E (queries q o ho) Q) := by
  unfold queries
  rw [wp_bind]
  iintro H HQ
  iapply (wp_load_owns (defs := defs) 𝒱 (d : Thread nD τ) bd E) $$ H
  iintro H
  rw [wp_pure]
  imodintro
  iapply (post_eq (Q := Q) (a := (query0V (qrowsV X o ho), query1V (qrowsV X o ho))) ?_)
  · rfl
  iapply HQ
  iexact H

/-- A tile's result as it is stored. -/
def asRows (w : FVec F S512x128 .bf16) : FVec F S1x512x128 .bf16 := shapeCast S1x512x128 w sc_S512x128

theorem finish_wp {z out : Memref sig .tc .vmem S1x2048x128 .bf16} {o ho hst} {Z O : S1x2048x128.Idx → F .bf16} {A : Acc F} {Q : PUnit → sProp 𝕄} :
    owns (d : Thread nD τ) z fullShare Z ⊢ iprop(owns (d : Thread nD τ) out fullShare O
      -∗ (owns (d : Thread nD τ) z fullShare Z
        -∗ owns (d : Thread nD τ) out fullShare ((Rect.unit (s := S1x2048x128) o S1x512x128.size ho).overlay O (asRows (resultV (qrowsV Z o ho) A)))
        -∗ Q ⟨⟩)
      -∗ wp frame (wpE defs 𝒱 d bd) E (finish z out o ho hst A.l0 A.a0 A.l1 A.a1) Q) := by
  unfold finish
  simp only [wp_bind]
  iintro HZ H HQ
  iapply (wp_load_owns (defs := defs) 𝒱 (d : Thread nD τ) bd E) $$ HZ
  iintro HZ
  iapply (wp_load_owns (defs := defs) 𝒱 (d : Thread nD τ) bd E) $$ H
  iintro H
  iapply (wp_store_owns (defs := defs) 𝒱 (d : Thread nD τ) bd E) $$ H
  iintro H
  iapply HQ $$ HZ
  iexact H

/-! ## The result's block from the four stores -/

theorem outer_val {o : Fin 3 → Nat} {ho : ∀ a, o a + S1x512x128.size a ≤ S1x2048x128.size a} (y : S1x512x128.Idx) (a : Fin 3) :
    ((Rect.unit (s := S1x2048x128) o S1x512x128.size ho).emb y a).val = o a + (y a).val := by
  show o a + 1 * (y a).val = _; omega

/-- The place of row `y` in its tile. -/
def inner (y : S1x2048x128.Idx) : S1x512x128.Idx := fun a => match a with
  | ⟨0, _⟩ => y 0
  | ⟨1, _⟩ => ⟨(y 1).val % 512, Nat.mod_lt _ (by decide)⟩
  | ⟨2, _⟩ => y 2

theorem emb_inner (y : S1x2048x128.Idx) (t : Fin 4) (h : (y 1).val / 512 = t.val) :
    (Rect.unit (s := S1x2048x128) (offQ t) S1x512x128.size (inQ t)).emb (inner y) = y := by
  funext a
  apply Fin.ext
  rw [outer_val]
  have h0 : (y 0).val < 1 := (y 0).isLt
  fin_cases a
  · show 0 + (y 0).val = (y 0).val; omega
  · show 512 * t.val + (y 1).val % 512 = (y 1).val; omega
  · show 0 + (y 2).val = (y 2).val; omega

theorem not_in_tile (y : S1x2048x128.Idx) (t : Fin 4) (h : (y 1).val / 512 ≠ t.val) :
    y ∉ (Rect.unit (s := S1x2048x128) (offQ t) S1x512x128.size (inQ t)).set := by
  rw [Rect.mem_set_unit]
  intro hm
  have := hm 1
  change 512 * t.val ≤ (y 1).val ∧ (y 1).val < 512 * t.val + 512 at this
  omega

theorem asRows_inner (w : FVec F S512x128 .bf16) (y : S1x2048x128.Idx) :
    asRows w (inner y) = w (rowAt y) := by
  unfold asRows
  refine (shapeCast_addUnit_apply _ _ _ _).trans (congrArg w ?_)
  funext a
  fin_cases a <;> rfl

variable {mask big : F .f32}

/-- The four tiles' stores leave the block of results. -/
theorem out_stores (O : S1x2048x128.Idx → F .bf16) (Q Z : S1x2048x128.Idx → F .bf16) (S : S1x2x32x2048.Idx → F .f32) (K V : S1x8192x128.Idx → F .bf16) (j : Nat) :
    (Rect.unit (s := S1x2048x128) (offQ 3) S1x512x128.size (inQ 3)).overlay
      ((Rect.unit (s := S1x2048x128) (offQ 2) S1x512x128.size (inQ 2)).overlay
        ((Rect.unit (s := S1x2048x128) (offQ 1) S1x512x128.size (inQ 1)).overlay
          ((Rect.unit (s := S1x2048x128) (offQ 0) S1x512x128.size (inQ 0)).overlay O (asRows (outTile mask big Q Z S K V j 0)))
          (asRows (outTile mask big Q Z S K V j 1))) (asRows (outTile mask big Q Z S K V j 2))) (asRows (outTile mask big Q Z S K V j 3))
      = outV mask big Q Z S K V j := by
  funext y
  have hy : (y 1).val < 2048 := (y 1).isLt
  have key : ∀ (t : Fin 4) (X : S1x2048x128.Idx → F .bf16), (y 1).val / 512 = t.val →
      (Rect.unit (s := S1x2048x128) (offQ t) S1x512x128.size (inQ t)).overlay X (asRows (outTile mask big Q Z S K V j t)) y = outV mask big Q Z S K V j y := by
    intro t X h
    have e := Rect.overlay_emb (r := Rect.unit (s := S1x2048x128) (offQ t) S1x512x128.size (inQ t)) X (asRows (outTile mask big Q Z S K V j t)) (inner y)
    rw [emb_inner y t h] at e
    rw [e, asRows_inner]
    have ht : tileAt y = t := Fin.ext h
    subst ht
    rfl
  have skip : ∀ (t : Fin 4) (X : S1x2048x128.Idx → F .bf16) (w : FVec F S1x512x128 .bf16), (y 1).val / 512 ≠ t.val →
      (Rect.unit (s := S1x2048x128) (offQ t) S1x512x128.size (inQ t)).overlay X w y = X y := fun t X w h =>
    Rect.overlay_of_not_mem _ _ _ (not_in_tile y t h)
  by_cases h3 : (y 1).val / 512 = 3
  · exact key 3 _ h3
  rw [skip 3 _ _ h3]
  by_cases h2 : (y 1).val / 512 = 2
  · exact key 2 _ h2
  rw [skip 2 _ _ h2]
  by_cases h1 : (y 1).val / 512 = 1
  · exact key 1 _ h1
  rw [skip 1 _ _ h1]
  exact key 0 _ (by show (y 1).val / 512 = 0; omega)

/-! ## The grid point -/

theorem kernel_wp (i : grid0.Coords) {arg3 : Memref sig .tc .vmem S1x2048x128 .bf16} {harg3} {arg4 : Memref sig .tc .vmem S1x2048x128 .bf16} {harg4}
    {arg5 : Memref sig .tc .vmem S1x2x32x2048 .f32} {harg5} {arg6 : Memref sig .tc .vmem S1x8192x128 .bf16} {harg6}
    {arg7 : Memref sig .tc .vmem S1x8192x128 .bf16} {harg7} {arg8 : Memref sig .tc .vmem S1x2048x128 .bf16} {harg8}
    {arg9 : Memref sig .tc .vmem S2x512x512 .f32} {harg9} {arg10 : Memref sig .tc .vmem S2x512x512 .f32} {harg10}
    {X Z : S1x2048x128.Idx → F .bf16} {S : S1x2x32x2048.Idx → F .f32} {K V : S1x8192x128.Idx → F .bf16} {Q : PUnit → sProp 𝕄} :
    iprop(owns (d : Thread nD τ) arg3 fullShare X ∗ owns (d : Thread nD τ) arg4 fullShare Z ∗ owns (d : Thread nD τ) arg5 fullShare S
      ∗ owns (d : Thread nD τ) arg6 fullShare K ∗ owns (d : Thread nD τ) arg7 fullShare V ∗ (∃ O, owns (d : Thread nD τ) arg8 fullShare O)
      ∗ (∃ Y, owns (d : Thread nD τ) arg9 fullShare Y) ∗ (∃ Y, owns (d : Thread nD τ) arg10 fullShare Y)
      ∗ (iprop(owns (d : Thread nD τ) arg3 fullShare X ∗ owns (d : Thread nD τ) arg4 fullShare Z ∗ owns (d : Thread nD τ) arg5 fullShare S
        ∗ owns (d : Thread nD τ) arg6 fullShare K ∗ owns (d : Thread nD τ) arg7 fullShare V
        ∗ owns (d : Thread nD τ) arg8 fullShare (outV mask big X Z S K V (i 2).val)
        ∗ (∃ Y, owns (d : Thread nD τ) arg9 fullShare Y) ∗ (∃ Y, owns (d : Thread nD τ) arg10 fullShare Y)) -∗ Q ⟨⟩))
      ⊢ wp frame (wpE defs 𝒱 d bd) E (kernel mask big i arg3 harg3 arg4 harg4 arg5 harg5 arg6 harg6 arg7 harg7 arg8 harg8 arg9 harg9 arg10 harg10) Q := by
  unfold kernel
  simp only [wp_bind]
  iintro ⟨HX, HZ, HS, HK, HV, ⟨%O, HO⟩, ⟨%Y, HY⟩, H10, HQ⟩
  iapply (queries_wp 𝒱 d bd E) $$ HX; iintro HX
  iapply (queries_wp 𝒱 d bd E) $$ HX; iintro HX
  iapply (queries_wp 𝒱 d bd E) $$ HX; iintro HX
  iapply (queries_wp 𝒱 d bd E) $$ HX; iintro HX
  iapply (scoreTile_wp 𝒱 d bd E) $$ HK HY; iintro HK HY
  iapply (scoreTile_wp 𝒱 d bd E) $$ HK HY; iintro HK HY
  iapply (scoreTile_wp 𝒱 d bd E) $$ HK HY; iintro HK HY
  iapply (scoreTile_wp 𝒱 d bd E) $$ HK HY; iintro HK HY
  ihave H : (Held d arg5 arg6 arg7 arg9 arg10 S K V (groupV K (query0V (qrowsV X (offQ 0) (inQ 0))) (query1V (qrowsV X (offQ 0) (inQ 0))) 0)) $$ [HS HK HV HY H10]
  · unfold Held
    isplitl [HS]; · iexact HS
    isplitl [HK]; · iexact HK
    isplitl [HV]; · iexact HV
    isplitl [HY]
    · iexists _
      isplitr; swap; · iexact HY
      ipureintro
      exact filled_stores Y (groupV K (query0V (qrowsV X (offQ 0) (inQ 0))) (query1V (qrowsV X (offQ 0) (inQ 0))) 0)
    iexact H10
  iapply (tile0_wp 𝒱 d bd E i (mask := mask) (big := big) (ones := (broadcast S16x256 (Scalar.ofBits .bf16 0x3F80#16))) (S := S) (K := K) (V := V)) $$ H
  iintro H
  simp only [outC]
  iapply (finish_wp 𝒱 d bd E) $$ HZ HO; iintro HZ HO
  iapply (tile1_wp 𝒱 d bd E i (mask := mask) (big := big) (ones := (broadcast S16x256 (Scalar.ofBits .bf16 0x3F80#16))) (S := S) (K := K) (V := V)) $$ H
  iintro H
  simp only [outC]
  iapply (finish_wp 𝒱 d bd E) $$ HZ HO; iintro HZ HO
  iapply (tile2_wp 𝒱 d bd E i (mask := mask) (big := big) (ones := (broadcast S16x256 (Scalar.ofBits .bf16 0x3F80#16))) (S := S) (K := K) (V := V)) $$ H
  iintro H
  simp only [outC]
  iapply (finish_wp 𝒱 d bd E) $$ HZ HO; iintro HZ HO
  iapply (tile3_wp 𝒱 d bd E i (mask := mask) (big := big) (ones := (broadcast S16x256 (Scalar.ofBits .bf16 0x3F80#16))) (S := S) (K := K) (V := V)) $$ H
  iintro H
  simp only [outL]
  iapply (finish_wp 𝒱 d bd E) $$ HZ HO; iintro HZ HO
  rw [wp_pure]
  imodintro
  iapply HQ
  unfold Held
  icases H with ⟨HS, HK, HV, ⟨%X9, -, H9⟩, H10⟩
  isplitl [HX]; · iexact HX
  isplitl [HZ]; · iexact HZ
  isplitl [HS]; · iexact HS
  isplitl [HK]; · iexact HK
  isplitl [HV]; · iexact HV
  isplitl [HO]
  · rw [← out_stores O]
    iexact HO
  isplitl [H10]
  · iexact H10
  iexists X9; iexact H9

end Moba

end
-- ==== Proof.Moba.TextIdeal.lean ====
/-
  The attention kernel as `KernelIdeal` prints it is the structured text at that program's constants.
-/
module

public import proofs.«01_k».proof.KernelIdeal
public import proofs.«01_k».proof.Proof.Moba.Kernel
public import Idealize.ShloMosaic.Lib.Tactic.ProgEq

@[expose] public section

noncomputable section

namespace Moba

open Idealize.ShloMosaic Idealize.SL.Sem
open Cert.KernelIdeal
open scoped Idealize.ShloMosaic.ProgEq

variable {F : FTy → Type} [FloatOps F] [Named F] [Cert.KernelIdeal.Facts]

/-- The structured text at the program's signature and constants. -/
def kernelI (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2x32x2048 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x2048x128 .bf16) (harg8 : arg8.IsWhole) (arg9 : Memref sig .tc .vmem S2x512x512 .f32) (harg9 : arg9.IsWhole) (arg10 : Memref sig .tc .vmem S2x512x512 .f32) (harg10 : arg10.IsWhole) :
    Prog (TpuEff nD τ sig (Elt F) Λ₀ .tc) PUnit :=
  kernel (Named.named κ "mask" 0xF149F2CA#32) (Named.named κ "big" 0x7149F2CA#32) i arg3 harg3 arg4 harg4 arg5 harg5 arg6 harg6 arg7 harg7 arg8 harg8 arg9 harg9 arg10 harg10

set_option maxRecDepth 100000 in
set_option maxHeartbeats 0 in
prog_eq Moba.kernelI_eq : Cert.KernelIdeal.cc0_moba Moba.kernelI from Cert.KernelIdeal to Cert.KernelIdeal at Ideal inferInstance by intros; rfl

end Moba

end
-- ==== Proof.Moba.RunIdeal.lean ====
/-
  The run of `KernelIdeal`: every grid point leaves its block of results, and every memory ends as the pipeline says.
-/
module

public import proofs.«01_k».proof.Proof.Gen.KernelIdeal.Frame
public import proofs.«01_k».proof.Proof.Gen.KernelIdeal.Points
public import proofs.«01_k».proof.Proof.Gen.KernelIdeal.Launch
public import proofs.«01_k».proof.Proof.Moba.Point
public import proofs.«01_k».proof.Proof.Moba.TextIdeal
public import Idealize.ShloMosaic.Lib.Tactic
public import Idealize.ShloMosaic.PureOps.BitExact

@[expose] public section

noncomputable section

namespace Moba.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝔽" => Idealize.ShloMosaic.Ideal
local notation "𝕄" => MT nD τ sig Unit (Elt 𝔽) ℕ (UR sig nD τ) ℕ

abbrev 𝒱₀ : Variants := Variants.none

variable (m : (ℓ : Loc nD τ sig) → Buf (Elt 𝔽) ℓ) (ρ : Dev nD → PrngReg)

/-- The block of results of point `t`, from the point's blocks of queries, gate, mask, keys and values. -/
def outsAt (c : Dev nD) (t : Fin cfg0.N) : FVec 𝔽 S1x2048x128 .bf16 :=
  outV (F := 𝔽) (Named.named κ "mask" 0xF149F2CA#32) (Named.named κ "big" 0x7149F2CA#32)
    (iblk m c 0 t) (iblk m c 1 t) (iblk m c 2 t) (iblk m c 3 t) (iblk m c 4 t) ((grid0.coords t) 2).val

/-- What every window's staging buffer holds after each point. -/
def dats (_ : Fin 1) (c : Dev nD) : Dat τ (Elt 𝔽) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What a point may use beside its windows: the two score buffers and the generator's register. -/
theorem held_eq (c : Dev nD) : (Pipeline.ΦA spec0 c : sProp 𝕄)
    = iprop((∃ Y, owns (c : Thread nD τ) (Memref.whole cc0_scratch0) fullShare Y)
        ∗ (∃ Y, owns (c : Thread nD τ) (Memref.whole cc0_scratch1) fullShare Y) ∗ ∃ r, prngReg c r) := by
  rw [Pipeline.ΦA, scopedRest0_eq, funext fun Y => owns_whole (c : Thread nD τ) cc0_scratch0 fullShare Y,
    funext fun Y => owns_whole (c : Thread nD τ) cc0_scratch1 fullShare Y]
  exact equiv_iff.mp ⟨BI.sep_assoc, BI.sep_assoc'⟩

/-- The kernel at a point, on whole buffers: it leaves the block `outV` and gives everything else back. -/
theorem point_wp (c : Dev nD) (i : grid0.Coords) {M3 : Memref sig .tc .vmem S1x2048x128 .bf16} {h3} {M4 : Memref sig .tc .vmem S1x2048x128 .bf16} {h4}
    {M5 : Memref sig .tc .vmem S1x2x32x2048 .f32} {h5} {M6 : Memref sig .tc .vmem S1x8192x128 .bf16} {h6}
    {M7 : Memref sig .tc .vmem S1x8192x128 .bf16} {h7} {M8 : Memref sig .tc .vmem S1x2048x128 .bf16} {h8}
    {X Z : S1x2048x128.Idx → 𝔽 .bf16} {S : S1x2x32x2048.Idx → 𝔽 .f32} {K W : S1x8192x128.Idx → 𝔽 .bf16} {Q : PUnit → sProp 𝕄} :
    iprop(Pipeline.ΦA spec0 c ∗ owns (c : Thread nD τ) M3 fullShare X ∗ owns (c : Thread nD τ) M4 fullShare Z ∗ owns (c : Thread nD τ) M5 fullShare S
      ∗ owns (c : Thread nD τ) M6 fullShare K ∗ owns (c : Thread nD τ) M7 fullShare W ∗ (∃ O, owns (c : Thread nD τ) M8 fullShare O)
      ∗ (iprop(Pipeline.ΦA spec0 c ∗ owns (c : Thread nD τ) M3 fullShare X ∗ owns (c : Thread nD τ) M4 fullShare Z ∗ owns (c : Thread nD τ) M5 fullShare S
          ∗ owns (c : Thread nD τ) M6 fullShare K ∗ owns (c : Thread nD τ) M7 fullShare W
          ∗ owns (c : Thread nD τ) M8 fullShare (outV (F := 𝔽) (Named.named κ "mask" 0xF149F2CA#32) (Named.named κ "big" 0x7149F2CA#32) X Z S K W (i 2).val)) -∗ Q ⟨⟩))
      ⊢ wp frame (wpE (defs₀ (F := 𝔽)) 𝒱₀ c none) Set.univ
          (cc0_moba (F := 𝔽) i M3 h3 M4 h4 M5 h5 M6 h6 M7 h7 M8 h8 (Memref.whole cc0_scratch0) (Memref.isWhole_whole _)
            (Memref.whole cc0_scratch1) (Memref.isWhole_whole _)) Q := by
  rw [kernelI_eq i M3 h3 M4 h4 M5 h5 M6 h6 M7 h7 M8 h8 _ _ _ _ Cert.KernelIdeal.Gen.facts, kernelI, held_eq]
  iintro ⟨⟨H9, H10, Hp⟩, H3, H4, H5, H6, H7, H8, HQ⟩
  iapply (kernel_wp (defs := defs₀ (F := 𝔽)) 𝒱₀ c none Set.univ i)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  iapply HQ
  isplitl [H9 H10 Hp]
  · isplitl [H9]; · iexact H9
    isplitl [H10]; · iexact H10
    iexact Hp
  isplitl [H3]; · iexact H3
  isplitl [H4]; · iexact H4
  isplitl [H5]; · iexact H5
  isplitl [H6]; · iexact H6
  isplitl [H7]; · iexact H7
  iexact H8

theorem body_obligation (c : Dev nD) : BodyObligation (dats m 0 c) (defs₀ (F := 𝔽)) 𝒱₀ () Set.univ := fun t => by
  rw [bigSep_W0, bigSep_W0]
  sl_whnfR [defs₀, Defs.onTc]
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5]
  unfold outsAt
  iintro ⟨HΦ, Ho, ⟨%d0, H0⟩, ⟨%d1, H1⟩, ⟨%d2, H2⟩, ⟨%d3, H3⟩, ⟨%d4, H4⟩, ⟨%d5, H5⟩⟩
  iapply (point_wp c (grid0.coords t))
  isplitl [HΦ]; · iexact HΦ
  isplitl [H0]; · iexact H0
  isplitl [H1]; · iexact H1
  isplitl [H2]; · iexact H2
  isplitl [H3]; · iexact H3
  isplitl [H4]; · iexact H4
  isplitl [H5]; · iexists _; iexact H5
  iintro ⟨HΦ, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

-- the run's arguments are found by comparing its conclusion with this one, whose types name plain definitions
set_option backward.isDefEq.respectTransparency.types false in
/-- Every run ends, with each array at what the points left of it and every counter at zero. -/
theorem run_main : θ_run defs (onTc (τ := τ) (main (F := 𝔽))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

/-- Every run ends with the arguments as they were and every counter at zero. -/
theorem frame :
    θ_run defs (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Moba.RunI

end
-- ==== Proof.Moba.TextBits.lean ====
/-
  The attention kernel as `Kernel` prints it is the structured text at that program's constants.
-/
module

public import proofs.«01_k».proof.Kernel
public import proofs.«01_k».proof.Proof.Gen.Kernel
public import Idealize.ShloMosaic.PureOps.BitExact
public import proofs.«01_k».proof.Proof.Moba.Kernel
public import Idealize.ShloMosaic.Lib.Tactic.ProgEq

@[expose] public section

noncomputable section

namespace Moba

open Idealize.ShloMosaic Idealize.SL.Sem
open Cert.Kernel
open scoped Idealize.ShloMosaic.ProgEq

attribute [local instance] Cert.Kernel.Gen.facts

variable {F : FTy → Type} [FloatOps F] [Cert.KernelIdeal.Facts]

/-- The structured text at the program's signature and constants. -/
def kernelB (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2x32x2048 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x2048x128 .bf16) (harg8 : arg8.IsWhole) (arg9 : Memref sig .tc .vmem S2x512x512 .f32) (harg9 : arg9.IsWhole) (arg10 : Memref sig .tc .vmem S2x512x512 .f32) (harg10 : arg10.IsWhole) :
    Prog (TpuEff nD τ sig (Elt F) Λ₀ .tc) PUnit :=
  kernel (Scalar.ofBits .f32 0xF149F2CA#32) (Scalar.ofBits .f32 0x7149F2CA#32) i arg3 harg3 arg4 harg4 arg5 harg5 arg6 harg6 arg7 harg7 arg8 harg8 arg9 harg9 arg10 harg10

set_option maxRecDepth 100000 in
set_option maxHeartbeats 0 in
prog_eq Moba.kernelB_eq : Cert.Kernel.cc0_moba Moba.kernelB from Cert.Kernel to Cert.KernelIdeal at Bits inferInstance by intros; rfl

end Moba

end
-- ==== Proof.Moba.Soft.lean ====
/-
  A softmax taken in steps, on extended reals: a running maximum, and weighted sums that are scaled when the maximum grows.
-/
module

public import Idealize.ShloMosaic.PureOps.Ideal

@[expose] public section

noncomputable section

namespace Moba.Soft

open Idealize.ShloMosaic

theorem exp2_bot : Ideal.exp2 ⊥ = 0 := rfl
theorem exp2_coe (r : ℝ) : Ideal.exp2 (r : EReal) = ((Real.rpow 2 r : ℝ) : EReal) := rfl
theorem exp_bot : Ideal.exp ⊥ = 0 := rfl
theorem exp_coe (r : ℝ) : Ideal.exp (r : EReal) = ((Real.exp r : ℝ) : EReal) := rfl

/-- A non-negative real factor goes into a sum. -/
theorem mul_sum {ι : Type} (r : ℝ) (hr : 0 ≤ r) (s : Finset ι) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- A sum of reals is a real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A weight of the old maximum, scaled, is one of the new maximum. -/
theorem exp2_rescale {x m n : EReal} (hxm : x ≤ m) (hmn : m ≤ n) (hn : n ≠ ⊤) :
    Ideal.exp2 (m - n) * Ideal.exp2 (x - m) = Ideal.exp2 (x - n) := by
  induction x using EReal.rec with
  | bot => rw [EReal.bot_sub, EReal.bot_sub, exp2_bot, mul_zero]
  | top => exact absurd (top_le_iff.mp (hxm.trans hmn)) hn
  | coe x =>
    induction m using EReal.rec with
    | bot => exact absurd (le_bot_iff.mp hxm) (EReal.coe_ne_bot x)
    | top => exact absurd (top_le_iff.mp hmn) hn
    | coe m =>
      induction n using EReal.rec with
      | bot => exact absurd (le_bot_iff.mp hmn) (EReal.coe_ne_bot m)
      | top => exact absurd rfl hn
      | coe n =>
        rw [← EReal.coe_sub, ← EReal.coe_sub, ← EReal.coe_sub, exp2_coe, exp2_coe, exp2_coe, ← EReal.coe_mul]
        congr 1
        show (2 : ℝ) ^ (m - n) * (2 : ℝ) ^ (x - m) = (2 : ℝ) ^ (x - n)
        rw [← Real.rpow_add (by norm_num)]
        congr 1; ring

/-- The scale is a non-negative real. -/
theorem exp2_scale {m n : EReal} (hmn : m ≤ n) (hn : n ≠ ⊤) : ∃ r : ℝ, 0 ≤ r ∧ Ideal.exp2 (m - n) = (r : EReal) := by
  induction m using EReal.rec with
  | bot => exact ⟨0, le_refl _, by rw [EReal.bot_sub, exp2_bot]; rfl⟩
  | top => exact absurd (top_le_iff.mp hmn) hn
  | coe m =>
    induction n using EReal.rec with
    | bot => exact absurd (le_bot_iff.mp hmn) (EReal.coe_ne_bot m)
    | top => exact absurd rfl hn
    | coe n => exact ⟨Real.rpow 2 (m - n), Real.rpow_nonneg (by norm_num) _, by rw [← EReal.coe_sub, exp2_coe]⟩

/-- A weighted sum of the old maximum, scaled, is one of the new maximum. -/
theorem sum_rescale {ι : Type} {s : Finset ι} {x v : ι → EReal} {m n : EReal} (hx : ∀ k ∈ s, x k ≤ m) (hmn : m ≤ n) (hn : n ≠ ⊤) :
    Ideal.exp2 (m - n) * ∑ k ∈ s, Ideal.exp2 (x k - m) * v k = ∑ k ∈ s, Ideal.exp2 (x k - n) * v k := by
  obtain ⟨r, hr, e⟩ := exp2_scale hmn hn
  rw [e, mul_sum r hr, ← e]
  refine Finset.sum_congr rfl fun k hk => ?_
  rw [← mul_assoc, exp2_rescale (hx k hk) hmn hn]

/-- The weight of a key in a block that is on, or off. -/
theorem exp2_off {x n : EReal} (hx : x ≠ ⊤) (c : Prop) [Decidable c] :
    Ideal.exp2 (x - if c then n else ⊤) = Ideal.exp2 ((if c then x else ⊥) - n) := by
  split
  · rfl
  · rw [EReal.bot_sub]
    induction x using EReal.rec with
    | bot => rw [EReal.bot_sub]
    | top => exact absurd rfl hx
    | coe x => rfl

/-- The greatest of the first `n + c`. -/
theorem sup_range_add (n c : ℕ) (x : ℕ → EReal) :
    (Finset.range (n + c)).sup x = max ((Finset.range n).sup x) (Finset.univ.sup fun k : Fin c => x (n + k.val)) := by
  apply le_antisymm
  · refine Finset.sup_le fun k hk => ?_
    rw [Finset.mem_range] at hk
    by_cases h : k < n
    · exact le_max_of_le_left (Finset.le_sup (f := x) (Finset.mem_range.mpr h))
    · refine le_max_of_le_right ?_
      have := Finset.le_sup (f := fun k : Fin c => x (n + k.val)) (Finset.mem_univ (⟨k - n, by omega⟩ : Fin c))
      simpa [show n + (k - n) = k by omega] using this
  · refine max_le (Finset.sup_mono (Finset.range_subset_range.mpr (by omega))) (Finset.sup_le fun k _ => ?_)
    exact Finset.le_sup (f := x) (Finset.mem_range.mpr (by omega))

theorem sum_range_add (n c : ℕ) (f : ℕ → EReal) :
    ∑ k ∈ Finset.range (n + c), f k = (∑ k ∈ Finset.range n, f k) + ∑ k : Fin c, f (n + k.val) := by
  rw [Finset.sum_range_add, ← Fin.sum_univ_eq_sum_range (fun i => f (n + i)) c]

/-- The running maximum over the first `n` keys. -/
abbrev top (x : ℕ → EReal) (n : ℕ) : EReal := (Finset.range n).sup x

/-- The weighted sum over the first `n` keys. -/
abbrev wsum (x v : ℕ → EReal) (n : ℕ) : EReal := ∑ k ∈ Finset.range n, Ideal.exp2 (x k - top x n) * v k

theorem top_ne (x : ℕ → EReal) (hx : ∀ k, x k ≠ ⊤) (n : ℕ) : top x n ≠ ⊤ := by
  refine ne_of_lt ((Finset.sup_lt_iff (by exact bot_lt_top)).mpr fun k _ => lt_top_iff_ne_top.mpr (hx k))

/-- One step over two blocks of 256 keys. -/
theorem wsum_step (x v : ℕ → EReal) (hx : ∀ k, x k ≠ ⊤) (n : ℕ) :
    Ideal.exp2 (top x n - top x (n + 512)) * wsum x v n
      + ((∑ k : Fin 256, Ideal.exp2 (x (n + k.val) - top x (n + 512)) * v (n + k.val))
        + ∑ k : Fin 256, Ideal.exp2 (x (n + 256 + k.val) - top x (n + 512)) * v (n + 256 + k.val)) = wsum x v (n + 512) := by
  have hmn : top x n ≤ top x (n + 512) := Finset.sup_mono (Finset.range_subset_range.mpr (by omega))
  unfold wsum
  rw [sum_rescale (fun k hk => Finset.le_sup (f := x) hk) hmn (top_ne x hx _), show n + 512 = n + 256 + 256 from rfl, sum_range_add, sum_range_add]
  exact (add_assoc _ _ _).symm

theorem top_step (x : ℕ → EReal) (n : ℕ) :
    max (max (top x n) (Finset.univ.sup fun k : Fin 256 => x (n + k.val))) (Finset.univ.sup fun k : Fin 256 => x (n + 256 + k.val)) = top x (n + 512) := by
  rw [show n + 512 = n + 256 + 256 from rfl, top, top, sup_range_add, sup_range_add]

/-- The reference's score of a key, and the kernel's, which is it in the exponents of two. -/
def sc (on : ℕ → Prop) [DecidablePred on] (r : ℕ → ℝ) (k : ℕ) : EReal := if on k then (r k : EReal) else ⊥
def sc2 (on : ℕ → Prop) [DecidablePred on] (r : ℕ → ℝ) (k : ℕ) : EReal := if on k then ((r k / Real.log 2 : ℝ) : EReal) else ⊥

section Final

variable (on : ℕ → Prop) [DecidablePred on] (r : ℕ → ℝ)

theorem sc2_ne (k : ℕ) : sc2 on r k ≠ ⊤ := by unfold sc2; split <;> simp

/-- The two maxima, where some key is on. -/
theorem tops {n : ℕ} (h : ∃ k < n, on k) :
    ∃ R : ℝ, (Finset.range n).sup (sc on r) = (R : EReal) ∧ top (sc2 on r) n = ((R / Real.log 2 : ℝ) : EReal) := by
  obtain ⟨k0, hk0, ho⟩ := h
  have hl : 0 < Real.log 2 := Real.log_pos (by norm_num)
  obtain ⟨k, hk, e⟩ := Finset.exists_mem_eq_sup (Finset.range n) ⟨k0, Finset.mem_range.mpr hk0⟩ (sc on r)
  have h0 : sc on r k0 ≤ sc on r k := e ▸ Finset.le_sup (f := sc on r) (Finset.mem_range.mpr hk0)
  have hon : on k := by
    by_contra hn
    rw [sc, sc, if_pos ho, if_neg hn] at h0
    exact EReal.coe_ne_bot _ (le_bot_iff.mp h0)
  refine ⟨r k, by rw [e, sc, if_pos hon], le_antisymm (Finset.sup_le fun j hj => ?_) ?_⟩
  · have hj' : sc on r j ≤ sc on r k := e ▸ Finset.le_sup (f := sc on r) hj
    unfold sc2
    split
    · rename_i hoj
      rw [sc, sc, if_pos hoj, if_pos hon] at hj'
      exact EReal.coe_le_coe_iff.mpr (div_le_div_of_nonneg_right (EReal.coe_le_coe_iff.mp hj') hl.le)
    · exact bot_le
  · have := Finset.le_sup (f := sc2 on r) hk
    rwa [sc2, if_pos hon] at this

/-- A key's weight. -/
def wt (R : ℝ) (k : ℕ) : ℝ := if on k then Real.exp (r k - R) else 0

theorem exp_sc (R : ℝ) (k : ℕ) : Ideal.exp (sc on r k - (R : EReal)) = (wt on r R k : EReal) := by
  unfold sc wt
  split
  · rw [← EReal.coe_sub, exp_coe]
  · rw [EReal.bot_sub, exp_bot]; rfl

theorem exp2_sc2 (R : ℝ) (k : ℕ) : Ideal.exp2 (sc2 on r k - ((R / Real.log 2 : ℝ) : EReal)) = (wt on r R k : EReal) := by
  unfold sc2 wt
  split
  · rw [← EReal.coe_sub, exp2_coe]
    congr 1
    show (2 : ℝ) ^ (r k / Real.log 2 - R / Real.log 2) = Real.exp (r k - R)
    rw [Real.rpow_def_of_pos (by norm_num)]
    congr 1
    have : Real.log 2 ≠ 0 := (Real.log_pos (by norm_num)).ne'
    field_simp
  · rw [EReal.bot_sub, exp2_bot]; rfl

/-- The kernel's quotient is the reference's sum, where some key is on and none from `n` on. -/
theorem quotient {n N : ℕ} (hnN : n ≤ N) (h : ∃ k < n, on k) (hoff : ∀ k, n ≤ k → ¬ on k) (v : ℕ → EReal) :
    Ideal.div (wsum (sc2 on r) v n) (wsum (sc2 on r) (fun _ => 1) n)
      = ∑ k : Fin N, v k.val * Ideal.div (Ideal.exp (sc on r k.val - Finset.univ.sup fun j : Fin N => sc on r j.val))
          (∑ j : Fin N, Ideal.exp (sc on r j.val - Finset.univ.sup fun j : Fin N => sc on r j.val)) := by
  obtain ⟨R, e1, e2⟩ := tops on r h
  have hN : (Finset.univ.sup fun j : Fin N => sc on r j.val) = (R : EReal) := by
    have := sup_range_add 0 N (sc on r)
    simp only [Finset.range_zero, Finset.sup_empty, zero_add, bot_le, sup_of_le_right] at this
    rw [← this, ← e1]
    apply le_antisymm
    · refine Finset.sup_le fun k hk => ?_
      by_cases hkn : k < n
      · exact Finset.le_sup (f := sc on r) (Finset.mem_range.mpr hkn)
      · rw [sc, if_neg (hoff k (by omega))]; exact bot_le
    · exact Finset.sup_mono (Finset.range_subset_range.mpr hnN)
  have hz : ∀ (g : ℕ → EReal), ∑ k ∈ Finset.range n, (wt on r R k : EReal) * g k = ∑ k : Fin N, (wt on r R k.val : EReal) * g k.val := fun g => by
    rw [Fin.sum_univ_eq_sum_range (fun k => (wt on r R k : EReal) * g k) N]
    refine Finset.sum_subset (Finset.range_subset_range.mpr hnN) fun k _ hk => ?_
    rw [wt, if_neg (hoff k (by simpa using hk))]; simp
  obtain ⟨k0, hk0, ho⟩ := h
  have hL : 0 < ∑ j : Fin N, wt on r R j.val :=
    Finset.sum_pos' (fun j _ => by unfold wt; split; exacts [(Real.exp_pos _).le, le_refl _])
      ⟨⟨k0, by omega⟩, Finset.mem_univ _, by rw [wt, if_pos ho]; exact Real.exp_pos _⟩
  unfold wsum
  rw [hN, e2]
  simp only [exp2_sc2, exp_sc]
  rw [hz v, hz fun _ => 1]
  simp only [mul_one]
  rw [← coe_sum]
  generalize (∑ j : Fin N, wt on r R j.val) = L at hL
  rw [Ideal.div_coe hL.ne', mul_comm, mul_sum _ (by positivity)]
  refine Finset.sum_congr rfl fun k _ => ?_
  rw [Ideal.div_coe hL.ne', mul_comm (_ : EReal) (v k.val), mul_comm, mul_assoc]

end Final

end Moba.Soft

end
-- ==== Proof.Moba.Read.lean ====
/-
  The attention kernel's vectors read at an index, over the extended reals.
-/
module

public import proofs.«01_k».proof.Proof.Moba.Value
public import proofs.«01_k».proof.Proof.Moba.Soft
public import Idealize.ShloMosaic.Lib.Pointwise
public import Idealize.ShloMosaic.PureOps.Ideal.Laws
public import Idealize.ShloMosaic.Lib.WordCmp

@[expose] public section

set_option maxRecDepth 16384

noncomputable section

namespace Moba

open Idealize.ShloMosaic
open Cert.KernelIdeal

variable [Cert.KernelIdeal.Facts]

local notation "𝔽" => Idealize.ShloMosaic.Ideal

/-- A small natural as a signed word. -/
theorem toInt_small (n : Nat) (h : n < 2 ^ 31) : (BitVec.ofNat 32 n).toInt = n := by
  rw [BitVec.toInt_eq_toNat_of_lt] <;> simp only [BitVec.toNat_ofNat] <;> omega

theorem sle_small (a b : Nat) (ha : a < 2 ^ 31) (hb : b < 2 ^ 31) :
    IntOp.cmpi .sle (BitVec.ofNat 32 a) (BitVec.ofNat 32 b) = BitVec.ofBool (decide (a ≤ b)) := by
  rw [WordCmp.cmpi_sle_eq, toInt_small a ha, toInt_small b hb]; simp

theorem sge_small (a b : Nat) (ha : a < 2 ^ 31) (hb : b < 2 ^ 31) :
    IntOp.cmpi .sge (BitVec.ofNat 32 a) (BitVec.ofNat 32 b) = BitVec.ofBool (decide (b ≤ a)) := by
  show BitVec.ofBool (decide ((BitVec.ofNat 32 b).toInt ≤ (BitVec.ofNat 32 a).toInt)) = _
  rw [toInt_small a ha, toInt_small b hb]; simp

theorem slt_small (a b : Nat) (ha : a < 2 ^ 31) (hb : b < 2 ^ 31) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_small a ha, toInt_small b hb]; simp

theorem half_eq : Ideal.ofBits .f32 0x3F000000#32 = ((1 / 2 : ℝ) : EReal) := by
  simp [Ideal.ofBits, Ideal.ieee, -EReal.coe_mul]; norm_num

theorem ninf_eq : Ideal.ofBits .f32 0xFF800000#32 = ⊥ := by
  simp [Ideal.ofBits, Ideal.ieee]

/-- One half. -/
abbrev hf : EReal := Ideal.ofBits .f32 0x3F000000#32

theorem rowV_apply (S : S1x2x32x2048.Idx → EReal) (h : Fin 2) (g : Nat) (s : Fin 2) (t : Fin 4) (c : Fin 512) :
    rowV (F := 𝔽) S (offS h g s t) (inS h g s t) (ix2 0 c)
      = S (ix4 0 h ⟨2 * (g % 16) + s.val, by omega⟩ ⟨512 * t.val + c.val, by omega⟩) := by
  pointwise [rowV, offS]
  refine congrArg S (funext fun a => Fin.ext ?_)
  refine (Rect.emb_apply _ _ _).trans ?_
  fin_cases a <;> simp [Rect.unit, ix4]

theorem rowsV_apply (K : S1x8192x128.Idx → EReal) (g : Nat) (k : Fin 512) (d : Fin 128) :
    rowsV (F := 𝔽) K (offK g) (inK g) (ix2 k d) = K (ix3 0 ⟨512 * (g % 16) + k.val, by omega⟩ d) := by
  pointwise [rowsV, offK]
  refine congrArg K (funext fun a => Fin.ext ?_)
  refine (Rect.emb_apply _ _ _).trans ?_
  fin_cases a <;> simp [Rect.unit, ix3]

theorem valTV_apply (K : S1x8192x128.Idx → EReal) (g : Nat) (k : Fin 512) (d : Fin 128) :
    valTV (F := 𝔽) K (offK g) (inK g) (ix2 d k) = K (ix3 0 ⟨512 * (g % 16) + k.val, by omega⟩ d) := by
  pointwise [valTV]
  exact rowsV_apply K g k d

theorem tile_lo (K : S1x8192x128.Idx → EReal) (q : FVec 𝔽 S512x128 .bf16) (g : Nat) (k : Fin 256) (c : Fin 512) :
    tileV (F := 𝔽) K q (offK g) (inK g) ![0, 0] sl_lo (ix2 k c)
      = ∑ d : Fin 128, K (ix3 0 ⟨512 * (g % 16) + k.val, by omega⟩ d) * q (ix2 c d) := by
  pointwise [tileV]
  simp only [rowsV_apply]

theorem tile_hi (K : S1x8192x128.Idx → EReal) (q : FVec 𝔽 S512x128 .bf16) (g : Nat) (k : Fin 256) (c : Fin 512) :
    tileV (F := 𝔽) K q (offK g) (inK g) ![256, 0] sl_hi (ix2 k c)
      = ∑ d : Fin 128, K (ix3 0 ⟨512 * (g % 16) + 256 + k.val, by omega⟩ d) * q (ix2 c d) := by
  pointwise [tileV]
  simp only [rowsV_apply, ← add_assoc]

theorem tmaxV_apply (t : FVec 𝔽 S256x512 .f32) (c : Fin 512) :
    tmaxV (F := 𝔽) t (ix2 0 c) = Finset.univ.sup fun k : Fin 256 => t (ix2 k c) := by
  pointwise [tmaxV]
  rw [ninf_eq]; rfl

theorem maxV_apply (m s0 s1 x0 x1 : FVec 𝔽 S1x512 .f32) (c : Fin 512) :
    maxV (F := 𝔽) ⊥ m s0 s1 x0 x1 (ix2 0 c) = max (max (m (ix2 0 c)) (if hf < s0 (ix2 0 c) then x0 (ix2 0 c) else ⊥))
      (if hf < s1 (ix2 0 c) then x1 (ix2 0 c) else ⊥) := by
  pointwise [maxV, onV]

theorem weightV_apply (t : FVec 𝔽 S256x512 .f32) (s n : FVec 𝔽 S1x512 .f32) (k : Fin 256) (c : Fin 512) :
    weightV (F := 𝔽) ⊤ t s n (ix2 k c) = Ideal.exp2 (t (ix2 k c) - if hf < s (ix2 0 c) then n (ix2 0 c) else ⊤) := by
  pointwise [weightV, onV]
  rfl

section Sums

variable (ones : FVec 𝔽 S16x256 .bf16) (vt : FVec 𝔽 S128x512 .bf16) (p : FVec 𝔽 S256x512 .bf16) (d : Fin 64) (c : Fin 512)

theorem sum00 : sumsV (F := 𝔽) ones vt ![0, 0] sl_v00 p (ix2 64 c) = ∑ k : Fin 256, ones (ix2 0 k) * p (ix2 k c) := by pointwise [sumsV]
theorem sum01 : sumsV (F := 𝔽) ones vt ![0, 256] sl_v01 p (ix2 64 c) = ∑ k : Fin 256, ones (ix2 0 k) * p (ix2 k c) := by pointwise [sumsV]
theorem sum10 : sumsV (F := 𝔽) ones vt ![64, 0] sl_v10 p (ix2 64 c) = ∑ k : Fin 256, ones (ix2 0 k) * p (ix2 k c) := by pointwise [sumsV]
theorem sum11 : sumsV (F := 𝔽) ones vt ![64, 256] sl_v11 p (ix2 64 c) = ∑ k : Fin 256, ones (ix2 0 k) * p (ix2 k c) := by pointwise [sumsV]

theorem acc00 : sumsV (F := 𝔽) ones vt ![0, 0] sl_v00 p (ix2 ⟨d.val, by omega⟩ c)
    = ∑ k : Fin 256, vt (ix2 ⟨d.val, by omega⟩ ⟨k.val, by omega⟩) * p (ix2 k c) := by pointwise [sumsV]
theorem acc01 : sumsV (F := 𝔽) ones vt ![0, 256] sl_v01 p (ix2 ⟨d.val, by omega⟩ c)
    = ∑ k : Fin 256, vt (ix2 ⟨d.val, by omega⟩ ⟨256 + k.val, by omega⟩) * p (ix2 k c) := by pointwise [sumsV]
theorem acc10 : sumsV (F := 𝔽) ones vt ![64, 0] sl_v10 p (ix2 ⟨d.val, by omega⟩ c)
    = ∑ k : Fin 256, vt (ix2 ⟨64 + d.val, by omega⟩ ⟨k.val, by omega⟩) * p (ix2 k c) := by pointwise [sumsV]
theorem acc11 : sumsV (F := 𝔽) ones vt ![64, 256] sl_v11 p (ix2 ⟨d.val, by omega⟩ c)
    = ∑ k : Fin 256, vt (ix2 ⟨64 + d.val, by omega⟩ ⟨256 + k.val, by omega⟩) * p (ix2 k c) := by pointwise [sumsV]

end Sums

theorem lV_apply (m n l : FVec 𝔽 S1x512 .f32) (w : FVec 𝔽 S80x512 .f32) (c : Fin 512) :
    lV (F := 𝔽) m n l w (ix2 0 c) = Ideal.exp2 (m (ix2 0 c) - n (ix2 0 c)) * l (ix2 0 c) + w (ix2 64 c) := by
  pointwise [lV]
  rfl

theorem aV_apply (m n : FVec 𝔽 S1x512 .f32) (a : FVec 𝔽 S64x512 .f32) (w : FVec 𝔽 S80x512 .f32) (d : Fin 64) (c : Fin 512) :
    aV (F := 𝔽) m n a w (ix2 d c) = Ideal.exp2 (m (ix2 0 c) - n (ix2 0 c)) * a (ix2 d c) + w (ix2 ⟨d.val, by omega⟩ c) := by
  pointwise [aV]
  rfl

theorem second_apply (x y : FVec 𝔽 S1x512 .f32) (c : Fin 512) : select secondV x y (ix2 0 c) = if 256 ≤ c.val then x (ix2 0 c) else y (ix2 0 c) := by
  pointwise [secondV]
  rw [sge_small _ _ (by omega) (by omega), WordCmp.select_ofBool]; simp

section Masked

variable (T : Tiles 𝔽) (k : Fin 256) (c : Fin 512)

theorem masked00 : (maskedV (F := 𝔽) ⊥ T).t00 (ix2 k c) = if k.val ≤ c.val then T.t00 (ix2 k c) else ⊥ := by
  pointwise [maskedV, causalV]
  rw [sle_small _ _ (by omega) (by omega), WordCmp.select_ofBool]; simp
theorem masked01 : (maskedV (F := 𝔽) ⊥ T).t01 (ix2 k c) = if 256 + k.val ≤ c.val then T.t01 (ix2 k c) else ⊥ := by
  pointwise [maskedV, causalV]
  rw [sle_small _ _ (by omega) (by omega), WordCmp.select_ofBool]; simp
theorem masked10 : (maskedV (F := 𝔽) ⊥ T).t10 (ix2 k c) = if k.val ≤ c.val then T.t10 (ix2 k c) else ⊥ := by
  pointwise [maskedV, causalV]
  rw [sle_small _ _ (by omega) (by omega), WordCmp.select_ofBool]; simp
theorem masked11 : (maskedV (F := 𝔽) ⊥ T).t11 (ix2 k c) = if 256 + k.val ≤ c.val then T.t11 (ix2 k c) else ⊥ := by
  pointwise [maskedV, causalV]
  rw [sle_small _ _ (by omega) (by omega), WordCmp.select_ofBool]; simp

end Masked

theorem query0_apply (q : FVec 𝔽 S512x128 .bf16) (c : Fin 512) (d : Fin 128) :
    query0V (F := 𝔽) q (ix2 c d) = if d.val < 64 then q (ix2 c d) else 0 := by
  pointwise [query0V]
  rw [slt_small _ _ (by omega) (by omega), WordCmp.select_ofBool]; simp

theorem query1_apply (q : FVec 𝔽 S512x128 .bf16) (c : Fin 512) (d : Fin 128) :
    query1V (F := 𝔽) q (ix2 c d) = if 64 ≤ d.val then q (ix2 c d) else 0 := by
  pointwise [query1V]
  rw [sge_small _ _ (by omega) (by omega), WordCmp.select_ofBool]; simp

/-- The gate of one element. -/
def gate (z : EReal) : EReal := z * (hf * Ideal.tanh (hf * z) + hf)

theorem result0 (z : FVec 𝔽 S512x128 .bf16) (A : Acc 𝔽) (c : Fin 512) (d : Fin 64) :
    resultV (F := 𝔽) z A (ix2 c ⟨d.val, by omega⟩) = Ideal.div (A.a0 (ix2 d c)) (A.l0 (ix2 0 c)) * gate (z (ix2 c ⟨d.val, by omega⟩)) := by
  pointwise [resultV, gateV]
  rfl

theorem result1 (z : FVec 𝔽 S512x128 .bf16) (A : Acc 𝔽) (c : Fin 512) (d : Fin 64) :
    resultV (F := 𝔽) z A (ix2 c ⟨64 + d.val, by omega⟩) = Ideal.div (A.a1 (ix2 d c)) (A.l1 (ix2 0 c)) * gate (z (ix2 c ⟨64 + d.val, by omega⟩)) := by
  pointwise [resultV, gateV]
  rfl

theorem qrows_apply (Q : S1x2048x128.Idx → EReal) (t : Fin 4) (c : Fin 512) (d : Fin 128) :
    qrowsV (F := 𝔽) Q (offQ t) (inQ t) (ix2 c d) = Q (ix3 0 ⟨512 * t.val + c.val, by omega⟩ d) := by
  pointwise [qrowsV, offQ]
  refine congrArg Q (funext fun a => Fin.ext ?_)
  refine (Rect.emb_apply _ _ _).trans ?_
  fin_cases a <;> simp [Rect.unit, ix3]

end Moba

end
-- ==== Proof.Moba.Blocks.lean ====
/-
  The attention kernel's operands at an index: the packed array's columns, and the blocks the grid's points read.
-/
module

public import proofs.«01_k».proof.Proof.Moba.Read
public import proofs.«01_k».proof.Proof.Gen.KernelIdeal
public import proofs.«01_k».proof.Proof.Gen.KernelIdeal.Frame
public import Idealize.ShloMosaic.Lib.Pipeline.ValueKit

@[expose] public section

set_option maxRecDepth 16384

noncomputable section

namespace Moba.Blk

open Idealize.ShloMosaic Idealize.ShloMosaic.TcCoe
open Cert.KernelIdeal Cert.KernelIdeal.Gen

local notation "𝔽" => Idealize.ShloMosaic.Ideal

variable (m : (ℓ : Loc nD τ sig) → Buf (Elt 𝔽) ℓ)

theorem idx0 : ∀ t : Fin cfg0.N, win0_0.index t = ![(grid0.coords t 0).val, (grid0.coords t 2).val, 16 + (grid0.coords t 1).val] :=
  (by decide +kernel : ∀ t : Fin grid0.N, _)
theorem idx1 : ∀ t : Fin cfg0.N, win0_1.index t = ![(grid0.coords t 0).val, (grid0.coords t 2).val, 28 + (grid0.coords t 1).val] :=
  (by decide +kernel : ∀ t : Fin grid0.N, _)
theorem idx2 : ∀ t : Fin cfg0.N, win0_2.index t = ![(grid0.coords t 0).val, (grid0.coords t 1).val, 0, (grid0.coords t 2).val] :=
  (by decide +kernel : ∀ t : Fin grid0.N, _)
theorem idx3 : ∀ t : Fin cfg0.N, win0_3.index t = ![(grid0.coords t 0).val, 0, 20 + (grid0.coords t 1).val] :=
  (by decide +kernel : ∀ t : Fin grid0.N, _)
theorem idx4 : ∀ t : Fin cfg0.N, win0_4.index t = ![(grid0.coords t 0).val, 0, 24 + (grid0.coords t 1).val] :=
  (by decide +kernel : ∀ t : Fin grid0.N, _)
theorem idx5 : ∀ t : Fin cfg0.N, win0_5.index t = ![(grid0.coords t 0).val, (grid0.coords t 2).val, (grid0.coords t 1).val] :=
  (by decide +kernel : ∀ t : Fin grid0.N, _)

/-- What the queries are multiplied by on the host. -/
def qs : EReal := Ideal.div (Ideal.ofBits .f32 0x3E000000#32) (Ideal.log (Ideal.ofBits .f32 0x40000000#32))

/-- The launched arguments. -/
abbrev aq (c : Dev nD) : FVec 𝔽 S4x8192x512 .f32 := m ((c : Thread nD τ).loc main_arg0)
abbrev ak (c : Dev nD) : FVec 𝔽 S4x8192x512 .f32 := m ((c : Thread nD τ).loc main_arg1)
abbrev av (c : Dev nD) : FVec 𝔽 S4x8192x512 .f32 := m ((c : Thread nD τ).loc main_arg2)
abbrev az (c : Dev nD) : FVec 𝔽 S4x8192x512 .f32 := m ((c : Thread nD τ).loc main_arg3)
abbrev asel (c : Dev nD) : FVec 𝔽 S4x8x32x8192 .f32 := m ((c : Thread nD τ).loc main_arg4)

/-- The packed array as one expression of the arguments. -/
def uV (q k v z : FVec 𝔽 S4x8192x512 .f32) : FVec 𝔽 S4x8192x7424 .bf16 :=
  truncf .bf16 (concatenate S4x8192x7424 2
    [⟨S4x8192x2048, broadcastInDim S4x8192x2048 ![] bcast_S_S4x8192x2048 (constant S_ .f32 0x00000000#32)⟩,
     ⟨S4x8192x512, mulf q (broadcastInDim S4x8192x512 ![] bcast_S_S4x8192x512
        (Host.divf (constant S_ .f32 0x3E000000#32) (Host.log (constant S_ .f32 0x40000000#32))))⟩,
     ⟨S4x8192x512, k⟩, ⟨S4x8192x512, v⟩, ⟨S4x8192x512, z⟩,
     ⟨S4x8192x3328, broadcastInDim S4x8192x3328 ![] bcast_S_S4x8192x3328 (constant S_ .f32 0x00000000#32)⟩] concatenates_S4x8192x2048_S4x8192x512_S4x8192x512_S4x8192x512_S4x8192x512_S4x8192x3328_S4x8192x7424_d2) bitsLt_bf16_f32

theorem V_u (c : Dev nD) : V m c main_v7 = uV (aq m c) (ak m c) (av m c) (az m c) := by
  show StableHlo.after hostOps0 _ _ = _
  after_results
  rfl

theorem u_q (q k v z : FVec 𝔽 S4x8192x512 .f32) (b : Fin 4) (s : Fin 8192) (e : Fin 512) :
    uV q k v z (ix3 b s ⟨2048 + e.val, by omega⟩) = q (ix3 b s e) * qs := by
  pointwise [uV, qs]

theorem u_k (q k v z : FVec 𝔽 S4x8192x512 .f32) (b : Fin 4) (s : Fin 8192) (e : Fin 512) :
    uV q k v z (ix3 b s ⟨2560 + e.val, by omega⟩) = k (ix3 b s e) := by
  pointwise [uV]
  rw [dif_neg (by omega)]
  rw [dif_neg (by omega)]
  rw [dif_pos (by omega)]
  have h : ∀ hp, (⟨2560 + e.val - 2048 - 512, hp⟩ : Fin 512) = e := fun _ => Fin.ext (by dsimp only; omega)
  rw [h]

theorem u_v (q k v z : FVec 𝔽 S4x8192x512 .f32) (b : Fin 4) (s : Fin 8192) (e : Fin 512) :
    uV q k v z (ix3 b s ⟨3072 + e.val, by omega⟩) = v (ix3 b s e) := by
  pointwise [uV]
  rw [dif_neg (by omega)]
  rw [dif_neg (by omega)]
  rw [dif_neg (by omega)]
  rw [dif_pos (by omega)]
  have h : ∀ hp, (⟨3072 + e.val - 2048 - 512 - 512, hp⟩ : Fin 512) = e := fun _ => Fin.ext (by dsimp only; omega)
  rw [h]

theorem u_z (q k v z : FVec 𝔽 S4x8192x512 .f32) (b : Fin 4) (s : Fin 8192) (e : Fin 512) :
    uV q k v z (ix3 b s ⟨3584 + e.val, by omega⟩) = z (ix3 b s e) := by
  pointwise [uV]
  rw [dif_neg (by omega)]
  rw [dif_neg (by omega)]
  rw [dif_neg (by omega)]
  rw [dif_neg (by omega)]
  rw [dif_pos (by omega)]
  have h : ∀ hp, (⟨3584 + e.val - 2048 - 512 - 512 - 512, hp⟩ : Fin 512) = e := fun _ => Fin.ext (by dsimp only; omega)
  rw [h]

section Block

variable (c : Dev nD) (t : Fin cfg0.N) (b p j : Fin 4)

theorem q_block (hb : (grid0.coords t 0).val = b.val) (hp : (grid0.coords t 1).val = p.val) (hj : (grid0.coords t 2).val = j.val)
    (r : Fin 2048) (d : Fin 128) :
    iblk m c 0 t (ix3 0 r d) = aq m c (ix3 b ⟨2048 * j.val + r.val, by omega⟩ ⟨128 * p.val + d.val, by omega⟩) * qs := by
  rw [← u_q (aq m c) (ak m c) (av m c) (az m c)]
  show V m c main_v7 _ = _
  rw [V_u]
  refine congrArg (uV _ _ _ _) ?_
  funext a; apply Fin.ext
  fin_cases a <;> blk_simp [idx0, hb, hp, hj] <;> simp [ix3] <;> omega

theorem z_block (hb : (grid0.coords t 0).val = b.val) (hp : (grid0.coords t 1).val = p.val) (hj : (grid0.coords t 2).val = j.val)
    (r : Fin 2048) (d : Fin 128) :
    iblk m c 1 t (ix3 0 r d) = az m c (ix3 b ⟨2048 * j.val + r.val, by omega⟩ ⟨128 * p.val + d.val, by omega⟩) := by
  rw [← u_z (aq m c) (ak m c) (av m c) (az m c)]
  show V m c main_v7 _ = _
  rw [V_u]
  refine congrArg (uV _ _ _ _) ?_
  funext a; apply Fin.ext
  fin_cases a <;> blk_simp [idx1, hb, hp, hj] <;> simp [ix3] <;> omega

theorem k_block (hb : (grid0.coords t 0).val = b.val) (hp : (grid0.coords t 1).val = p.val) (r : Fin 8192) (d : Fin 128) :
    iblk m c 3 t (ix3 0 r d) = ak m c (ix3 b r ⟨128 * p.val + d.val, by omega⟩) := by
  rw [← u_k (aq m c) (ak m c) (av m c) (az m c)]
  show V m c main_v7 _ = _
  rw [V_u]
  refine congrArg (uV _ _ _ _) ?_
  funext a; apply Fin.ext
  fin_cases a <;> blk_simp [idx3, hb, hp] <;> simp [ix3] <;> omega

theorem v_block (hb : (grid0.coords t 0).val = b.val) (hp : (grid0.coords t 1).val = p.val) (r : Fin 8192) (d : Fin 128) :
    iblk m c 4 t (ix3 0 r d) = av m c (ix3 b r ⟨128 * p.val + d.val, by omega⟩) := by
  rw [← u_v (aq m c) (ak m c) (av m c) (az m c)]
  show V m c main_v7 _ = _
  rw [V_u]
  refine congrArg (uV _ _ _ _) ?_
  funext a; apply Fin.ext
  fin_cases a <;> blk_simp [idx4, hb, hp] <;> simp [ix3] <;> omega

theorem sel_block (hb : (grid0.coords t 0).val = b.val) (hp : (grid0.coords t 1).val = p.val) (hj : (grid0.coords t 2).val = j.val)
    (h : Fin 2) (k : Fin 32) (r : Fin 2048) :
    iblk m c 2 t (ix4 0 h k r) = asel m c (ix4 b ⟨2 * p.val + h.val, by omega⟩ k ⟨2048 * j.val + r.val, by omega⟩) := by
  show V m c main_arg4 _ = _
  rw [V_main_arg4]
  refine congrArg (asel m c) ?_
  funext a; apply Fin.ext
  fin_cases a <;> blk_simp [idx2, hb, hp, hj] <;> simp [ix4] <;> omega

end Block

end Moba.Blk

end
-- ==== Proof.Moba.Lane.lean ====
/-
  One query of a tile, head by head: what the steps over the groups of keys leave is the softmax's maximum, sum and weighted sum.
-/
module

public import proofs.«01_k».proof.Proof.Moba.Read

@[expose] public section

set_option maxRecDepth 16384

noncomputable section

namespace Moba

open Idealize.ShloMosaic
open Cert.KernelIdeal
open Soft

variable [Cert.KernelIdeal.Facts]

local notation "𝔽" => Idealize.ShloMosaic.Ideal

/-- Head 0 of query `c` after the first `n` keys. -/
structure Lane0 (A : Acc 𝔽) (c : Fin 512) (x : ℕ → EReal) (v : Fin 64 → ℕ → EReal) (n : ℕ) : Prop where
  m : A.m0 (ix2 0 c) = top x n
  l : A.l0 (ix2 0 c) = wsum x (fun _ => 1) n
  a : ∀ d : Fin 64, A.a0 (ix2 d c) = wsum x (v d) n

/-- Head 1 of query `c` after the first `n` keys. -/
structure Lane1 (A : Acc 𝔽) (c : Fin 512) (x : ℕ → EReal) (v : Fin 64 → ℕ → EReal) (n : ℕ) : Prop where
  m : A.m1 (ix2 0 c) = top x n
  l : A.l1 (ix2 0 c) = wsum x (fun _ => 1) n
  a : ∀ d : Fin 64, A.a1 (ix2 d c) = wsum x (v d) n

theorem sup_off (p : Prop) [Decidable p] (f : Fin 256 → EReal) :
    (if p then Finset.univ.sup f else ⊥) = Finset.univ.sup fun k => if p then f k else ⊥ := by
  split
  · rfl
  · exact (le_bot_iff.mp (Finset.sup_le fun _ _ => le_refl _)).symm

/-- A block's scores are the keys' from `n` on: where the block is off, none counts. -/
def Block (t : FVec 𝔽 S256x512 .f32) (s : FVec 𝔽 S1x512 .f32) (c : Fin 512) (x : ℕ → EReal) (n : ℕ) : Prop :=
  ∀ k : Fin 256, t (ix2 k c) ≠ ⊤ ∧ x (n + k.val) = if hf < s (ix2 0 c) then t (ix2 k c) else ⊥

theorem max_step {m s0 s1 : FVec 𝔽 S1x512 .f32} {t0 t1 : FVec 𝔽 S256x512 .f32} {c : Fin 512} {x : ℕ → EReal} {n : ℕ}
    (hm : m (ix2 0 c) = top x n) (h0 : Block t0 s0 c x n) (h1 : Block t1 s1 c x (n + 256)) :
    maxV (F := 𝔽) ⊥ m s0 s1 (tmaxV t0) (tmaxV t1) (ix2 0 c) = top x (n + 512) := by
  rw [maxV_apply, tmaxV_apply, tmaxV_apply, sup_off, sup_off, hm, ← top_step]
  simp only [← (h0 _).2, ← (h1 _).2]

theorem weight_step {s N : FVec 𝔽 S1x512 .f32} {t : FVec 𝔽 S256x512 .f32} {c : Fin 512} {x : ℕ → EReal} {n : ℕ}
    (h : Block t s c x n) (k : Fin 256) :
    weightV (F := 𝔽) ⊤ t s N (ix2 k c) = Ideal.exp2 (x (n + k.val) - N (ix2 0 c)) := by
  rw [weightV_apply, exp2_off (h k).1, ← (h k).2]

theorem step0 {ones : FVec 𝔽 S16x256 .bf16} (ho : ∀ j, ones j = 1) {vt : FVec 𝔽 S128x512 .bf16} {s00 s01 s10 s11 y10 y11 : FVec 𝔽 S1x512 .f32}
    {T : Tiles 𝔽} {A : Acc 𝔽} {c : Fin 512} {x : ℕ → EReal} {v : Fin 64 → ℕ → EReal} {n : ℕ} (hx : ∀ k, x k ≠ ⊤) (hA : Lane0 A c x v n)
    (h0 : Block T.t00 s00 c x n) (h1 : Block T.t01 s01 c x (n + 256))
    (hv : ∀ (d : Fin 64) (k : Fin 512), vt (ix2 ⟨d.val, by omega⟩ k) = v d (n + k.val)) :
    Lane0 (stepV ⊥ ⊤ ones vt s00 s01 s10 s11 (tmaxV T.t00) (tmaxV T.t01) y10 y11 T A) c x v (n + 512) := by
  have hn := max_step hA.m h0 h1
  refine ⟨hn, ?_, fun d => ?_⟩
  · show lV (F := 𝔽) _ _ _ _ _ = _
    rw [lV_apply, hn, hA.m, hA.l, ← wsum_step x _ hx]
    congr 1
    show sumsV (F := 𝔽) _ _ _ _ _ _ + sumsV (F := 𝔽) _ _ _ _ _ _ = _
    rw [sum00, sum01]
    simp only [weight_step h0, weight_step h1, hn, ho, mul_one, one_mul]
  · show aV (F := 𝔽) _ _ _ _ _ = _
    rw [aV_apply, hn, hA.m, hA.a, ← wsum_step x _ hx]
    congr 1
    show sumsV (F := 𝔽) _ _ _ _ _ _ + sumsV (F := 𝔽) _ _ _ _ _ _ = _
    rw [acc00, acc01]
    simp only [weight_step h0, weight_step h1, hn, hv, add_assoc, mul_comm]

theorem step1 {ones : FVec 𝔽 S16x256 .bf16} (ho : ∀ j, ones j = 1) {vt : FVec 𝔽 S128x512 .bf16} {s00 s01 s10 s11 y00 y01 : FVec 𝔽 S1x512 .f32}
    {T : Tiles 𝔽} {A : Acc 𝔽} {c : Fin 512} {x : ℕ → EReal} {v : Fin 64 → ℕ → EReal} {n : ℕ} (hx : ∀ k, x k ≠ ⊤) (hA : Lane1 A c x v n)
    (h0 : Block T.t10 s10 c x n) (h1 : Block T.t11 s11 c x (n + 256))
    (hv : ∀ (d : Fin 64) (k : Fin 512), vt (ix2 ⟨64 + d.val, by omega⟩ k) = v d (n + k.val)) :
    Lane1 (stepV ⊥ ⊤ ones vt s00 s01 s10 s11 y00 y01 (tmaxV T.t10) (tmaxV T.t11) T A) c x v (n + 512) := by
  have hn := max_step hA.m h0 h1
  refine ⟨hn, ?_, fun d => ?_⟩
  · show lV (F := 𝔽) _ _ _ _ _ = _
    rw [lV_apply, hn, hA.m, hA.l, ← wsum_step x _ hx]
    congr 1
    show sumsV (F := 𝔽) _ _ _ _ _ _ + sumsV (F := 𝔽) _ _ _ _ _ _ = _
    rw [sum10, sum11]
    simp only [weight_step h0, weight_step h1, hn, ho, mul_one, one_mul]
  · show aV (F := 𝔽) _ _ _ _ _ = _
    rw [aV_apply, hn, hA.m, hA.a, ← wsum_step x _ hx]
    congr 1
    show sumsV (F := 𝔽) _ _ _ _ _ _ + sumsV (F := 𝔽) _ _ _ _ _ _ = _
    rw [acc10, acc11]
    simp only [weight_step h0, weight_step h1, hn, hv, add_assoc, mul_comm]

/-- The vector of ones of the sums. -/
abbrev onesV : FVec 𝔽 S16x256 .bf16 := broadcast S16x256 (Scalar.ofBits .bf16 0x3F80#16)

theorem ones_eq (j : S16x256.Idx) : onesV j = 1 := by
  show Ideal.ofBits .bf16 0x3F80#16 = 1
  exact Ideal.ofBits_one_bf16

theorem hf_lt_one : hf < 1 := by
  rw [hf, half_eq]; exact_mod_cast (by norm_num : (1 / 2 : ℝ) < 1)

theorem oneV_apply (c : Fin 512) : oneV (F := 𝔽) (ix2 0 c) = 1 := Ideal.ofBits_one_f32

/-- One query's keys, as head `h` of the pair sees them: `r k` the score, `v d k` the values, `on k` whether the query looks at the key. -/
structure Keys (h : Fin 2) (S : S1x2x32x2048.Idx → EReal) (K V : S1x8192x128.Idx → EReal) (q : FVec 𝔽 S512x128 .bf16) (t : Fin 4) (c : Fin 512) (n : ℕ)
    (on : ℕ → Prop) (r : ℕ → ℝ) (v : Fin 64 → ℕ → EReal) : Prop where
  score : ∀ k : Fin 8192, ∑ d : Fin 128, K (ix3 0 k d) * q (ix2 c d) = ((r k.val / Real.log 2 : ℝ) : EReal)
  value : ∀ (k : Fin 8192) (d : Fin 64), V (ix3 0 k ⟨64 * h.val + d.val, by omega⟩) = v d k.val
  past : ∀ k : Fin 8192, k.val < 512 * n → (on k.val ↔ hf < S (ix4 0 h ⟨k.val / 256, by omega⟩ ⟨512 * t.val + c.val, by omega⟩))
  first : ∀ k : Fin 8192, 512 * n ≤ k.val → k.val < 512 * n + 256 → (on k.val ↔ k.val ≤ 512 * n + c.val
    ∧ (256 ≤ c.val → hf < S (ix4 0 h ⟨k.val / 256, by omega⟩ ⟨512 * t.val + c.val, by omega⟩)))
  second : ∀ k, 512 * n + 256 ≤ k → k < 512 * n + 512 → (on k ↔ k ≤ 512 * n + c.val)
  after : ∀ k, 512 * n + 512 ≤ k → ¬ on k
  self : on (512 * n + c.val)

section Tile

variable {S : S1x2x32x2048.Idx → EReal} {K V : S1x8192x128.Idx → EReal} {q0 q1 : FVec 𝔽 S512x128 .bf16} {t : Fin 4} {c : Fin 512} {n : ℕ}
  {on : ℕ → Prop} [DecidablePred on] {r : ℕ → ℝ} {v : Fin 64 → ℕ → EReal}

theorem coe_ne (a : ℝ) : (a : EReal) ≠ ⊤ := EReal.coe_ne_top a

theorem scoreAt {h : Fin 2} {q : FVec 𝔽 S512x128 .bf16} (H : Keys h S K V q t c n on r v) (g : ℕ) (hg : g < 16) (e : ℕ) (he : e < 512)
    (hb : 512 * (g % 16) + e < 8192) :
    ∑ d : Fin 128, K (ix3 0 ⟨512 * (g % 16) + e, hb⟩ d) * q (ix2 c d) = ((r (512 * g + e) / Real.log 2 : ℝ) : EReal) := by
  have := H.score ⟨512 * (g % 16) + e, hb⟩
  rw [this]; simp only [Nat.mod_eq_of_lt hg]

theorem block_past {h : Fin 2} {q : FVec 𝔽 S512x128 .bf16} (H : Keys h S K V q t c n on r v) (g : ℕ) (hg : g < n) (hn : n < 16) (s : Fin 2)
    (T : FVec 𝔽 S256x512 .f32)
    (hT : ∀ k : Fin 256, T (ix2 k c) = ∑ d : Fin 128, K (ix3 0 ⟨512 * (g % 16) + (256 * s.val + k.val), by omega⟩ d) * q (ix2 c d)) :
    Block T (rowV (F := 𝔽) S (offS h g s t) (inS h g s t)) c (sc2 on r) (512 * g + 256 * s.val) := by
  intro k
  rw [hT k, scoreAt H g (by omega) _ (by omega), rowV_apply]
  refine ⟨coe_ne _, ?_⟩
  have hp := H.past ⟨512 * g + 256 * s.val + k.val, by omega⟩ (by dsimp only; omega)
  have hi : (⟨(512 * g + 256 * s.val + k.val) / 256, by omega⟩ : Fin 32) = ⟨2 * (g % 16) + s.val, by omega⟩ := Fin.ext (by show _ = _; dsimp only; omega)
  simp only [hi] at hp
  unfold sc2
  simp only [add_assoc] at hp ⊢
  simp only [hp]

theorem block_first {h : Fin 2} {q : FVec 𝔽 S512x128 .bf16} (H : Keys h S K V q t c n on r v) (hn : n < 16) (T : FVec 𝔽 S256x512 .f32)
    (hT : ∀ k : Fin 256, T (ix2 k c) = if k.val ≤ c.val then ∑ d : Fin 128, K (ix3 0 ⟨512 * (n % 16) + k.val, by omega⟩ d) * q (ix2 c d) else ⊥) :
    Block T (select secondV (rowV (F := 𝔽) S (offS h n 0 t) (inS h n 0 t)) oneV) c (sc2 on r) (512 * n) := by
  intro k
  rw [hT k, scoreAt H n hn _ (by omega), second_apply, rowV_apply, oneV_apply]
  refine ⟨by split <;> simp, ?_⟩
  have hp := H.first ⟨512 * n + k.val, by omega⟩ (by dsimp only; omega) (by dsimp only; omega)
  have hi : (⟨(512 * n + k.val) / 256, by omega⟩ : Fin 32) = ⟨2 * (n % 16) + (0 : Fin 2).val, by omega⟩ := Fin.ext (by show _ = _; simp only [Fin.val_zero]; omega)
  simp only [hi] at hp
  unfold sc2
  simp only [hp]
  by_cases h1 : k.val ≤ c.val <;> by_cases h2 : 256 ≤ c.val <;> simp [h1, h2, hf_lt_one]

theorem block_second {h : Fin 2} {q : FVec 𝔽 S512x128 .bf16} (H : Keys h S K V q t c n on r v) (hn : n < 16) (T : FVec 𝔽 S256x512 .f32)
    (hT : ∀ k : Fin 256, T (ix2 k c) = if 256 + k.val ≤ c.val then ∑ d : Fin 128, K (ix3 0 ⟨512 * (n % 16) + (256 + k.val), by omega⟩ d) * q (ix2 c d) else ⊥) :
    Block T oneV c (sc2 on r) (512 * n + 256) := by
  intro k
  rw [hT k, scoreAt H n hn _ (by omega), oneV_apply]
  refine ⟨by split <;> simp, ?_⟩
  have hp := H.second (512 * n + 256 + k.val) (by omega) (by omega)
  unfold sc2
  simp only [add_assoc] at hp ⊢
  simp only [hp, hf_lt_one, if_true, Nat.add_le_add_iff_left]

theorem vals {h : Fin 2} {q : FVec 𝔽 S512x128 .bf16} (H : Keys h S K V q t c n on r v) (g : ℕ) (hg : g < 16) (d : Fin 64) (k : Fin 512) :
    valTV (F := 𝔽) V (offK g) (inK g) (ix2 ⟨64 * h.val + d.val, by omega⟩ k) = v d (512 * g + k.val) := by
  rw [valTV_apply, H.value]; simp only [Nat.mod_eq_of_lt hg]

theorem lane0_past (H : Keys 0 S K V q0 t c n on r v) (hn : n < 16) (g : ℕ) (hg : g ≤ n) :
    Lane0 (accV (F := 𝔽) ⊥ ⊤ onesV S K V q0 q1 t g) c (sc2 on r) v (512 * g) := by
  induction g with
  | zero =>
    refine ⟨rfl, ?_, fun d => ?_⟩
    · show Ideal.ofBits .f32 0x00000000#32 = _
      rw [Ideal.ofBits_zero_f32]; rfl
    · show Ideal.ofBits .f32 0x00000000#32 = _
      rw [Ideal.ofBits_zero_f32]; rfl
  | succ g ih =>
    have := ih (by omega)
    refine step0 ones_eq (sc2_ne on r) this (block_past H g (by omega) hn 0 _ fun k => ?_) (block_past H g (by omega) hn 1 _ fun k => ?_) fun d k => ?_
    · refine (tile_lo K q0 g k c).trans ?_; simp
    · refine (tile_hi K q0 g k c).trans ?_; simp [add_assoc]
    · have := vals H g (by omega) d k; simpa using this

theorem lane1_past (H : Keys 1 S K V q1 t c n on r v) (hn : n < 16) (g : ℕ) (hg : g ≤ n) :
    Lane1 (accV (F := 𝔽) ⊥ ⊤ onesV S K V q0 q1 t g) c (sc2 on r) v (512 * g) := by
  induction g with
  | zero =>
    refine ⟨rfl, ?_, fun d => ?_⟩
    · show Ideal.ofBits .f32 0x00000000#32 = _
      rw [Ideal.ofBits_zero_f32]; rfl
    · show Ideal.ofBits .f32 0x00000000#32 = _
      rw [Ideal.ofBits_zero_f32]; rfl
  | succ g ih =>
    have := ih (by omega)
    refine step1 ones_eq (sc2_ne on r) this (block_past H g (by omega) hn 0 _ fun k => ?_) (block_past H g (by omega) hn 1 _ fun k => ?_) fun d k => ?_
    · refine (tile_lo K q1 g k c).trans ?_; simp
    · refine (tile_hi K q1 g k c).trans ?_; simp [add_assoc]
    · have := vals H g (by omega) d k; simpa using this

theorem lane0_all (H : Keys 0 S K V q0 t c n on r v) (hn : n < 16) :
    Lane0 (tileAcc (F := 𝔽) ⊥ ⊤ onesV S K V q0 q1 t n) c (sc2 on r) v (512 * n + 512) := by
  refine step0 ones_eq (sc2_ne on r) (lane0_past H hn n le_rfl) (block_first H hn _ fun k => ?_) (block_second H hn _ fun k => ?_) fun d k => ?_
  · refine (masked00 _ k c).trans ?_
    rw [show (groupV K q0 q1 n).t00 (ix2 k c) = _ from tile_lo K q0 n k c]
  · refine (masked01 _ k c).trans ?_
    rw [show (groupV K q0 q1 n).t01 (ix2 k c) = _ from tile_hi K q0 n k c]; simp only [add_assoc]
  · have := vals H n hn d k; simpa using this

theorem lane1_all (H : Keys 1 S K V q1 t c n on r v) (hn : n < 16) :
    Lane1 (tileAcc (F := 𝔽) ⊥ ⊤ onesV S K V q0 q1 t n) c (sc2 on r) v (512 * n + 512) := by
  refine step1 ones_eq (sc2_ne on r) (lane1_past H hn n le_rfl) (block_first H hn _ fun k => ?_) (block_second H hn _ fun k => ?_) fun d k => ?_
  · refine (masked10 _ k c).trans ?_
    rw [show (groupV K q0 q1 n).t10 (ix2 k c) = _ from tile_lo K q1 n k c]
  · refine (masked11 _ k c).trans ?_
    rw [show (groupV K q0 q1 n).t11 (ix2 k c) = _ from tile_hi K q1 n k c]; simp only [add_assoc]
  · have := vals H n hn d k; simpa using this

/-- The softmax over all keys, of one query. -/
def attend (on : ℕ → Prop) [DecidablePred on] (r : ℕ → ℝ) (v : ℕ → EReal) : EReal :=
  ∑ k : Fin 8192, v k.val * Ideal.div (Ideal.exp (sc on r k.val - Finset.univ.sup fun j : Fin 8192 => sc on r j.val))
    (∑ j : Fin 8192, Ideal.exp (sc on r j.val - Finset.univ.sup fun j : Fin 8192 => sc on r j.val))

end Tile

section Out

variable {S : S1x2x32x2048.Idx → EReal} {K V : S1x8192x128.Idx → EReal} {Q Z : S1x2048x128.Idx → EReal} {t : Fin 4} {c : Fin 512} {j : ℕ}
  {on : ℕ → Prop} [DecidablePred on] {r : ℕ → ℝ} {v : Fin 64 → ℕ → EReal}

theorem out0 (hn : 4 * j + t.val < 16) (H : Keys 0 S K V (query0V (qrowsV Q (offQ t) (inQ t))) t c (4 * j + t.val) on r v) (d : Fin 64) :
    outTile (F := 𝔽) ⊥ ⊤ Q Z S K V j t (ix2 c ⟨d.val, by omega⟩)
      = attend on r (v d) * gate (Z (ix3 0 ⟨512 * t.val + c.val, by omega⟩ ⟨d.val, by omega⟩)) := by
  have L := lane0_all (q1 := query1V (qrowsV Q (offQ t) (inQ t))) H hn
  show resultV (F := 𝔽) _ _ _ = _
  rw [result0, qrows_apply]
  congr 1
  refine Eq.trans (congrArg₂ Ideal.div (L.a d) L.l) ?_
  exact quotient on r (by omega) ⟨_, by omega, H.self⟩ H.after (v d)

theorem out1 (hn : 4 * j + t.val < 16) (H : Keys 1 S K V (query1V (qrowsV Q (offQ t) (inQ t))) t c (4 * j + t.val) on r v) (d : Fin 64) :
    outTile (F := 𝔽) ⊥ ⊤ Q Z S K V j t (ix2 c ⟨64 + d.val, by omega⟩)
      = attend on r (v d) * gate (Z (ix3 0 ⟨512 * t.val + c.val, by omega⟩ ⟨64 + d.val, by omega⟩)) := by
  have L := lane1_all (q0 := query0V (qrowsV Q (offQ t) (inQ t))) H hn
  show resultV (F := 𝔽) _ _ _ = _
  rw [result1, qrows_apply]
  congr 1
  refine Eq.trans (congrArg₂ Ideal.div (L.a d) L.l) ?_
  exact quotient on r (by omega) ⟨_, by omega, H.self⟩ H.after (v d)

end Out

end Moba

end
-- ==== Proof.Moba.Spec.lean ====
/-
  Block-sparse attention at one element, of the arguments alone: what both programs compute.
-/
module

public import proofs.«01_k».proof.Proof.Moba.Lane
public import proofs.«01_k».proof.Proof.Gen.KernelIdeal

@[expose] public section

noncomputable section

namespace Moba

open Idealize.ShloMosaic

section Spec

variable (sel : Fin 4 → Fin 8 → Fin 32 → Fin 8192 → EReal) (q k v z : Fin 4 → Fin 8192 → Fin 512 → EReal)

/-- Query `s` of head `h` looks at key `x`: an earlier key of its own block of 256, or a key of an earlier block that the selection chose. -/
def On (b : Fin 4) (h : Fin 8) (s : Fin 8192) (x : ℕ) : Prop :=
  (x / 256 = s.val / 256 ∧ x ≤ s.val) ∨ (x / 256 < s.val / 256 ∧ hf < sel b h ⟨x / 256 % 32, Nat.mod_lt _ (by decide)⟩ s)

instance (b : Fin 4) (h : Fin 8) (s : Fin 8192) : DecidablePred (On sel b h s) := fun _ => Classical.propDecidable _

/-- The score of query `s` and key `x`, where both are finite. -/
def score (b : Fin 4) (h : Fin 8) (s : Fin 8192) (x : ℕ) : ℝ :=
  (∑ d : Fin 64, (q b s ⟨64 * h.val + d.val, by omega⟩).toReal * (k b ⟨x % 8192, Nat.mod_lt _ (by decide)⟩ ⟨64 * h.val + d.val, by omega⟩).toReal) / 8

/-- The value of key `x` in head `h`. -/
def val (b : Fin 4) (h : Fin 8) (d : Fin 64) (x : ℕ) : EReal := v b ⟨x % 8192, Nat.mod_lt _ (by decide)⟩ ⟨64 * h.val + d.val, by omega⟩

/-- `z` times its logistic function. -/
def silu (z : EReal) : EReal := z * Ideal.div 1 (1 + Ideal.exp (-z))

/-- One element of the result. -/
def spec (b : Fin 4) (h : Fin 8) (s : Fin 8192) (d : Fin 64) : EReal :=
  attend (On sel b h s) (score q k b h s) (val v b h d) * silu (z b s ⟨64 * h.val + d.val, by omega⟩)

end Spec

theorem eighth_eq : Ideal.ofBits .f32 0x3E000000#32 = ((1 / 8 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The kernel's gate, by the hyperbolic tangent, is the same function. -/
theorem gate_eq (z : EReal) : gate z = silu z := by
  unfold gate silu hf
  rw [@half_eq Cert.KernelIdeal.Gen.facts]
  induction z with
  | bot =>
    rw [EReal.coe_mul_bot_of_pos (by norm_num)]
    show ⊥ * (((1 / 2 : ℝ) : EReal) * (-1) + ((1 / 2 : ℝ) : EReal)) = ⊥ * Ideal.div 1 (1 + Ideal.exp (- ⊥))
    have h1 : ((1 / 2 : ℝ) : EReal) * (-1) + ((1 / 2 : ℝ) : EReal) = 0 := by
      have : (-1 : EReal) = ((-1 : ℝ) : EReal) := by simp
      rw [this, ← EReal.coe_mul, ← EReal.coe_add]; norm_num
    have h2 : Ideal.div 1 (1 + Ideal.exp (- ⊥)) = 0 := by
      rw [EReal.neg_bot]
      show Ideal.div 1 (1 + ⊤) = 0
      have : (1 : EReal) + ⊤ = ⊤ := by rfl
      rw [this]; simp [Ideal.div]
    rw [h1, h2]
  | top =>
    rw [EReal.coe_mul_top_of_pos (by norm_num)]
    show ⊤ * (((1 / 2 : ℝ) : EReal) * 1 + ((1 / 2 : ℝ) : EReal)) = ⊤ * Ideal.div 1 (1 + Ideal.exp (- ⊤))
    have h1 : ((1 / 2 : ℝ) : EReal) * 1 + ((1 / 2 : ℝ) : EReal) = 1 := by
      rw [mul_one, ← EReal.coe_add]; norm_num
    have h2 : Ideal.div 1 (1 + Ideal.exp (- ⊤)) = 1 := by
      rw [EReal.neg_top]
      show Ideal.div 1 (1 + 0) = 1
      simp [Ideal.div]
    rw [h1, h2]
  | coe x =>
    have e1 : Ideal.exp (-(x : EReal)) = ((Real.exp (-x) : ℝ) : EReal) := by rw [← EReal.coe_neg]; rfl
    have e2 : (1 : EReal) + ((Real.exp (-x) : ℝ) : EReal) = ((1 + Real.exp (-x) : ℝ) : EReal) := by simp
    rw [e1, e2, Ideal.div_coe (by positivity), one_mul]
    rw [← EReal.coe_mul]
    show (x : EReal) * (((1 / 2 : ℝ) : EReal) * ((Real.tanh (1 / 2 * x) : ℝ) : EReal) + _) = _
    rw [← EReal.coe_mul, ← EReal.coe_add]
    congr 2
    rw [Real.tanh_eq_sinh_div_cosh, Real.sinh_eq, Real.cosh_eq]
    have e3 : Real.exp (-x) = Real.exp (-(1 / 2 * x)) * Real.exp (-(1 / 2 * x)) := by rw [← Real.exp_add]; congr 1; ring
    have e4 : Real.exp (1 / 2 * x) * Real.exp (-(1 / 2 * x)) = 1 := by rw [← Real.exp_add]; simp
    rw [e3]
    have p1 := Real.exp_pos (1 / 2 * x)
    have p2 := Real.exp_pos (-(1 / 2 * x))
    generalize Real.exp (1 / 2 * x) = A at *
    generalize Real.exp (-(1 / 2 * x)) = B at *
    field_simp
    nlinarith

end Moba

end
-- ==== Proof.Moba.KernelValue.lean ====
/-
  What a grid point of the attention kernel leaves at an element of its block, of the launched arguments.
-/
module

public import proofs.«01_k».proof.Proof.Moba.Blocks
public import proofs.«01_k».proof.Proof.Moba.Spec

@[expose] public section

set_option maxRecDepth 16384

noncomputable section

namespace Moba.Blk

open Idealize.ShloMosaic Idealize.ShloMosaic.TcCoe
open Cert.KernelIdeal Cert.KernelIdeal.Gen

local notation "𝔽" => Idealize.ShloMosaic.Ideal

local instance : Cert.KernelIdeal.Facts := Cert.KernelIdeal.Gen.facts

theorem qs_eq : qs = ((1 / 8 / Real.log 2 : ℝ) : EReal) := by
  have hl : Real.log 2 ≠ 0 := (Real.log_pos (by norm_num)).ne'
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [qs, eighth_eq, two_eq, e, Ideal.div_coe hl, ← EReal.coe_mul]
  congr 1; ring

/-- A sum over the pair's 128 columns of terms that vanish outside head `h`'s. -/
theorem sum_half (h : Fin 2) (f : Fin 128 → EReal) (g : Fin 64 → EReal) (h1 : ∀ d : Fin 64, f ⟨64 * h.val + d.val, by omega⟩ = g d)
    (h0 : ∀ d : Fin 128, d.val / 64 ≠ h.val → f d = 0) : ∑ d, f d = ∑ d, g d := by
  refine (Fin.sum_univ_add (a := 64) (b := 64) f).trans ?_
  obtain rfl | rfl : h = 0 ∨ h = 1 := by omega
  · rw [Finset.sum_eq_zero (s := Finset.univ) (f := fun i : Fin 64 => f (Fin.natAdd 64 i)), add_zero]
    · refine Finset.sum_congr rfl fun d _ => (congrArg f (Fin.ext ?_)).trans (h1 d)
      simp
    · intro i _; refine h0 _ ?_
      have : (Fin.natAdd 64 i : Fin (64 + 64)).val = 64 + i.val := rfl
      rw [this]; simp only [Fin.val_zero]; omega
  · rw [Finset.sum_eq_zero (s := Finset.univ) (f := fun i : Fin 64 => f (Fin.castAdd 64 i)), zero_add]
    · refine Finset.sum_congr rfl fun d _ => (congrArg f (Fin.ext ?_)).trans (h1 d)
      simp; omega
    · intro i _; refine h0 _ ?_
      have : (Fin.castAdd 64 i : Fin (64 + 64)).val = i.val := rfl
      rw [this]; simp only [Fin.val_one]; omega

variable (m : (ℓ : Loc nD τ sig) → Buf (Elt 𝔽) ℓ) (c : Dev nD) (t : Fin cfg0.N)

/-- The launched arguments by their coordinates. -/
abbrev fq : Fin 4 → Fin 8192 → Fin 512 → EReal := fun b s e => aq m c (ix3 b s e)
abbrev fk : Fin 4 → Fin 8192 → Fin 512 → EReal := fun b s e => ak m c (ix3 b s e)
abbrev fv : Fin 4 → Fin 8192 → Fin 512 → EReal := fun b s e => av m c (ix3 b s e)
abbrev fz : Fin 4 → Fin 8192 → Fin 512 → EReal := fun b s e => az m c (ix3 b s e)
abbrev fsel : Fin 4 → Fin 8 → Fin 32 → Fin 8192 → EReal := fun b h x s => asel m c (ix4 b h x s)

variable (hq : ∀ i, aq m c i = (((aq m c i).toReal : ℝ) : EReal)) (hk : ∀ i, ak m c i = (((ak m c i).toReal : ℝ) : EReal))
  {b p j : Fin 4} (hb : (grid0.coords t 0).val = b.val) (hp : (grid0.coords t 1).val = p.val) (hj : (grid0.coords t 2).val = j.val)

include hq hk hb hp hj in
/-- A query of the point, as the softmax sees it. -/
theorem keys (h : Fin 2) (u : Fin 4) (r : Fin 512) (q : FVec 𝔽 S512x128 .bf16)
    (hq1 : ∀ d : Fin 64, q (ix2 r ⟨64 * h.val + d.val, by omega⟩)
      = iblk m c 0 t (ix3 0 ⟨512 * u.val + r.val, by omega⟩ ⟨64 * h.val + d.val, by omega⟩))
    (hq0 : ∀ d : Fin 128, d.val / 64 ≠ h.val → q (ix2 r d) = 0) :
    Keys h (iblk m c 2 t) (iblk m c 3 t) (iblk m c 4 t) q u r (4 * j.val + u.val)
      (On (fsel m c) b ⟨2 * p.val + h.val, by omega⟩ ⟨512 * (4 * j.val + u.val) + r.val, by omega⟩)
      (score (fq m c) (fk m c) b ⟨2 * p.val + h.val, by omega⟩ ⟨512 * (4 * j.val + u.val) + r.val, by omega⟩)
      (val (fv m c) b ⟨2 * p.val + h.val, by omega⟩) := by
  have hs : ∀ x : Fin 8192, (⟨x.val % 8192, Nat.mod_lt _ (by decide)⟩ : Fin 8192) = x := fun x => Fin.ext (Nat.mod_eq_of_lt x.isLt)
  have hblk : ∀ x : Fin 8192, (⟨x.val / 256 % 32, Nat.mod_lt _ (by decide)⟩ : Fin 32) = ⟨x.val / 256, by omega⟩ :=
    fun x => Fin.ext (Nat.mod_eq_of_lt (by omega))
  have hrow : ∀ h1, (⟨2048 * j.val + (512 * u.val + r.val), h1⟩ : Fin 8192) = ⟨512 * (4 * j.val + u.val) + r.val, by omega⟩ :=
    fun _ => Fin.ext (by dsimp only; omega)
  have hOn : ∀ x : Fin 8192, On (fsel m c) b ⟨2 * p.val + h.val, by omega⟩ ⟨512 * (4 * j.val + u.val) + r.val, by omega⟩ x.val
      ↔ (x.val / 256 = (512 * (4 * j.val + u.val) + r.val) / 256 ∧ x.val ≤ 512 * (4 * j.val + u.val) + r.val)
        ∨ (x.val / 256 < (512 * (4 * j.val + u.val) + r.val) / 256
          ∧ hf < iblk m c 2 t (ix4 0 h ⟨x.val / 256, by omega⟩ ⟨512 * u.val + r.val, by omega⟩)) := by
    intro x
    rw [sel_block m c t b p j hb hp hj, hrow]
    unfold On
    rw [hblk]
  refine ⟨fun x => ?_, fun x d => ?_, fun x hx => ?_, fun x h1 h2 => ?_, fun x h1 h2 => ?_, fun x hx => ?_, ?_⟩
  · rw [sum_half h _ (fun d => (((1 / 8 / Real.log 2 : ℝ) * ((fq m c b ⟨512 * (4 * j.val + u.val) + r.val, by omega⟩ ⟨64 * (2 * p.val + h.val) + d.val, by omega⟩).toReal
        * (fk m c b x ⟨64 * (2 * p.val + h.val) + d.val, by omega⟩).toReal) : ℝ) : EReal))]
    · rw [← Moba.Soft.coe_sum, ← Finset.mul_sum]
      unfold score
      rw [hs]
      congr 1; ring
    · intro d
      have hcol : ∀ h1, (⟨128 * p.val + (64 * h.val + d.val), h1⟩ : Fin 512) = ⟨64 * (2 * p.val + h.val) + d.val, by omega⟩ :=
        fun _ => Fin.ext (by dsimp only; omega)
      rw [hq1, q_block m c t b p j hb hp hj, k_block m c t b p hb hp, qs_eq, hrow, hcol, hq, hk, ← EReal.coe_mul, ← EReal.coe_mul]
      congr 1
      ring
    · intro d hd
      rw [hq0 d hd, mul_zero]
  · have hcol : ∀ h1, (⟨128 * p.val + (64 * h.val + d.val), h1⟩ : Fin 512) = ⟨64 * (2 * p.val + h.val) + d.val, by omega⟩ :=
      fun _ => Fin.ext (by dsimp only; omega)
    rw [v_block m c t b p hb hp, hcol]
    unfold val
    rw [hs]
  · rw [hOn]
    constructor
    · rintro (⟨h1, _⟩ | ⟨_, h1⟩)
      · omega
      · exact h1
    · intro h1; exact Or.inr ⟨by omega, h1⟩
  · rw [hOn]
    constructor
    · rintro (⟨h3, h4⟩ | ⟨h3, h4⟩)
      · exact ⟨h4, fun h5 => by omega⟩
      · exact ⟨by omega, fun _ => h4⟩
    · rintro ⟨h3, h4⟩
      by_cases h5 : 256 ≤ r.val
      · exact Or.inr ⟨by omega, h4 h5⟩
      · exact Or.inl ⟨by omega, h3⟩
  · have := hOn ⟨x, by omega⟩
    dsimp only at this
    rw [this]
    constructor
    · rintro (⟨h3, h4⟩ | ⟨h3, h4⟩) <;> omega
    · intro h3; exact Or.inl ⟨by omega, h3⟩
  · rintro (⟨h3, h4⟩ | ⟨h3, h4⟩)
    · dsimp only at h4; omega
    · dsimp only at h3; omega
  · exact Or.inl ⟨rfl, le_refl _⟩

include hq hk hb hp hj in
/-- One element of the point's block: row `512 u + r`, column `64 h + d`. -/
theorem point (h : Fin 2) (u : Fin 4) (r : Fin 512) (d : Fin 64) :
    outTile (F := 𝔽) ⊥ ⊤ (iblk m c 0 t) (iblk m c 1 t) (iblk m c 2 t) (iblk m c 3 t) (iblk m c 4 t) j.val u (ix2 r ⟨64 * h.val + d.val, by omega⟩)
      = spec (fsel m c) (fq m c) (fk m c) (fv m c) (fz m c) b ⟨2 * p.val + h.val, by omega⟩ ⟨512 * (4 * j.val + u.val) + r.val, by omega⟩ d := by
  have hrow : ∀ h1, (⟨2048 * j.val + (512 * u.val + r.val), h1⟩ : Fin 8192) = ⟨512 * (4 * j.val + u.val) + r.val, by omega⟩ :=
    fun _ => Fin.ext (by dsimp only; omega)
  have hcol : ∀ h1, (⟨128 * p.val + (64 * h.val + d.val), h1⟩ : Fin 512) = ⟨64 * (2 * p.val + h.val) + d.val, by omega⟩ :=
    fun _ => Fin.ext (by dsimp only; omega)
  have hz : gate (iblk m c 1 t (ix3 0 ⟨512 * u.val + r.val, by omega⟩ ⟨64 * h.val + d.val, by omega⟩))
      = silu (fz m c b ⟨512 * (4 * j.val + u.val) + r.val, by omega⟩ ⟨64 * (2 * p.val + h.val) + d.val, by omega⟩) := by
    rw [gate_eq, z_block m c t b p j hb hp hj, hrow, hcol]
  unfold spec
  rw [← hz]
  obtain rfl | rfl : h = 0 ∨ h = 1 := by omega
  · have e : ∀ (x : Fin 64) hx, (⟨64 * (0 : Fin 2).val + x.val, hx⟩ : Fin 128) = ⟨x.val, by omega⟩ := fun x _ => Fin.ext (by simp)
    rw [e]
    refine out0 (by omega) (keys m c t hq hk hb hp hj 0 u r _ (fun x => ?_) fun x hx => ?_) d
    · rw [query0_apply, if_pos (by simp), qrows_apply]
    · rw [query0_apply, if_neg (by simp at hx; omega)]
  · have e : ∀ (x : Fin 64) hx, (⟨64 * (1 : Fin 2).val + x.val, hx⟩ : Fin 128) = ⟨64 + x.val, by omega⟩ := fun x _ => Fin.ext (by simp)
    rw [e]
    refine out1 (by omega) (keys m c t hq hk hb hp hj 1 u r _ (fun x => ?_) fun x hx => ?_) d
    · rw [query1_apply, if_pos (by simp), qrows_apply]
    · rw [query1_apply, if_neg (by simp at hx; omega)]

end Moba.Blk

end
-- ==== Proof.Moba.Whole.lean ====
/-
  The kernel's whole result, of the launched arguments.
-/
module

public import proofs.«01_k».proof.Proof.Moba.RunIdeal
public import proofs.«01_k».proof.Proof.Moba.KernelValue

@[expose] public section

set_option maxRecDepth 16384

noncomputable section

namespace Moba.RunI

open Idealize.ShloMosaic Idealize.ShloMosaic.TcCoe Idealize.SL.Sem
open Cert.KernelIdeal Cert.KernelIdeal.Gen Moba.Blk

local notation "𝔽" => Idealize.ShloMosaic.Ideal

variable (m : (ℓ : Loc nD τ sig) → Buf (Elt 𝔽) ℓ) (ρ : Dev nD → PrngReg)

/-- The result array. -/
def whole (c : Dev nD) : S4x8192x512.Idx → EReal := fun i =>
  spec (fsel m c) (fq m c) (fk m c) (fv m c) (fz m c) (i 0) ⟨(i 2).val / 64, by have : (i 2).val < 512 := (i 2).isLt; omega⟩ (i 1)
    ⟨(i 2).val % 64, Nat.mod_lt _ (by decide)⟩

theorem mask_eq : (Named.named κ "mask" 0xF149F2CA#32 : 𝔽 .f32) = ⊥ := IdealRules.named_const.ideal_named_scalar _ _ _ _ rfl
theorem big_eq : (Named.named κ "big" 0x7149F2CA#32 : 𝔽 .f32) = ⊤ := IdealRules.named_const.ideal_named_scalar _ _ _ _ rfl

theorem coord_lt : ∀ t : Fin cfg0.N, (grid0.coords t 0).val < 4 ∧ (grid0.coords t 1).val < 4 ∧ (grid0.coords t 2).val < 4 :=
  (by decide +kernel : ∀ t : Fin grid0.N, _)

theorem spec_congr (sel : Fin 4 → Fin 8 → Fin 32 → Fin 8192 → EReal) (q k v z : Fin 4 → Fin 8192 → Fin 512 → EReal) {b b' : Fin 4} {h h' : Fin 8}
    {s s' : Fin 8192} {d d' : Fin 64} (e1 : b = b') (e2 : h = h') (e3 : s = s') (e4 : d = d') : spec sel q k v z b h s d = spec sel q k v z b' h' s' d' := by
  subst e1 e2 e3 e4; rfl

theorem final (c : Dev nD) (hq : ∀ i, aq m c i = (((aq m c i).toReal : ℝ) : EReal)) (hk : ∀ i, ak m c i = (((ak m c i).toReal : ℝ) : EReal)) :
    (dats m 0 c).arrAt 5 cfg0.N = whole m c := by
  refine (dats m 0 c).arrAt_eq_of_covers 5 _ (by decide +kernel) fun t hf y => ?_
  blk_simp
  rw [after0_5]
  unfold outsAt outV
  rw [mask_eq, big_eq]
  obtain ⟨l0, l1, l2⟩ := coord_lt t
  have y1 : (y 1).val < 2048 := (y 1).isLt
  have y2 : (y 2).val < 128 := (y 2).isLt
  have y0 : (y 0).val < 1 := (y 0).isLt
  have P := point m c t hq hk (b := ⟨_, l0⟩) (p := ⟨_, l1⟩) (j := ⟨_, l2⟩) rfl rfl rfl ⟨(y 2).val / 64, by omega⟩ ⟨(y 1).val / 512, by omega⟩
    ⟨(y 1).val % 512, Nat.mod_lt _ (by decide)⟩ ⟨(y 2).val % 64, Nat.mod_lt _ (by decide)⟩
  have hrow : rowAt y = ix2 (⟨(y 1).val % 512, Nat.mod_lt _ (by decide)⟩ : Fin 512)
      (⟨64 * ((y 2).val / 64) + (y 2).val % 64, by omega⟩ : Fin 128) := by
    funext a; apply Fin.ext
    fin_cases a
    · rfl
    · show (y 2).val = 64 * ((y 2).val / 64) + (y 2).val % 64
      omega
  rw [hrow]
  refine P.trans ?_
  have e0 : (((win0_5.blk t).view.emb y) 0).val = (grid0.coords t 0).val := by
    blk_simp [idx5]
  have e1 : (((win0_5.blk t).view.emb y) 1).val = 2048 * (grid0.coords t 2).val + (y 1).val := by
    blk_simp [idx5]
    show (grid0.coords t 2).val * 2048 + (y 1).val = _
    omega
  have e2 : (((win0_5.blk t).view.emb y) 2).val = 128 * (grid0.coords t 1).val + (y 2).val := by
    blk_simp [idx5]
    show (grid0.coords t 1).val * 128 + (y 2).val = _
    omega
  unfold whole
  refine spec_congr _ _ _ _ _ (Fin.ext e0.symm) (Fin.ext ?_) (Fin.ext ?_) (Fin.ext ?_)
  · dsimp only; rw [e2]; omega
  · refine Eq.trans ?_ e1.symm
    dsimp only; omega
  · dsimp only; rw [e2]; omega

/-- Every run leaves that array, and the arguments as they were. -/
theorem run (hq : ∀ c i, aq m c i = (((aq m c i).toReal : ℝ) : EReal)) (hk : ∀ c i, ak m c i = (((ak m c i).toReal : ℝ) : EReal)) :
    θ_run defs (onTc (τ := τ) (main (F := 𝔽))) ⟨m, fun _ => 0, ρ⟩ (fun r => ∀ c : Dev nD,
      r.2.mem ((c.tc : Thread nD τ).loc main_v8) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.out_eq c 5).trans (final m c (hq c) (hk c)),
    (h.1.rest_eq c main_arg0 (Pipeline.mem_restRefs_of main_arg0 (by decide) (by decide))).trans (V_main_arg0 m c),
    (h.1.rest_eq c main_arg1 (Pipeline.mem_restRefs_of main_arg1 (by decide) (by decide))).trans (V_main_arg1 m c),
    (h.1.rest_eq c main_arg2 (Pipeline.mem_restRefs_of main_arg2 (by decide) (by decide))).trans (V_main_arg2 m c),
    (h.1.rest_eq c main_arg3 (Pipeline.mem_restRefs_of main_arg3 (by decide) (by decide))).trans (V_main_arg3 m c),
    (h.1.in_eq c 2 rfl).trans ((A_eq m c 2).trans (V_main_arg4 m c))⟩) (run_main m ρ)

end Moba.RunI

end
-- ==== Proof.Moba.RefValue.lean ====
/-
  The reference's result read at an index.
-/
module

public import proofs.«01_k».proof.Proof.Gen.ReferenceIdeal
public import proofs.«01_k».proof.Proof.Gen.ReferenceIdeal.Run
public import proofs.«01_k».proof.Proof.Moba.Spec
public import Idealize.ShloMosaic.Lib.Pointwise
public import Idealize.ShloMosaic.PureOps.Ideal.Laws
public import Idealize.ShloMosaic.Lib.WordCmp

@[expose] public section

set_option maxRecDepth 16384

noncomputable section

namespace Moba.Ref

open Idealize.ShloMosaic Idealize.ShloMosaic.TcCoe
open Cert.ReferenceIdeal Cert.ReferenceIdeal.Gen

local notation "𝔽" => Idealize.ShloMosaic.Ideal

def blockV : IVec S8192 32 := Host.divsi (iotaInDim S8192 32 0) (broadcastInDim S8192 ![] bcast_S_S8192 (constantI S_ 32 256#32))

def rowV (x : IVec S8192 32) : IVec S8192x8192 32 := broadcastInDim S8192x8192 ![0, 1] bcast_S1x8192_S8192x8192_0_1 (broadcastInDim S1x8192 ![1] bcast_S8192_S1x8192_1 x)
def colV (x : IVec S8192 32) : IVec S8192x8192 32 := broadcastInDim S8192x8192 ![0, 1] bcast_S8192x1_S8192x8192_0_1 (broadcastInDim S8192x1 ![0] bcast_S8192_S8192x1_0 x)

def overV (x : IVec S8192x8192 1) : IVec S4x8x8192x8192 1 :=
  broadcastInDim S4x8x8192x8192 ![0, 1, 2, 3] bcast_S1x1x8192x8192_S4x8x8192x8192_0_1_2_3 (broadcastInDim S1x1x8192x8192 ![2, 3] bcast_S8192x8192_S1x1x8192x8192_2_3 x)

def onV (sel : FVec 𝔽 S4x8x32x8192 .f32) : IVec S4x8x8192x8192 1 :=
  ori (overV (andi (cmpi .eq (rowV blockV) (colV blockV)) (cmpi .sle (rowV (iotaInDim S8192 32 0)) (colV (iotaInDim S8192 32 0)))))
    (andi (overV (cmpi .slt (rowV blockV) (colV blockV)))
      (cmpf .ogt (shapeCast _ (broadcastInDim S4x8x8192x32x256 ![0, 1, 2, 3] bcast_S4x8x8192x32_S4x8x8192x32x256_0_1_2_3 (transpose S4x8x8192x32 [0, 1, 3, 2] sel transposes_S4x8x32x8192_S4x8x8192x32_0_1_3_2)) shapeCasts_S4x8x8192x32x256_S4x8x8192x8192)
        (broadcastInDim S4x8x8192x8192 ![] bcast_S_S4x8x8192x8192 (constant S_ .f32 0x3F000000#32))))

def scV (q k : FVec 𝔽 S4x8192x512 .f32) (sel : FVec 𝔽 S4x8x32x8192 .f32) : FVec 𝔽 S4x8x8192x8192 .f32 :=
  select (onV sel) (mulf (Host.dotGeneral dot_S4x8192x8x64_S4x8192x8x64_S4x8x8192x8192_3_3_1_1_02_02 none (shapeCast _ q shapeCasts_S4x8192x512_S4x8192x8x64) (shapeCast _ k shapeCasts_S4x8192x512_S4x8192x8x64)) (broadcastInDim S4x8x8192x8192 ![] bcast_S_S4x8x8192x8192 (constant S_ .f32 0x3E000000#32)))
    (broadcastInDim S4x8x8192x8192 ![] bcast_S_S4x8x8192x8192 (id (constant S_ .f32 0xFF800000#32)))

theorem sdiv256 (n : ℕ) (h : n < 8192) : IntOp.divsi .host (BitVec.ofNat 32 n) 256#32 = BitVec.ofNat 32 (n / 256) := by
  rw [IntOp.divsi, if_neg]
  · rw [BitVec.sdiv_eq]
    have h1 : (BitVec.ofNat 32 n).msb = false := by
      rw [BitVec.msb_eq_decide]; simp; omega
    have h2 : (256#32).msb = false := by decide
    rw [h1, h2]
    apply BitVec.eq_of_toNat_eq
    simp [BitVec.toNat_udiv, Nat.mod_eq_of_lt (show n < 4294967296 by omega)]
    omega
  · simp [IntOp.SDivCorner]

theorem blockV_apply (s : Fin 8192) : blockV (ix1 s) = BitVec.ofNat 32 (s.val / 256) := by
  pointwise [blockV]
  exact sdiv256 _ s.isLt

theorem onV_apply (sel : FVec 𝔽 S4x8x32x8192 .f32) (b : Fin 4) (h : Fin 8) (q k : Fin 8192) :
    onV sel (ix4 b h q k) = BitVec.ofBool (decide (On (fun b h x s => sel (ix4 b h x s)) b h q k.val)) := by
  pointwise [onV, overV, rowV, colV]
  rw [blockV_apply, blockV_apply]
  have h1 : ∀ x y : ℕ, x < 8192 → y < 8192 → IntOp.cmpi .eq (BitVec.ofNat 32 x) (BitVec.ofNat 32 y) = BitVec.ofBool (decide (x = y)) := by
    intro x y hx hy
    have : (BitVec.ofNat 32 x = BitVec.ofNat 32 y) ↔ x = y := by
      constructor
      · intro e
        have := congrArg BitVec.toNat e
        simp only [BitVec.toNat_ofNat] at this; omega
      · rintro rfl; rfl
    unfold IntOp.cmpi
    by_cases e : x = y
    · simp [e]
    · have e' := mt this.1 e
      rw [beq_eq_false_iff_ne.2 e', decide_eq_false e]
  rw [h1 _ _ (by omega) (by omega), @sle_small Cert.KernelIdeal.Gen.facts _ _ (by omega) (by omega), @slt_small Cert.KernelIdeal.Gen.facts _ _ (by omega) (by omega)]
  have e : (⟨k.val / 256 % 32, Nat.mod_lt _ (by decide)⟩ : Fin 32) = ⟨k.val / 256, by omega⟩ := Fin.ext (Nat.mod_eq_of_lt (by omega))
  have hOn : On (fun b h x s => sel (ix4 b h x s)) b h q k.val
      ↔ ((k.val / 256 = q.val / 256 ∧ k.val ≤ q.val) ∨ (k.val / 256 < q.val / 256 ∧ hf < sel (ix4 b h ⟨k.val / 256, by omega⟩ q))) := by
    unfold On; rw [e]
  simp only [hOn]
  by_cases a1 : k.val / 256 = q.val / 256 <;> by_cases a2 : k.val ≤ q.val <;> by_cases a3 : k.val / 256 < q.val / 256 <;>
    by_cases a4 : hf < sel (ix4 b h ⟨k.val / 256, by omega⟩ q) <;> simp [a1, a2, a3, a4, IntOp.ori, IntOp.andi]

theorem scV_apply (q k : FVec 𝔽 S4x8192x512 .f32) (sel : FVec 𝔽 S4x8x32x8192 .f32) (hq : ∀ i, q i = (((q i).toReal : ℝ) : EReal))
    (hk : ∀ i, k i = (((k i).toReal : ℝ) : EReal)) (b : Fin 4) (h : Fin 8) (s t : Fin 8192) :
    scV q k sel (ix4 b h s t)
      = Moba.Soft.sc (On (fun b h x s => sel (ix4 b h x s)) b h s) (score (fun b s e => q (ix3 b s e)) (fun b s e => k (ix3 b s e)) b h s) t.val := by
  pointwise [scV]
  rw [onV_apply, WordCmp.select_ofBool, eighth_eq]
  unfold Moba.Soft.sc
  have e : (⟨t.val % 8192, Nat.mod_lt _ (by decide)⟩ : Fin 8192) = t := Fin.ext (Nat.mod_eq_of_lt t.isLt)
  have hc : ∀ (x : Fin 64) hx hy, (⟨h.val * 64 + x.val, hx⟩ : Fin 512) = ⟨64 * h.val + x.val, hy⟩ := fun x _ _ => Fin.ext (by dsimp only; omega)
  by_cases a : On (fun b h x s => sel (ix4 b h x s)) b h s t.val
  · rw [if_pos (by simpa using a), if_pos a, score]
    simp only [e]
    have h8 : ∀ a : ℝ, a / 8 = a * (1 / 8) := fun a => by ring
    refine Eq.trans ?_ (congrArg (fun a : ℝ => (a : EReal)) (h8 _)).symm
    rw [EReal.coe_mul, Moba.Soft.coe_sum]
    congr 1
    · refine Finset.sum_congr rfl fun x _ => ?_
      rw [hc, EReal.coe_mul, ← hq, ← hk]
  · rw [if_neg (by simpa using a), if_neg a]
    exact @ninf_eq Cert.KernelIdeal.Gen.facts

/-- The largest score of each query. -/
def topV (sc : FVec 𝔽 S4x8x8192x8192 .f32) : FVec 𝔽 S4x8x8192 .f32 :=
  maximumf (broadcastInDim S4x8x8192 ![] bcast_S_S4x8x8192 (constant S_ .f32 0xFF800000#32)) (Host.reduce FloatOps.maximumf sc (constant S_ .f32 0xFF800000#32) reducesTo_S4x8x8192x8192_S4x8x8192_d3 h_S_)

def alongV (x : FVec 𝔽 S4x8x8192 .f32) : FVec 𝔽 S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 x)

def expV (sc : FVec 𝔽 S4x8x8192x8192 .f32) : FVec 𝔽 S4x8x8192x8192 .f32 := Host.exp (subf sc (alongV (topV sc)))

def sumV (e : FVec 𝔽 S4x8x8192x8192 .f32) : FVec 𝔽 S4x8x8192 .f32 :=
  Host.reduceAdd e (constant S_ .f32 0x00000000#32) reducesTo_S4x8x8192x8192_S4x8x8192_d3 h_S_

def siluV (z : FVec 𝔽 S4x8192x512 .f32) : FVec 𝔽 S4x8192x512 .f32 :=
  mulf z (Host.divf (broadcastInDim S4x8192x512 ![] bcast_S_S4x8192x512 (constant S_ .f32 0x3F800000#32)) (addf (broadcastInDim S4x8192x512 ![] bcast_S_S4x8192x512 (constant S_ .f32 0x3F800000#32)) (Host.exp (Host.negf z))))

/-- The reference's result as one expression of the arguments. -/
def refV (q k v z : FVec 𝔽 S4x8192x512 .f32) (sel : FVec 𝔽 S4x8x32x8192 .f32) : FVec 𝔽 S4x8192x512 .bf16 :=
  truncf .bf16 (mulf (shapeCast _ (transpose S4x8192x8x64 [0, 3, 1, 2] (Host.dotGeneral dot_S4x8192x8x64_S4x8x8192x8192_S4x8x64x8192_1_3_3_2_02_01 none
      (shapeCast _ v shapeCasts_S4x8192x512_S4x8192x8x64) (Host.divf (expV (scV q k sel)) (alongV (sumV (expV (scV q k sel))))))
      transposes_S4x8x64x8192_S4x8192x8x64_0_3_1_2) shapeCasts_S4x8192x8x64_S4x8192x512) (siluV z)) bitsLt_bf16_f32

theorem res_eq (m : (ℓ : Loc nD τ sig) → Buf (Elt 𝔽) ℓ) (c : Dev nD) :
    Cert.ReferenceIdeal.Value.res_main_v53 m c = refV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A maximum over the last axis of four, whatever the sizes. -/
theorem max_last {n0 n1 n2 n3 : ℕ} {u : Shape} (x : FVec 𝔽 ⟨4, ![n0, n1, n2, n3]⟩ .f32) (init : FVec 𝔽 u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := 𝔽) (φ := .f32)) x init h hu (ix3 a b c)
      = Finset.univ.fold max (init (Shape.Idx.first hu)) fun k : Fin n3 => x (ix4 a b c k) := by
  pointwise

theorem fold_sup {n : ℕ} (f : Fin n → EReal) : Finset.univ.fold max ⊥ f = Finset.univ.sup f := rfl

theorem maxf_apply {s : Shape} (x y : FVec 𝔽 s .f32) (i : s.Idx) : maximumf x y i = max (x i) (y i) := rfl

theorem max_bot {n : ℕ} (f : Fin n → EReal) : max ⊥ (Finset.univ.fold max ⊥ f) = Finset.univ.sup f := (max_eq_right bot_le).trans (fold_sup f)

theorem bot_apply {s : Shape} (i : s.Idx) : constant (F := 𝔽) s .f32 0xFF800000#32 i = ⊥ := @ninf_eq Cert.KernelIdeal.Gen.facts

theorem bots_apply (i : S4x8x8192.Idx) : broadcastInDim S4x8x8192 ![] bcast_S_S4x8x8192 (constant (F := 𝔽) S_ .f32 0xFF800000#32) i = ⊥ := by
  pointwise
  exact @ninf_eq Cert.KernelIdeal.Gen.facts

theorem topV_apply (sc : FVec 𝔽 S4x8x8192x8192 .f32) (b : Fin 4) (h : Fin 8) (s : Fin 8192) :
    topV sc (ix3 b h s) = Finset.univ.sup fun t : Fin 8192 => sc (ix4 b h s t) := by
  unfold topV
  rw [maxf_apply, bots_apply]
  have e := max_last sc (constant S_ .f32 0xFF800000#32) reducesTo_S4x8x8192x8192_S4x8x8192_d3 h_S_ b h s
  rw [bot_apply] at e
  rw [e]
  exact max_bot _

theorem sumV_apply (sc : FVec 𝔽 S4x8x8192x8192 .f32) (b : Fin 4) (h : Fin 8) (s : Fin 8192) :
    sumV sc (ix3 b h s) = ∑ t : Fin 8192, sc (ix4 b h s t) := by
  pointwise [sumV]

theorem siluV_apply (z : FVec 𝔽 S4x8192x512 .f32) (i : S4x8192x512.Idx) : siluV z i = silu (z i) := by
  pointwise [siluV, silu]

theorem expV_apply (sc : FVec 𝔽 S4x8x8192x8192 .f32) (b : Fin 4) (h : Fin 8) (s t : Fin 8192) :
    expV sc (ix4 b h s t) = Ideal.exp (sc (ix4 b h s t) - topV sc (ix3 b h s)) := by
  pointwise [expV, alongV]

theorem refV_read (q k v z : FVec 𝔽 S4x8192x512 .f32) (sel : FVec 𝔽 S4x8x32x8192 .f32) (b : Fin 4) (s : Fin 8192) (h : Fin 8) (d : Fin 64) :
    refV q k v z sel (ix3 b s ⟨64 * h.val + d.val, by omega⟩)
      = (∑ x : Fin 8192, v (ix3 b x ⟨64 * h.val + d.val, by omega⟩) *
          Ideal.div (expV (scV q k sel) (ix4 b h s x)) (sumV (expV (scV q k sel)) (ix3 b h s))) *
        siluV z (ix3 b s ⟨64 * h.val + d.val, by omega⟩) := by
  have hc : ∀ hx hy, (⟨h.val * 64 + d.val, hx⟩ : Fin 512) = ⟨64 * h.val + d.val, hy⟩ := fun _ _ => Fin.ext (by dsimp only; omega)
  pointwise [refV, alongV]
  refine congrArg₂ (· * ·) (Finset.sum_congr rfl fun x _ => ?_) ?_
  · rw [hc]
  · rfl

/-- The reference's result at an index, where queries and keys are finite. -/
theorem refV_apply (q k v z : FVec 𝔽 S4x8192x512 .f32) (sel : FVec 𝔽 S4x8x32x8192 .f32) (hq : ∀ i, q i = (((q i).toReal : ℝ) : EReal))
    (hk : ∀ i, k i = (((k i).toReal : ℝ) : EReal)) (b : Fin 4) (s : Fin 8192) (h : Fin 8) (d : Fin 64) :
    refV q k v z sel (ix3 b s ⟨64 * h.val + d.val, by omega⟩)
      = spec (fun b h x s => sel (ix4 b h x s)) (fun b s e => q (ix3 b s e)) (fun b s e => k (ix3 b s e)) (fun b s e => v (ix3 b s e))
          (fun b s e => z (ix3 b s e)) b h s d := by
  rw [refV_read, siluV_apply]
  unfold spec attend
  congr 1
  refine Finset.sum_congr rfl fun x _ => ?_
  have e : (⟨x.val % 8192, Nat.mod_lt _ (by decide)⟩ : Fin 8192) = x := Fin.ext (Nat.mod_eq_of_lt x.isLt)
  simp only [val, e]
  rw [expV_apply, sumV_apply, topV_apply]
  simp only [expV_apply, topV_apply, scV_apply q k sel hq hk]

end Moba.Ref

end
-- ==== Proof.Moba.Same.lean ====
/-
  The two results are one: the kernel's array and the reference's, of the same arguments.
-/
module

public import proofs.«01_k».proof.Proof.Moba.Whole
public import proofs.«01_k».proof.Proof.Moba.RefValue

@[expose] public section

set_option maxRecDepth 16384

noncomputable section

namespace Moba

open Idealize.ShloMosaic Idealize.ShloMosaic.TcCoe

local notation "𝔽" => Idealize.ShloMosaic.Ideal

variable (m : (ℓ : Loc Cert.KernelIdeal.nD Cert.KernelIdeal.τ Cert.KernelIdeal.sig) → Buf (Elt 𝔽) ℓ)

theorem same (c : Dev Cert.KernelIdeal.nD) (hq : ∀ i, Blk.aq m c i = (((Blk.aq m c i).toReal : ℝ) : EReal))
    (hk : ∀ i, Blk.ak m c i = (((Blk.ak m c i).toReal : ℝ) : EReal)) :
    Ref.refV (Blk.aq m c) (Blk.ak m c) (Blk.av m c) (Blk.az m c) (Blk.asel m c) = RunI.whole m c := by
  funext i
  have h2 : (i 2).val < 512 := (i 2).isLt
  have e : i = ix3 (i 0) (i 1) (⟨64 * ((i 2).val / 64) + (i 2).val % 64, by omega⟩ : Fin 512) := by
    funext a; apply Fin.ext
    fin_cases a
    · rfl
    · rfl
    · show (i 2).val = 64 * ((i 2).val / 64) + (i 2).val % 64
      omega
  refine (congrArg _ e).trans ?_
  exact Ref.refV_apply _ _ _ _ _ hq hk (i 0) (i 1) ⟨(i 2).val / 64, by omega⟩ ⟨(i 2).val % 64, Nat.mod_lt _ (by decide)⟩

end Moba

end
-- ==== Proof.Moba.Finite.lean ====
/-
  The precondition read: all queries and all keys are finite.
-/
module

public import proofs.«01_k».proof.Pre_finite_scores
public import Idealize.ShloMosaic.PureOps.Ideal.Laws
public import Idealize.ShloMosaic.Lib.Pointwise
public import Idealize.ShloMosaic.Lib.ReduceAll

@[expose] public section

set_option maxRecDepth 16384

noncomputable section

namespace Moba.Fin

open Idealize.ShloMosaic
open Cert.Pre_finite_scores

local notation "𝔽" => Idealize.ShloMosaic.Ideal

/-- The predicate's side conditions. -/
theorem facts : Cert.Pre_finite_scores.Facts := ⟨by decide, by decide, by decide⟩

theorem pinf_eq : Ideal.ofBits .f32 0x7F800000#32 = ⊤ := by
  simp [Ideal.ofBits, Ideal.ieee]

/-- The test of one array. -/
def testV [Cert.Pre_finite_scores.Facts] (x : FVec 𝔽 S4x8192x512 .f32) : IVec S_ 1 :=
  Host.reduce IntOp.andi (cmpf .olt (Host.absf x) (broadcastInDim S4x8192x512 ![] Facts.bcast_S_S4x8192x512 (constant S_ .f32 0x7F800000#32)))
    (constantI S_ 1 1#1) Facts.reducesTo_S4x8192x512_S_d0_1_2 Facts.h_S_

theorem fn_eq [Cert.Pre_finite_scores.Facts] (q k v z : FVec 𝔽 S4x8192x512 .f32) (s : FVec 𝔽 S4x8x32x8192 .f32) :
    fn (F := 𝔽) q k v z s = andi (testV q) (testV k) := rfl

theorem of_test [Cert.Pre_finite_scores.Facts] (x : FVec 𝔽 S4x8192x512 .f32) (h : testV x ix0 = 1#1) (i : S4x8192x512.Idx) :
    x i = (((x i).toReal : ℝ) : EReal) := by
  haveI : Subsingleton S_.Idx := ⟨fun a b => funext fun k => k.elim0⟩
  have e := Host.reduce_andi_all _ _ _ _ _ h i
  pointwise at e
  have e' : (max (x i) (-(x i)) : EReal) < ⊤ := by
    rw [pinf_eq] at e
    by_contra hn
    rw [decide_eq_false (show ¬ (FloatOps.absf (x i) < (⊤ : EReal)) from hn)] at e
    exact absurd e (by decide)
  have h1 : x i ≠ ⊤ := fun hx => by rw [hx] at e'; simp at e'
  have h2 : x i ≠ ⊥ := fun hx => by rw [hx] at e'; simp at e'
  exact (EReal.coe_toReal h1 h2).symm

theorem finite [Cert.Pre_finite_scores.Facts] (q k v z : FVec 𝔽 S4x8192x512 .f32) (s : FVec 𝔽 S4x8x32x8192 .f32)
    (h : fn (F := 𝔽) q k v z s = fun _ => 1#1) :
    (∀ i, q i = (((q i).toReal : ℝ) : EReal)) ∧ ∀ i, k i = (((k i).toReal : ℝ) : EReal) := by
  have andi_one (a b : BitVec 1) : IntOp.andi a b = 1#1 ↔ a = 1#1 ∧ b = 1#1 := by revert a b; decide
  have e := congrFun h ix0
  rw [fn_eq] at e
  obtain ⟨e1, e2⟩ := (andi_one _ _).1 e
  exact ⟨of_test q e1, of_test k e2⟩

end Moba.Fin

end
-- ==== Proof.Proj.Columns.lean ====
/-
  The columns of the input projection: where in the weights the column of the result at a place comes from, and what it is
  multiplied by; and the row a column is multiplied with, which is the input's row normalised by its root mean square.
-/
module

public import Idealize.ShloMosaic.PureOps.Ideal
public import Idealize.ShloMosaic.PureOps.Ideal.Laws
public import Idealize.ShloMosaic.Lib.Pointwise

@[expose] public section

set_option maxRecDepth 16384

noncomputable section

namespace Proj

open Idealize.ShloMosaic

/-- Place `e` among 512 columns kept as eight heads of 64, two groups of four: its head's place when a head of the first
    group is followed by the head of the second that stands where it stands. -/
def head (e : ℕ) : ℕ := e / 64 % 2 * 256 + e / 128 * 64 + e % 64

/-- The weights' column the result's column `n` comes from. -/
def src (n : ℕ) : ℕ :=
  if n < 1024 then n
  else if n < 1536 then 1024 + head (n - 1024)
  else if n < 2048 then 1792 + head (n - 1536)
  else if n < 2560 then n + 256
  else if n < 4096 then n + 256
  else if n < 7168 then n + 256
  else n - 5632

/-- The queries' scale, and the gates'. -/
abbrev qscale : EReal := Ideal.ofBits .f32 0x3E38AA3B#32
abbrev gscale : EReal := Ideal.ofBits .f32 0x3F000000#32

/-- What the result's column `n` is multiplied by. -/
def scl (n : ℕ) : EReal :=
  if n < 1024 then 1
  else if n < 1536 then qscale
  else if n < 2048 then 1
  else if n < 2560 then qscale
  else if n < 4096 then 1
  else if n < 7168 then gscale
  else 1

theorem src_lt (n : ℕ) (h : n < 7424) : src n < 7424 := by
  unfold src head; split_ifs <;> omega

theorem scl_one (n : ℕ) (h : n < 1024 ∨ (1536 ≤ n ∧ n < 2048) ∨ (2560 ≤ n ∧ n < 4096) ∨ 7168 ≤ n) : scl n = 1 := by
  unfold scl; split_ifs <;> first | rfl | omega

theorem scl_q (n : ℕ) (h : (1024 ≤ n ∧ n < 1536) ∨ (2048 ≤ n ∧ n < 2560)) : scl n = qscale := by
  unfold scl; split_ifs <;> first | rfl | omega

theorem scl_g (n : ℕ) (h : 4096 ≤ n ∧ n < 7168) : scl n = gscale := by
  unfold scl; split_ifs <;> first | rfl | omega

theorem qscale_eq : qscale = (((0x38AA3B + 0x800000 : ℝ) / 2 ^ 26 : ℝ) : EReal) := by
  simp [qscale, Ideal.ofBits, Ideal.ieee, -EReal.coe_mul]; norm_num

theorem gscale_eq : gscale = ((1 / 2 : ℝ) : EReal) := by
  simp [gscale, Ideal.ofBits, Ideal.ieee, -EReal.coe_mul]; norm_num

theorem scl_real (n : ℕ) : ∃ r : ℝ, 0 ≤ r ∧ scl n = (r : EReal) := by
  unfold scl
  split_ifs
  all_goals first
    | exact ⟨1, by norm_num, rfl⟩
    | exact ⟨_, by positivity, qscale_eq⟩
    | exact ⟨_, by positivity, gscale_eq⟩

/-- A finite factor that is not negative goes out of a sum. -/
theorem sum_scl {ι : Type} [Fintype ι] (f : ι → EReal) (n : ℕ) : ∑ d, f d * scl n = (∑ d, f d) * scl n := by
  obtain ⟨r, hr, e⟩ := scl_real n
  rw [e]
  classical
  have key : ∀ t : Finset ι, ∑ d ∈ t, f d * (r : EReal) = (∑ d ∈ t, f d) * (r : EReal) := by
    intro t
    induction t using Finset.induction_on with
    | empty => simp
    | insert a t ha ih =>
      rw [Finset.sum_insert ha, Finset.sum_insert ha, ih]
      exact (EReal.right_distrib_of_nonneg_of_ne_top (by exact_mod_cast hr) (EReal.coe_ne_top r) _ _).symm
  exact key Finset.univ

/-- A row normalised by its root mean square, times the norm's weights. -/
def hrow (x g : Fin 1024 → EReal) (d : Fin 1024) : EReal :=
  x d * Ideal.rsqrt (Ideal.div (∑ e, x e * x e) (Ideal.ofBits .f32 0x44800000#32) + Ideal.ofBits .f32 0x358637BD#32) * g d

/-- One number of the result: the normalised row times a column of the weights, scaled. -/
def proj (x g : Fin 1024 → EReal) (w : Fin 1024 → Fin 7424 → EReal) (n : Fin 7424) : EReal :=
  (∑ d, hrow x g d * w d ⟨src n.val, src_lt _ n.isLt⟩) * scl n.val

end Proj

end
-- ==== Proof.Proj.Weights.lean ====
/-
  The projection kernel's operands at an index: the weights as the host arranges them, and the blocks the grid's points read.
-/
module

public import proofs.«01_k».proof.Proof.Proj.Columns
public import proofs.«01_k».proof.Proof.Gen.Kernel2Ideal
public import proofs.«01_k».proof.Proof.Gen.Kernel2Ideal.Value
public import Idealize.ShloMosaic.Lib.Pipeline.ValueKit

@[expose] public section

set_option maxRecDepth 16384

noncomputable section

namespace Proj.Ker

open Idealize.ShloMosaic Idealize.ShloMosaic.TcCoe
open Cert.Kernel2Ideal Cert.Kernel2Ideal.Gen

local notation "𝔽" => Idealize.ShloMosaic.Ideal

variable (m : (ℓ : Loc nD τ sig) → Buf (Elt 𝔽) ℓ)

/-- The launched arguments. -/
abbrev ax (c : Dev nD) : FVec 𝔽 S4x8192x1024 .f32 := m ((c : Thread nD τ).loc main_arg0)
abbrev ag (c : Dev nD) : FVec 𝔽 S2x1024 .f32 := m ((c : Thread nD τ).loc main_arg1)
abbrev aw (c : Dev nD) : FVec 𝔽 S2x1024x7424 .f32 := m ((c : Thread nD τ).loc main_arg2)

/-- Eight heads, a head of the first group followed by its fellow of the second. -/
def headsV (w : FVec 𝔽 S2x1024x512 .f32) : FVec 𝔽 S2x1024x512 .f32 :=
  shapeCast _ (transpose S2x1024x4x2x64 [0, 1, 3, 2, 4] (shapeCast S2x1024x2x4x64 w shapeCasts_S2x1024x512_S2x1024x2x4x64)
    transposes_S2x1024x2x4x64_S2x1024x4x2x64_0_1_3_2_4) shapeCasts_S2x1024x4x2x64_S2x1024x512

/-- The arranged weights as one expression of the launched ones. -/
def wV (w : FVec 𝔽 S2x1024x7424 .f32) : FVec 𝔽 S2x1024x7424 .bf16 :=
  truncf .bf16 (concatenate S2x1024x7424 2
    [⟨S2x1024x1024, extractStridedSlice S2x1024x1024 ![0, 0, 0] w slices_S2x1024x7424_S2x1024x1024_0_0_0⟩,
     ⟨S2x1024x512, mulf (headsV (extractStridedSlice S2x1024x512 ![0, 0, 1024] w slices_S2x1024x7424_S2x1024x512_0_0_1024))
        (broadcastInDim S2x1024x512 ![] bcast_S_S2x1024x512 (constant S_ .f32 0x3E38AA3B#32))⟩,
     ⟨S2x1024x512, headsV (extractStridedSlice S2x1024x512 ![0, 0, 1792] w slices_S2x1024x7424_S2x1024x512_0_0_1792)⟩,
     ⟨S2x1024x512, mulf (extractStridedSlice S2x1024x512 ![0, 0, 2304] w slices_S2x1024x7424_S2x1024x512_0_0_2304)
        (broadcastInDim S2x1024x512 ![] bcast_S_S2x1024x512 (constant S_ .f32 0x3E38AA3B#32))⟩,
     ⟨S2x1024x1536, extractStridedSlice S2x1024x1536 ![0, 0, 2816] w slices_S2x1024x7424_S2x1024x1536_0_0_2816⟩,
     ⟨S2x1024x3072, mulf (extractStridedSlice S2x1024x3072 ![0, 0, 4352] w slices_S2x1024x7424_S2x1024x3072_0_0_4352)
        (broadcastInDim S2x1024x3072 ![] bcast_S_S2x1024x3072 (constant S_ .f32 0x3F000000#32))⟩,
     ⟨S2x1024x256, extractStridedSlice S2x1024x256 ![0, 0, 1536] w slices_S2x1024x7424_S2x1024x256_0_0_1536⟩]
    concatenates_S2x1024x1024_S2x1024x512_S2x1024x512_S2x1024x512_S2x1024x1536_S2x1024x3072_S2x1024x256_S2x1024x7424_d2) bitsLt_bf16_f32

theorem V_w (c : Dev nD) : V m c main_v23 = wV (aw m c) := by
  show StableHlo.after hostOps0 _ _ = _
  after_results
  rfl

/-- The norm's weights as the host passes them. -/
def gV (g : FVec 𝔽 S2x1024 .f32) : FVec 𝔽 S1x1024 .f32 :=
  shapeCast _ (shapeCast S1024 (extractStridedSlice S1x1024 ![0, 0] g slices_S2x1024_S1x1024_0_0) shapeCasts_S1x1024_S1024) shapeCasts_S1024_S1x1024

theorem V_g (c : Dev nD) : V m c main_v2 = gV (ag m c) := by
  show StableHlo.after hostOps0 _ _ = _
  after_results
  rfl

theorem gV_apply (g : FVec 𝔽 S2x1024 .f32) (d : Fin 1024) : gV g (ix2 0 d) = g (ix2 0 d) := by
  pointwise [gV]

theorem headsV_apply (w : FVec 𝔽 S2x1024x512 .f32) (l : Fin 2) (d : Fin 1024) (e : Fin 512) :
    headsV w (ix3 l d e) = w (ix3 l d ⟨head e.val, by unfold head; omega⟩) := by
  pointwise [headsV]
  rfl

theorem wV_apply (w : FVec 𝔽 S2x1024x7424 .f32) (d : Fin 1024) (n : Fin 7424) :
    wV w (ix3 0 d n) = w (ix3 0 d ⟨src n.val, src_lt _ n.isLt⟩) * scl n.val := by
  pointwise [wV]
  by_cases h0 : n.val < 1024
  · rw [dif_pos h0]
    rw [scl_one _ (by omega), mul_one]
    refine congrArg (fun j => w (ix3 0 d j)) (Fin.ext ?_)
    dsimp only
    unfold src head; split_ifs <;> omega
  rw [dif_neg h0]
  by_cases h1 : n.val - 1024 < 512
  · rw [dif_pos h1]
    rw [scl_q _ (by omega)]
    refine congrArg (· * qscale) ((headsV_apply _ _ _ _).trans ?_)
    pointwise []
    refine congrArg (fun j => w (ix3 0 d j)) (Fin.ext ?_)
    dsimp only
    unfold src head; split_ifs <;> omega
  rw [dif_neg h1]
  by_cases h2 : n.val - 1024 - 512 < 512
  · rw [dif_pos h2]
    rw [scl_one _ (by omega), mul_one]
    refine (headsV_apply _ _ _ _).trans ?_
    pointwise []
    refine congrArg (fun j => w (ix3 0 d j)) (Fin.ext ?_)
    dsimp only
    unfold src head; split_ifs <;> omega
  rw [dif_neg h2]
  by_cases h3 : n.val - 1024 - 512 - 512 < 512
  · rw [dif_pos h3]
    rw [scl_q _ (by omega)]
    refine congrArg (· * qscale) (congrArg (fun j => w (ix3 0 d j)) (Fin.ext ?_))
    dsimp only
    unfold src head; split_ifs <;> omega
  rw [dif_neg h3]
  by_cases h4 : n.val - 1024 - 512 - 512 - 512 < 1536
  · rw [dif_pos h4]
    rw [scl_one _ (by omega), mul_one]
    refine congrArg (fun j => w (ix3 0 d j)) (Fin.ext ?_)
    dsimp only
    unfold src head; split_ifs <;> omega
  rw [dif_neg h4]
  by_cases h5 : n.val - 1024 - 512 - 512 - 512 - 1536 < 3072
  · rw [dif_pos h5]
    rw [scl_g _ (by omega)]
    refine congrArg (· * gscale) (congrArg (fun j => w (ix3 0 d j)) (Fin.ext ?_))
    dsimp only
    unfold src head; split_ifs <;> omega
  rw [dif_neg h5]
  rw [scl_one _ (by omega), mul_one]
  refine congrArg (fun j => w (ix3 0 d j)) (Fin.ext ?_)
  dsimp only
  unfold src head; split_ifs <;> omega

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0, 0] :=
  (by decide +kernel : ∀ t : Fin grid0.N, _)
theorem idx3 : ∀ t : Fin cfg0.N, win0_3.index t = ![(grid0.coords t 0).val, (grid0.coords t 1).val, 0] :=
  (by decide +kernel : ∀ t : Fin grid0.N, _)
theorem coord_lt : ∀ t : Fin cfg0.N, (grid0.coords t 0).val < 4 ∧ (grid0.coords t 1).val < 16 :=
  (by decide +kernel : ∀ t : Fin grid0.N, _)

section Block

variable (c : Dev nD) (t : Fin cfg0.N)

theorem x_block (b : Fin 4) (i : Fin 16) (hb : (grid0.coords t 0).val = b.val) (hi : (grid0.coords t 1).val = i.val)
    (r : Fin 512) (d : Fin 1024) :
    iblk m c 0 t (ix3 0 r d) = ax m c (ix3 b ⟨512 * i.val + r.val, by omega⟩ d) := by
  show V m c main_arg0 _ = _
  rw [V_main_arg0]
  refine congrArg (ax m c) ?_
  funext a; apply Fin.ext
  fin_cases a <;> blk_simp [idx0, hb, hi] <;> simp [ix3] <;> omega

theorem g_block (d : Fin 1024) : iblk m c 1 t (ix2 0 d) = ag m c (ix2 0 d) := by
  rw [← gV_apply (ag m c)]
  show V m c main_v2 _ = _
  rw [V_g]
  refine congrArg (gV _) ?_
  funext a; apply Fin.ext
  fin_cases a <;> blk_simp [idx1] <;> simp [ix2]

theorem w_block (d : Fin 1024) (n : Fin 7424) :
    iblk m c 2 t (ix3 0 d n) = aw m c (ix3 0 d ⟨src n.val, src_lt _ n.isLt⟩) * scl n.val := by
  rw [← wV_apply (aw m c)]
  show V m c main_v23 _ = _
  rw [V_w]
  refine congrArg (wV _) ?_
  funext a; apply Fin.ext
  fin_cases a <;> blk_simp [idx2] <;> simp [ix3]

end Block

end Proj.Ker

end
-- ==== Proof.Proj.Whole.lean ====
/-
  The projection kernel's whole result, of the launched arguments.
-/
module

public import proofs.«01_k».proof.Proof.Proj.Weights

@[expose] public section

set_option maxRecDepth 16384

noncomputable section

namespace Proj.Ker

open Idealize.ShloMosaic Idealize.ShloMosaic.TcCoe Idealize.SL.Sem
open Cert.Kernel2Ideal Cert.Kernel2Ideal.Gen

local notation "𝔽" => Idealize.ShloMosaic.Ideal

variable (m : (ℓ : Loc nD τ sig) → Buf (Elt 𝔽) ℓ) (ρ : Dev nD → PrngReg)

/-- The block's normalised rows. -/
theorem pay3_apply (x : FVec 𝔽 S1x512x1024 .f32) (g : FVec 𝔽 S1x1024 .f32) (r : Fin 512) (d : Fin 1024) :
    k0_pay3 (F := 𝔽) x g (ix2 r d) = hrow (fun e => x (ix3 0 r e)) (fun e => g (ix2 0 e)) d := by
  pointwise [k0_pay3, hrow]

/-- A tile of the product. -/
theorem pay1_apply (h : FVec 𝔽 S512x1024 .bf16) (w : FVec 𝔽 S1x1024x1024 .bf16) (r : Fin 512) (n : Fin 1024) :
    k0_pay1 (F := 𝔽) h w (ix3 0 r n) = ∑ d, h (ix2 r d) * w (ix3 0 d n) := by
  pointwise [k0_pay1]

theorem pay2_apply (h : FVec 𝔽 S512x1024 .bf16) (w : FVec 𝔽 S1x1024x256 .bf16) (r : Fin 512) (n : Fin 256) :
    k0_pay2 (F := 𝔽) h w (ix3 0 r n) = ∑ d, h (ix2 r d) * w (ix3 0 d n) := by
  pointwise [k0_pay2]

/-- The result array. -/
def whole (c : Dev nD) : S4x8192x7424.Idx → EReal := fun i =>
  proj (fun e => ax m c (ix3 (i 0) (i 1) e)) (fun e => ag m c (ix2 0 e)) (fun d n => aw m c (ix3 0 d n)) (i 2)

/-- A block's number, of the blocks it is computed from. -/
theorem blk_apply (c : Dev nD) (t : Fin cfg0.N) (r : Fin 512) (n : Fin 7424) (i : S4x8192x7424.Idx)
    (h0 : (i 0).val = (grid0.coords t 0).val) (h1 : (i 1).val = 512 * (grid0.coords t 1).val + r.val) (h2 : (i 2).val = n.val) :
    ∑ d, k0_pay3 (F := 𝔽) (iblk m c 0 t) (iblk m c 1 t) (ix2 r d) * iblk m c 2 t (ix3 0 d n) = whole m c i := by
  obtain ⟨l0, l1⟩ := coord_lt t
  have e0 : i 0 = (⟨_, l0⟩ : Fin 4) := Fin.ext h0
  have e1 : i 1 = (⟨512 * (grid0.coords t 1).val + r.val, by omega⟩ : Fin 8192) := Fin.ext h1
  have e2 : i 2 = n := Fin.ext h2
  unfold whole proj
  rw [e0, e1, e2, ← sum_scl]
  refine Finset.sum_congr rfl fun d _ => ?_
  rw [w_block, ← mul_assoc]
  refine congrArg (· * scl n.val) (congrArg (· * _) ((pay3_apply _ _ _ _).trans ?_))
  exact congrArg₂ (fun a b => hrow a b d) (funext fun e => x_block m c t ⟨_, l0⟩ ⟨_, l1⟩ rfl rfl r e) (funext fun e => g_block m c t e)

/-- A number of a tile is the buffer's where the tile stands. -/
theorem at_wide (p : S1x512x1024.Idx → EReal) (f : S1x512x7424.Idx → EReal) (z : S1x512x1024.Idx) (y : S1x512x7424.Idx) (o : ℕ)
    (h0 : (y 0).val = (z 0).val) (l0 : (z 0).val < 1) (h1 : (y 1).val = (z 1).val) (l1 : (z 1).val < 512) (h2 : (y 2).val = o + (z 2).val)
    (l2 : (z 2).val < 1024) (ho : o + 1024 ≤ 7424) (h : ∀ (r : Fin 512) (n : Fin 1024), p (ix3 0 r n) = f (ix3 0 r ⟨o + n.val, by omega⟩)) : p z = f y := by
  have ez : z = ix3 0 ⟨(z 1).val, l1⟩ ⟨(z 2).val, l2⟩ := by
    funext a; apply Fin.ext
    fin_cases a
    · show (z 0).val = 0
      omega
    · rfl
    · rfl
  have ey : (ix3 0 ⟨(z 1).val, l1⟩ ⟨o + (z 2).val, by omega⟩ : S1x512x7424.Idx) = y := by
    funext a; apply Fin.ext
    fin_cases a
    · show 0 = (y 0).val
      omega
    · exact h1.symm
    · exact h2.symm
  exact (congrArg p ez).trans ((h _ _).trans (congrArg f ey))

theorem at_last (p : S1x512x256.Idx → EReal) (f : S1x512x7424.Idx → EReal) (z : S1x512x256.Idx) (y : S1x512x7424.Idx) (o : ℕ)
    (h0 : (y 0).val = (z 0).val) (l0 : (z 0).val < 1) (h1 : (y 1).val = (z 1).val) (l1 : (z 1).val < 512) (h2 : (y 2).val = o + (z 2).val)
    (l2 : (z 2).val < 256) (ho : o + 256 ≤ 7424) (h : ∀ (r : Fin 512) (n : Fin 256), p (ix3 0 r n) = f (ix3 0 r ⟨o + n.val, by omega⟩)) : p z = f y := by
  have ez : z = ix3 0 ⟨(z 1).val, l1⟩ ⟨(z 2).val, l2⟩ := by
    funext a; apply Fin.ext
    fin_cases a
    · show (z 0).val = 0
      omega
    · rfl
    · rfl
  have ey : (ix3 0 ⟨(z 1).val, l1⟩ ⟨o + (z 2).val, by omega⟩ : S1x512x7424.Idx) = y := by
    funext a; apply Fin.ext
    fin_cases a
    · show 0 = (y 0).val
      omega
    · exact h1.symm
    · exact h2.symm
  exact (congrArg p ez).trans ((h _ _).trans (congrArg f ey))

/-- Eight tiles side by side, read at a place. -/
theorem canon_apply (f : Vec 𝔽 S1x512x7424 .bf16) (p0 : FVec 𝔽 S1x512x256 .bf16) (p1 p2 p3 p4 p5 p6 p7 : FVec 𝔽 S1x512x1024 .bf16)
    (h0 : ∀ (r : Fin 512) (n : Fin 256), p0 (ix3 0 r n) = f (ix3 0 r ⟨7168 + n.val, by omega⟩))
    (h1 : ∀ (r : Fin 512) (n : Fin 1024), p1 (ix3 0 r n) = f (ix3 0 r ⟨6144 + n.val, by omega⟩))
    (h2 : ∀ (r : Fin 512) (n : Fin 1024), p2 (ix3 0 r n) = f (ix3 0 r ⟨5120 + n.val, by omega⟩))
    (h3 : ∀ (r : Fin 512) (n : Fin 1024), p3 (ix3 0 r n) = f (ix3 0 r ⟨4096 + n.val, by omega⟩))
    (h4 : ∀ (r : Fin 512) (n : Fin 1024), p4 (ix3 0 r n) = f (ix3 0 r ⟨3072 + n.val, by omega⟩))
    (h5 : ∀ (r : Fin 512) (n : Fin 1024), p5 (ix3 0 r n) = f (ix3 0 r ⟨2048 + n.val, by omega⟩))
    (h6 : ∀ (r : Fin 512) (n : Fin 1024), p6 (ix3 0 r n) = f (ix3 0 r ⟨1024 + n.val, by omega⟩))
    (h7 : ∀ (r : Fin 512) (n : Fin 1024), p7 (ix3 0 r n) = f (ix3 0 r ⟨0 + n.val, by omega⟩))
    (y : S1x512x7424.Idx) : View.canon (Val := Elt 𝔽) (s := S1x512x7424) (e := .bf16)
      [⟨Rect.unit ![0, 0, 7168] ![1, 512, 256] inb_S1x512x7424_S1x512x256_0_0_7168, p0⟩,
       ⟨Rect.unit ![0, 0, 6144] ![1, 512, 1024] inb_S1x512x7424_S1x512x1024_0_0_6144, p1⟩,
       ⟨Rect.unit ![0, 0, 5120] ![1, 512, 1024] inb_S1x512x7424_S1x512x1024_0_0_5120, p2⟩,
       ⟨Rect.unit ![0, 0, 4096] ![1, 512, 1024] inb_S1x512x7424_S1x512x1024_0_0_4096, p3⟩,
       ⟨Rect.unit ![0, 0, 3072] ![1, 512, 1024] inb_S1x512x7424_S1x512x1024_0_0_3072, p4⟩,
       ⟨Rect.unit ![0, 0, 2048] ![1, 512, 1024] inb_S1x512x7424_S1x512x1024_0_0_2048, p5⟩,
       ⟨Rect.unit ![0, 0, 1024] ![1, 512, 1024] inb_S1x512x7424_S1x512x1024_0_0_1024, p6⟩,
       ⟨Rect.unit ![0, 0, 0] ![1, 512, 1024] inb_S1x512x7424_S1x512x1024_0_0_0, p7⟩] y = f y := by
  canon_tiles z hz using (View.cover_of_tiledBy _ ![1, 512, 256] (by sl_kernel_rfl) y)
  · exact at_last p0 f z y 7168 hz0 z0_lt (by omega) z1_lt (by omega) z2_lt (by decide) h0
  · exact at_wide p1 f z y 6144 hz0 z0_lt (by omega) z1_lt (by omega) z2_lt (by decide) h1
  · exact at_wide p2 f z y 5120 hz0 z0_lt (by omega) z1_lt (by omega) z2_lt (by decide) h2
  · exact at_wide p3 f z y 4096 hz0 z0_lt (by omega) z1_lt (by omega) z2_lt (by decide) h3
  · exact at_wide p4 f z y 3072 hz0 z0_lt (by omega) z1_lt (by omega) z2_lt (by decide) h4
  · exact at_wide p5 f z y 2048 hz0 z0_lt (by omega) z1_lt (by omega) z2_lt (by decide) h5
  · exact at_wide p6 f z y 1024 hz0 z0_lt (by omega) z1_lt (by omega) z2_lt (by decide) h6
  · exact at_wide p7 f z y 0 hz0 z0_lt (by omega) z1_lt (by omega) z2_lt (by decide) h7

theorem ld_wide (X : Vec 𝔽 S1x1024x7424 .bf16) (o : ℕ) (inb : _) (d : Fin 1024) (n : Fin 1024) (ho : o + n.val < 7424) :
    View.ld (Val := Elt 𝔽) X (Rect.unit ![0, 0, o] ![1, 1024, 1024] inb) (ix3 0 d n) = X (ix3 0 d ⟨o + n.val, ho⟩) := by
  refine congrArg X (funext fun a => Fin.ext ?_)
  fin_cases a <;> simp [ix3, Rect.unit]

theorem ld_last (X : Vec 𝔽 S1x1024x7424 .bf16) (o : ℕ) (inb : _) (d : Fin 1024) (n : Fin 256) (ho : o + n.val < 7424) :
    View.ld (Val := Elt 𝔽) X (Rect.unit ![0, 0, o] ![1, 1024, 256] inb) (ix3 0 d n) = X (ix3 0 d ⟨o + n.val, ho⟩) := by
  refine congrArg X (funext fun a => Fin.ext ?_)
  fin_cases a <;> simp [ix3, Rect.unit]

/-- A tile of the block a point writes, of the whole result. -/
theorem tile_wide (c : Dev nD) (t : Fin cfg0.N) (o : ℕ) (inb : _) (r : Fin 512) (n : Fin 1024) (ho : o + n.val < 7424) :
    k0_pay1 (F := 𝔽) (k0_pay3 (iblk m c 0 t) (iblk m c 1 t)) (View.ld (iblk m c 2 t) (Rect.unit ![0, 0, o] ![1, 1024, 1024] inb)) (ix3 0 r n)
      = whole m c (((View.whole main_v24).slice (win0_3.rect t)).emb (ix3 0 r ⟨o + n.val, ho⟩)) := by
  refine (pay1_apply _ _ r n).trans ((Finset.sum_congr rfl fun d _ => congrArg (_ * ·) (ld_wide _ o inb d n ho)).trans (blk_apply m c t r _ _ ?_ ?_ ?_))
  · blk_simp [idx3]
    rfl
  · blk_simp [idx3]
    exact congrArg (· + r.val) (Nat.mul_comm _ _)
  · blk_simp [idx3]

theorem tile_last (c : Dev nD) (t : Fin cfg0.N) (o : ℕ) (inb : _) (r : Fin 512) (n : Fin 256) (ho : o + n.val < 7424) :
    k0_pay2 (F := 𝔽) (k0_pay3 (iblk m c 0 t) (iblk m c 1 t)) (View.ld (iblk m c 2 t) (Rect.unit ![0, 0, o] ![1, 1024, 256] inb)) (ix3 0 r n)
      = whole m c (((View.whole main_v24).slice (win0_3.rect t)).emb (ix3 0 r ⟨o + n.val, ho⟩)) := by
  refine (pay2_apply _ _ r n).trans ((Finset.sum_congr rfl fun d _ => congrArg (_ * ·) (ld_last _ o inb d n ho)).trans (blk_apply m c t r _ _ ?_ ?_ ?_))
  · blk_simp [idx3]
    rfl
  · blk_simp [idx3]
    exact congrArg (· + r.val) (Nat.mul_comm _ _)
  · blk_simp [idx3]

theorem final (c : Dev nD) : (dats m 0 c).arrAt 3 cfg0.N = whole m c := by
  refine (dats m 0 c).arrAt_eq_of_covers 3 _ (by decide +kernel) fun t hf y => ?_
  blk_simp
  rw [after0_3]
  unfold outsAt0
  frame_out
  exact canon_apply (fun y => whole m c (((View.whole main_v24).slice (win0_3.rect t)).emb y)) _ _ _ _ _ _ _ _
    (fun r n => tile_last m c t 7168 _ r n (by omega))
    (fun r n => tile_wide m c t 6144 _ r n (by omega))
    (fun r n => tile_wide m c t 5120 _ r n (by omega))
    (fun r n => tile_wide m c t 4096 _ r n (by omega))
    (fun r n => tile_wide m c t 3072 _ r n (by omega))
    (fun r n => tile_wide m c t 2048 _ r n (by omega))
    (fun r n => tile_wide m c t 1024 _ r n (by omega))
    (fun r n => tile_wide m c t 0 _ r n (by omega)) y

/-- Every run leaves that array, and the arguments as they were. -/
theorem run : θ_run defs (onTc (τ := τ) (main (F := 𝔽))) ⟨m, fun _ => 0, ρ⟩ (fun r => ∀ c : Dev nD,
      r.2.mem ((c.tc : Thread nD τ).loc main_v24) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Cert.Kernel2Ideal.Value.run_blocks m ρ)

end Proj.Ker

end
-- ==== Proof.Proj.RefValue.lean ====
/-
  The projection's reference read at an index.
-/
module

public import proofs.«01_k».proof.Proof.Proj.Columns
public import proofs.«01_k».proof.Proof.Gen.Reference2Ideal
public import proofs.«01_k».proof.Proof.Gen.Reference2Ideal.Run
public import Idealize.ShloMosaic.Lib.Quiescent

@[expose] public section

set_option maxRecDepth 16384

noncomputable section

namespace Proj.Ref

open Idealize.ShloMosaic Idealize.ShloMosaic.TcCoe Idealize.SL.Sem
open Cert.Reference2Ideal Cert.Reference2Ideal.Gen

local notation "𝔽" => Idealize.ShloMosaic.Ideal

/-- The input's rows, normalised. -/
def hV (x : FVec 𝔽 S4x8192x1024 .f32) (g : FVec 𝔽 S2x1024 .f32) : FVec 𝔽 S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] g slices_S2x1024_S1x1024_0_0) shapeCasts_S1x1024_S1024)))

/-- The layer's weights. -/
def wV (w : FVec 𝔽 S2x1024x7424 .f32) : FVec 𝔽 S1024x7424 .f32 :=
  shapeCast _ (extractStridedSlice S1x1024x7424 ![0, 0, 0] w slices_S2x1024x7424_S1x1024x7424_0_0_0) shapeCasts_S1x1024x7424_S1024x7424

/-- Their product. -/
def dotV (x : FVec 𝔽 S4x8192x1024 .f32) (g : FVec 𝔽 S2x1024 .f32) (w : FVec 𝔽 S2x1024x7424 .f32) : FVec 𝔽 S4x8192x7424 .f32 :=
  Host.dotGeneral dot_S4x8192x1024_S1024x7424_S4x8192x7424_2_0_01_1_n_n none (hV x g) (wV w)

/-- Eight heads, a head of the first group followed by its fellow of the second. -/
def headsV (u : FVec 𝔽 S4x8192x512 .f32) : FVec 𝔽 S4x8192x512 .f32 :=
  shapeCast _ (transpose S4x8192x4x2x64 [0, 1, 3, 2, 4] (shapeCast S4x8192x2x4x64 u shapeCasts_S4x8192x512_S4x8192x2x4x64) transposes_S4x8192x2x4x64_S4x8192x4x2x64_0_1_3_2_4) shapeCasts_S4x8192x4x2x64_S4x8192x512

/-- The product's columns in the order they are read in, the queries and the gates scaled. -/
def outV (u : FVec 𝔽 S4x8192x7424 .f32) : FVec 𝔽 S4x8192x7424 .bf16 :=
  truncf .bf16 (concatenate S4x8192x7424 2 [⟨S4x8192x512, extractStridedSlice S4x8192x512 ![0, 0, 0] u slices_S4x8192x7424_S4x8192x512_0_0_0⟩,
     ⟨S4x8192x512, extractStridedSlice S4x8192x512 ![0, 0, 512] u slices_S4x8192x7424_S4x8192x512_0_0_512⟩,
     ⟨S4x8192x512, mulf (headsV (extractStridedSlice S4x8192x512 ![0, 0, 1024] u slices_S4x8192x7424_S4x8192x512_0_0_1024)) (broadcastInDim S4x8192x512 ![] bcast_S_S4x8192x512 (constant S_ .f32 0x3E38AA3B#32))⟩,
     ⟨S4x8192x512, headsV (extractStridedSlice S4x8192x512 ![0, 0, 1792] u slices_S4x8192x7424_S4x8192x512_0_0_1792)⟩,
     ⟨S4x8192x512, mulf (extractStridedSlice S4x8192x512 ![0, 0, 2304] u slices_S4x8192x7424_S4x8192x512_0_0_2304) (broadcastInDim S4x8192x512 ![] bcast_S_S4x8192x512 (constant S_ .f32 0x3E38AA3B#32))⟩,
     ⟨S4x8192x512, extractStridedSlice S4x8192x512 ![0, 0, 2816] u slices_S4x8192x7424_S4x8192x512_0_0_2816⟩,
     ⟨S4x8192x512, extractStridedSlice S4x8192x512 ![0, 0, 3328] u slices_S4x8192x7424_S4x8192x512_0_0_3328⟩,
     ⟨S4x8192x512, extractStridedSlice S4x8192x512 ![0, 0, 3840] u slices_S4x8192x7424_S4x8192x512_0_0_3840⟩,
     ⟨S4x8192x3072, mulf (extractStridedSlice S4x8192x3072 ![0, 0, 4352] u slices_S4x8192x7424_S4x8192x3072_0_0_4352) (broadcastInDim S4x8192x3072 ![] bcast_S_S4x8192x3072 (constant S_ .f32 0x3F000000#32))⟩,
     ⟨S4x8192x128, extractStridedSlice S4x8192x128 ![0, 0, 1536] u slices_S4x8192x7424_S4x8192x128_0_0_1536⟩,
     ⟨S4x8192x128, extractStridedSlice S4x8192x128 ![0, 0, 1664] u slices_S4x8192x7424_S4x8192x128_0_0_1664⟩] concatenates_S4x8192x512_S4x8192x512_S4x8192x512_S4x8192x512_S4x8192x512_S4x8192x512_S4x8192x512_S4x8192x512_S4x8192x3072_S4x8192x128_S4x8192x128_S4x8192x7424_d2) bitsLt_bf16_f32

theorem res_eq (m : (ℓ : Loc nD τ sig) → Buf (Elt 𝔽) ℓ) (c : Dev nD) : Cert.Reference2Ideal.Value.res_main_v42 m c
    = outV (dotV (m ((c.tc : Thread nD τ).loc main_arg0)) (m ((c.tc : Thread nD τ).loc main_arg1)) (m ((c.tc : Thread nD τ).loc main_arg2))) := rfl

theorem hV_apply (x : FVec 𝔽 S4x8192x1024 .f32) (g : FVec 𝔽 S2x1024 .f32) (b : Fin 4) (s : Fin 8192) (d : Fin 1024) :
    hV x g (ix3 b s d) = hrow (fun e => x (ix3 b s e)) (fun e => g (ix2 0 e)) d := by
  pointwise [hV, hrow]

theorem dotV_apply (x : FVec 𝔽 S4x8192x1024 .f32) (g : FVec 𝔽 S2x1024 .f32) (w : FVec 𝔽 S2x1024x7424 .f32) (b : Fin 4) (s : Fin 8192) (n : Fin 7424) :
    dotV x g w (ix3 b s n) = ∑ d, hrow (fun e => x (ix3 b s e)) (fun e => g (ix2 0 e)) d * w (ix3 0 d n) := by
  pointwise [dotV, wV]
  simp only [hV_apply]

theorem headsV_apply (w : FVec 𝔽 S4x8192x512 .f32) (l : Fin 4) (d : Fin 8192) (e : Fin 512) :
    headsV w (ix3 l d e) = w (ix3 l d ⟨head e.val, by unfold head; omega⟩) := by
  pointwise [headsV]
  rfl

set_option maxHeartbeats 2000000 in
theorem outV_apply (u : FVec 𝔽 S4x8192x7424 .f32) (b : Fin 4) (s : Fin 8192) (n : Fin 7424) :
    outV u (ix3 b s n) = u (ix3 b s ⟨src n.val, src_lt _ n.isLt⟩) * scl n.val := by
  pointwise [outV]
  by_cases h0 : n.val < 512
  · rw [dif_pos h0]
    rw [scl_one _ (by omega), mul_one]
    refine congrArg (fun j => u (ix3 b s j)) (Fin.ext ?_)
    dsimp only
    unfold src head; split_ifs <;> omega
  rw [dif_neg h0]
  by_cases h1 : n.val - 512 < 512
  · rw [dif_pos h1]
    rw [scl_one _ (by omega), mul_one]
    refine congrArg (fun j => u (ix3 b s j)) (Fin.ext ?_)
    dsimp only
    unfold src head; split_ifs <;> omega
  rw [dif_neg h1]
  by_cases h2 : n.val - 512 - 512 < 512
  · rw [dif_pos h2]
    rw [scl_q _ (by omega)]
    refine congrArg (· * qscale) ((headsV_apply _ _ _ _).trans ?_)
    pointwise []
    refine congrArg (fun j => u (ix3 b s j)) (Fin.ext ?_)
    dsimp only
    unfold src head; split_ifs <;> omega
  rw [dif_neg h2]
  by_cases h3 : n.val - 512 - 512 - 512 < 512
  · rw [dif_pos h3]
    rw [scl_one _ (by omega), mul_one]
    refine (headsV_apply _ _ _ _).trans ?_
    pointwise []
    refine congrArg (fun j => u (ix3 b s j)) (Fin.ext ?_)
    dsimp only
    unfold src head; split_ifs <;> omega
  rw [dif_neg h3]
  by_cases h4 : n.val - 512 - 512 - 512 - 512 < 512
  · rw [dif_pos h4]
    rw [scl_q _ (by omega)]
    refine congrArg (· * qscale) (congrArg (fun j => u (ix3 b s j)) (Fin.ext ?_))
    dsimp only
    unfold src head; split_ifs <;> omega
  rw [dif_neg h4]
  by_cases h5 : n.val - 512 - 512 - 512 - 512 - 512 < 512
  · rw [dif_pos h5]
    rw [scl_one _ (by omega), mul_one]
    refine congrArg (fun j => u (ix3 b s j)) (Fin.ext ?_)
    dsimp only
    unfold src head; split_ifs <;> omega
  rw [dif_neg h5]
  by_cases h6 : n.val - 512 - 512 - 512 - 512 - 512 - 512 < 512
  · rw [dif_pos h6]
    rw [scl_one _ (by omega), mul_one]
    refine congrArg (fun j => u (ix3 b s j)) (Fin.ext ?_)
    dsimp only
    unfold src head; split_ifs <;> omega
  rw [dif_neg h6]
  by_cases h7 : n.val - 512 - 512 - 512 - 512 - 512 - 512 - 512 < 512
  · rw [dif_pos h7]
    rw [scl_one _ (by omega), mul_one]
    refine congrArg (fun j => u (ix3 b s j)) (Fin.ext ?_)
    dsimp only
    unfold src head; split_ifs <;> omega
  rw [dif_neg h7]
  by_cases h8 : n.val - 512 - 512 - 512 - 512 - 512 - 512 - 512 - 512 < 3072
  · rw [dif_pos h8]
    rw [scl_g _ (by omega)]
    refine congrArg (· * gscale) (congrArg (fun j => u (ix3 b s j)) (Fin.ext ?_))
    dsimp only
    unfold src head; split_ifs <;> omega
  rw [dif_neg h8]
  by_cases h9 : n.val - 512 - 512 - 512 - 512 - 512 - 512 - 512 - 512 - 3072 < 128
  · rw [dif_pos h9]
    rw [scl_one _ (by omega), mul_one]
    refine congrArg (fun j => u (ix3 b s j)) (Fin.ext ?_)
    dsimp only
    unfold src head; split_ifs <;> omega
  rw [dif_neg h9]
  rw [scl_one _ (by omega), mul_one]
  refine congrArg (fun j => u (ix3 b s j)) (Fin.ext ?_)
  dsimp only
  unfold src head; split_ifs <;> omega

/-- The reference's result at an index. -/
theorem res_apply (x : FVec 𝔽 S4x8192x1024 .f32) (g : FVec 𝔽 S2x1024 .f32) (w : FVec 𝔽 S2x1024x7424 .f32) (b : Fin 4) (s : Fin 8192) (n : Fin 7424) :
    outV (dotV x g w) (ix3 b s n) = proj (fun e => x (ix3 b s e)) (fun e => g (ix2 0 e)) (fun d k => w (ix3 0 d k)) n := by
  rw [outV_apply, dotV_apply]
  rfl

/-- The reference runs to the end and leaves its arguments as they were. -/
theorem frame (m : (ℓ : Loc nD τ sig) → Buf (Elt 𝔽) ℓ) (ρ : Dev nD → PrngReg) :
    θ_run defs (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems rfl r.2⟩) (Cert.Reference2Ideal.Value.run m ρ)

end Proj.Ref

end
-- ==== Proof.lean ====
/-
  The certificate. The attention kernel: both its programs run to the end and leave their arguments alone, and so does the
  reference; the ideal program is the printed one with its named constants; and over the extended reals the kernel computes
  the reference's result wherever the queries and the keys are finite. The input projection: the same, its ideal program the
  printed one, and the two results equal with nothing asked of the arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Moba.RunRef
public import proofs.«01_k».proof.Proof.Moba.RunIdeal
public import proofs.«01_k».proof.Proof.Moba.RunBits
public import proofs.«01_k».proof.Proof.Moba.Same
public import proofs.«01_k».proof.Proof.Moba.Finite
public import proofs.«01_k».proof.Proof.Proj.Whole
public import proofs.«01_k».proof.Proof.Proj.RefValue

@[expose] public section

noncomputable section

namespace Cert.Proof

open Idealize.ShloMosaic Idealize.SL.Sem

/-- The two results are one array: the kernel's. -/
theorem algebraic : Cert.algebraic_KernelIdeal_ReferenceIdeal_pre_finite_scores (hKernelIdeal := Cert.KernelIdeal.Gen.facts)
    (hReferenceIdeal := Cert.ReferenceIdeal.Gen.facts) (hPre_finite_scores := Moba.Fin.facts) := by
  intro m ρ m' ρ' hpre hargs
  have hf := fun c => @Moba.Fin.finite Moba.Fin.facts _ _ _ _ _ (hpre c)
  refine ⟨Moba.RunI.whole m, Moba.RunI.run m ρ (fun c => (hf c).1) (fun c => (hf c).2), ?_⟩
  refine (θ_run _ _ _).mono (fun r h c => ⟨(h c).1.trans ?_, (h c).2⟩) (Cert.ReferenceIdeal.Value.run m' ρ')
  obtain ⟨e0, e1, e2, e3, e4⟩ := hargs c
  rw [Moba.Ref.res_eq, e0, e1, e2, e3, e4]
  exact Moba.same m c (hf c).1 (hf c).2

/-- The projection's two results are one array. -/
theorem algebraic2 : Cert.algebraic_Kernel2Ideal_Reference2Ideal (hKernel2Ideal := Cert.Kernel2Ideal.Gen.facts)
    (hReference2Ideal := Cert.Reference2Ideal.Gen.facts) := by
  intro m ρ m' ρ' _ hargs
  refine ⟨Proj.Ker.whole m, Proj.Ker.run m ρ, ?_⟩
  refine (θ_run _ _ _).mono (fun r h c => ⟨(h c).1.trans ?_, (h c).2⟩) (Cert.Reference2Ideal.Value.run m' ρ')
  obtain ⟨e0, e1, e2⟩ := hargs c
  rw [Proj.Ref.res_eq, e0, e1, e2]
  funext i
  rw [show i = ix3 (i 0) (i 1) (i 2) from funext fun a => by fin_cases a <;> rfl]
  exact Proj.Ref.res_apply _ _ _ _ _ _

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Moba.Fin.facts,
  fun m ρ _ => Moba.RunB.frame m ρ,
  fun m ρ _ => Moba.RunI.frame m ρ,
  fun m ρ _ => Moba.RunI.frame m ρ,
  fun m ρ _ => Moba.RunR.frame m ρ,
  fun m ρ _ => Moba.RunR.frame m ρ,
  fun m ρ _ => Cert.Kernel2.Gen.frame m ρ,
  fun m ρ _ => Cert.Kernel2Ideal.Gen.frame m ρ,
  fun m ρ _ => Proj.Ref.frame m ρ,
  ⟨IdealRules.named_const.statement Cert.KernelIdeal.κ "mask" .f32 0xF149F2CA#32 ⊥ rfl, IdealRules.named_const.statement Cert.KernelIdeal.κ "big" .f32 0x7149F2CA#32 ⊤ rfl⟩,
  algebraic,
  trivial,
  algebraic2⟩

end Cert.Proof

end
